-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite [hPre_finite : Cert.Pre_finite.Facts] (m : (ℓ : Loc Cert.MlaIdeal.nD Cert.MlaIdeal.τ Cert.MlaIdeal.sig) → Buf (Elt Ideal) ℓ) : Prop :=
  ∀ c : Dev Cert.MlaIdeal.nD,
    (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).1 = (fun _ => 1#1)
    ∧ (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite [hPre_finite : Cert.Pre_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))).1 = (fun _ => 1#1)
    ∧ (Cert.Pre_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))).2 = (fun _ => 1#1)

def Pre_MlaRef (m : (ℓ : Loc Cert.MlaRef.nD Cert.MlaRef.τ Cert.MlaRef.sig) → Buf (Elt Bits) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite [hMlaIdeal : Cert.MlaIdeal.Facts] [hPre_finite : Cert.Pre_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_finite [hMlaRefIdeal : Cert.MlaRefIdeal.Facts] [hPre_finite : Cert.Pre_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRef [hMlaRef : Cert.MlaRef.Facts] : Prop :=
  ∀ (m : (ℓ : Loc Cert.MlaRef.nD Cert.MlaRef.τ Cert.MlaRef.sig) → Buf (Elt Bits) ℓ) (g : Dev Cert.MlaRef.nD → PrngReg), Pre_MlaRef m →
    θ_run (Cert.MlaRef.defs (F := Bits)) (onTc (τ := Cert.MlaRef.τ) (Cert.MlaRef.main (F := Bits))) ⟨m, fun _ => 0, g⟩ (fun r => (∀ c : Dev Cert.MlaRef.nD,
      r.2.mem ((c.tc : Thread Cert.MlaRef.nD Cert.MlaRef.τ).loc Cert.MlaRef.main_arg0) = m ((c.tc : Thread Cert.MlaRef.nD Cert.MlaRef.τ).loc Cert.MlaRef.main_arg0)
      ∧ r.2.mem ((c.tc : Thread Cert.MlaRef.nD Cert.MlaRef.τ).loc Cert.MlaRef.main_arg1) = m ((c.tc : Thread Cert.MlaRef.nD Cert.MlaRef.τ).loc Cert.MlaRef.main_arg1)
      ∧ r.2.mem ((c.tc : Thread Cert.MlaRef.nD Cert.MlaRef.τ).loc Cert.MlaRef.main_arg2) = m ((c.tc : Thread Cert.MlaRef.nD Cert.MlaRef.τ).loc Cert.MlaRef.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8)
      ∧ r.2.mem ((c.tc : Thread Cert.Last.nD Cert.Last.τ).loc Cert.Last.main_arg9) = m ((c.tc : Thread Cert.Last.nD Cert.Last.τ).loc Cert.Last.main_arg9)
      ∧ r.2.mem ((c.tc : Thread Cert.Last.nD Cert.Last.τ).loc Cert.Last.main_arg10) = m ((c.tc : Thread Cert.Last.nD Cert.Last.τ).loc Cert.Last.main_arg10)
      ∧ r.2.mem ((c.tc : Thread Cert.Last.nD Cert.Last.τ).loc Cert.Last.main_arg11) = m ((c.tc : Thread Cert.Last.nD Cert.Last.τ).loc Cert.Last.main_arg11))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
      ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
      ∧ r.2.mem ((c.tc : Thread Cert.LastIdeal.nD Cert.LastIdeal.τ).loc Cert.LastIdeal.main_arg10) = m ((c.tc : Thread Cert.LastIdeal.nD Cert.LastIdeal.τ).loc Cert.LastIdeal.main_arg10)
      ∧ r.2.mem ((c.tc : Thread Cert.LastIdeal.nD Cert.LastIdeal.τ).loc Cert.LastIdeal.main_arg11) = m ((c.tc : Thread Cert.LastIdeal.nD Cert.LastIdeal.τ).loc Cert.LastIdeal.main_arg11))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8)
      ∧ r.2.mem ((c.tc : Thread Cert.LastRefIdeal.nD Cert.LastRefIdeal.τ).loc Cert.LastRefIdeal.main_arg9) = m ((c.tc : Thread Cert.LastRefIdeal.nD Cert.LastRefIdeal.τ).loc Cert.LastRefIdeal.main_arg9)
      ∧ r.2.mem ((c.tc : Thread Cert.LastRefIdeal.nD Cert.LastRefIdeal.τ).loc Cert.LastRefIdeal.main_arg10) = m ((c.tc : Thread Cert.LastRefIdeal.nD Cert.LastRefIdeal.τ).loc Cert.LastRefIdeal.main_arg10)
      ∧ r.2.mem ((c.tc : Thread Cert.LastRefIdeal.nD Cert.LastRefIdeal.τ).loc Cert.LastRefIdeal.main_arg11) = m ((c.tc : Thread Cert.LastRefIdeal.nD Cert.LastRefIdeal.τ).loc Cert.LastRefIdeal.main_arg11))
      ∧ r.2.sem = fun _ => 0)

def preserves_Mla_MlaIdeal : Prop :=
  IdealRules.named_const.Statement Cert.MlaIdeal.κ "mask" .f32 0xF149F2CA#32 ⊥

def preserves_MlaRef_MlaRefIdeal : Prop :=
  True

def algebraic_MlaIdeal_MlaRefIdeal_pre_finite [hMlaIdeal : Cert.MlaIdeal.Facts] [hMlaRefIdeal : Cert.MlaRefIdeal.Facts] [hPre_finite : Cert.Pre_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v13)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v13) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v30) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)
      ∧ m' ((c.tc : Thread Cert.LastRefIdeal.nD Cert.LastRefIdeal.τ).loc Cert.LastRefIdeal.main_arg8) = m ((c.tc : Thread Cert.LastIdeal.nD Cert.LastIdeal.τ).loc Cert.LastIdeal.main_arg8)
      ∧ m' ((c.tc : Thread Cert.LastRefIdeal.nD Cert.LastRefIdeal.τ).loc Cert.LastRefIdeal.main_arg9) = m ((c.tc : Thread Cert.LastIdeal.nD Cert.LastIdeal.τ).loc Cert.LastIdeal.main_arg9)
      ∧ m' ((c.tc : Thread Cert.LastRefIdeal.nD Cert.LastRefIdeal.τ).loc Cert.LastRefIdeal.main_arg10) = m ((c.tc : Thread Cert.LastIdeal.nD Cert.LastIdeal.τ).loc Cert.LastIdeal.main_arg10)
      ∧ m' ((c.tc : Thread Cert.LastRefIdeal.nD Cert.LastRefIdeal.τ).loc Cert.LastRefIdeal.main_arg11) = m ((c.tc : Thread Cert.LastIdeal.nD Cert.LastIdeal.τ).loc Cert.LastIdeal.main_arg11)) →
    ∃ (v0 : (c : Dev Cert.LastIdeal.nD) → Buf (Elt Ideal) ((c.tc : Thread Cert.LastIdeal.nD Cert.LastIdeal.τ).loc Cert.LastIdeal.main_v6)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v6) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
          ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
          ∧ r.2.mem ((c.tc : Thread Cert.LastIdeal.nD Cert.LastIdeal.τ).loc Cert.LastIdeal.main_arg10) = m ((c.tc : Thread Cert.LastIdeal.nD Cert.LastIdeal.τ).loc Cert.LastIdeal.main_arg10)
          ∧ r.2.mem ((c.tc : Thread Cert.LastIdeal.nD Cert.LastIdeal.τ).loc Cert.LastIdeal.main_arg11) = m ((c.tc : Thread Cert.LastIdeal.nD Cert.LastIdeal.τ).loc Cert.LastIdeal.main_arg11))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v53) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7)
          ∧ r.2.mem ((c.tc : Thread Cert.LastRefIdeal.nD Cert.LastRefIdeal.τ).loc Cert.LastRefIdeal.main_arg8) = m' ((c.tc : Thread Cert.LastRefIdeal.nD Cert.LastRefIdeal.τ).loc Cert.LastRefIdeal.main_arg8)
          ∧ r.2.mem ((c.tc : Thread Cert.LastRefIdeal.nD Cert.LastRefIdeal.τ).loc Cert.LastRefIdeal.main_arg9) = m' ((c.tc : Thread Cert.LastRefIdeal.nD Cert.LastRefIdeal.τ).loc Cert.LastRefIdeal.main_arg9)
          ∧ r.2.mem ((c.tc : Thread Cert.LastRefIdeal.nD Cert.LastRefIdeal.τ).loc Cert.LastRefIdeal.main_arg10) = m' ((c.tc : Thread Cert.LastRefIdeal.nD Cert.LastRefIdeal.τ).loc Cert.LastRefIdeal.main_arg10)
          ∧ r.2.mem ((c.tc : Thread Cert.LastRefIdeal.nD Cert.LastRefIdeal.τ).loc Cert.LastRefIdeal.main_arg11) = m' ((c.tc : Thread Cert.LastRefIdeal.nD Cert.LastRefIdeal.τ).loc Cert.LastRefIdeal.main_arg11))

def Claim : Prop :=
  ∃ (hMla : Cert.Mla.Facts) (hMlaIdeal : Cert.MlaIdeal.Facts) (hMlaRefIdeal : Cert.MlaRefIdeal.Facts) (hMlaRef : Cert.MlaRef.Facts) (hFfn : Cert.Ffn.Facts) (hFfnIdeal : Cert.FfnIdeal.Facts) (hFfnRefIdeal : Cert.FfnRefIdeal.Facts) (hLast : Cert.Last.Facts) (hLastIdeal : Cert.LastIdeal.Facts) (hLastRefIdeal : Cert.LastRefIdeal.Facts) (hPre_finite : Cert.Pre_finite.Facts),
    quiescent_Mla (hMla := hMla)
    ∧ quiescent_MlaIdeal (hMlaIdeal := hMlaIdeal)
    ∧ quiescent_MlaIdeal_pre_finite (hMlaIdeal := hMlaIdeal) (hPre_finite := hPre_finite)
    ∧ quiescent_MlaRefIdeal (hMlaRefIdeal := hMlaRefIdeal)
    ∧ quiescent_MlaRefIdeal_pre_finite (hMlaRefIdeal := hMlaRefIdeal) (hPre_finite := hPre_finite)
    ∧ quiescent_MlaRef (hMlaRef := hMlaRef)
    ∧ quiescent_Ffn (hFfn := hFfn)
    ∧ quiescent_FfnIdeal (hFfnIdeal := hFfnIdeal)
    ∧ quiescent_FfnRefIdeal (hFfnRefIdeal := hFfnRefIdeal)
    ∧ quiescent_Last (hLast := hLast)
    ∧ quiescent_LastIdeal (hLastIdeal := hLastIdeal)
    ∧ quiescent_LastRefIdeal (hLastRefIdeal := hLastRefIdeal)
    ∧ preserves_Mla_MlaIdeal
    ∧ preserves_MlaRef_MlaRefIdeal
    ∧ algebraic_MlaIdeal_MlaRefIdeal_pre_finite (hMlaIdeal := hMlaIdeal) (hMlaRefIdeal := hMlaRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Last_LastIdeal
    ∧ algebraic_LastIdeal_LastRefIdeal (hLastIdeal := hLastIdeal) (hLastRefIdeal := hLastRefIdeal)
-- ==== Pre_finite.lean ====
abbrev S2x6x8192x128 : Shape := ⟨4, ![2, 6, 8192, 128]⟩
abbrev S2x6x32x64x256 : Shape := ⟨5, ![2, 6, 32, 64, 256]⟩
abbrev S_ : Shape := ⟨0, ![]⟩

class Facts : Prop where
  bitsLt_bf16_f32 : FTy.bits .bf16 < FTy.bits .f32
  bcast_S_S2x6x8192x128 : S_.BroadcastsInDim S2x6x8192x128 (![] : Fin 0 → Fin S2x6x8192x128.rank)

variable [Facts]

def fn {F : FTy → Type} [FloatOps F] (main_arg0 : FVec F S2x6x8192x128 .bf16) (main_arg1 : FVec F S2x6x8192x128 .bf16) (main_arg2 : FVec F S2x6x32x64x256 .bf16) : IVec S2x6x8192x128 1 × IVec S2x6x8192x128 1 :=
  let main_v0 : FVec F S2x6x8192x128 .f32 := (extf .f32 · bitsLt_bf16_f32) main_arg0
  let main_v1 : FVec F S2x6x8192x128 .f32 := Host.absf main_v0
  let main_cst : FVec F S_ .f32 := constant S_ .f32 0x7F800000#32
  let main_v2 : FVec F S2x6x8192x128 .f32 := broadcastInDim S2x6x8192x128 ![] bcast_S_S2x6x8192x128 main_cst
  let main_v3 : IVec S2x6x8192x128 1 := cmpf .olt main_v1 main_v2
  let main_v4 : FVec F S2x6x8192x128 .f32 := (extf .f32 · bitsLt_bf16_f32) main_arg1
  let main_v5 : FVec F S2x6x8192x128 .f32 := Host.absf main_v4
  let main_cst_0 : FVec F S_ .f32 := constant S_ .f32 0x7F800000#32
  let main_v6 : FVec F S2x6x8192x128 .f32 := broadcastInDim S2x6x8192x128 ![] bcast_S_S2x6x8192x128 main_cst_0
  let main_v7 : IVec S2x6x8192x128 1 := cmpf .olt main_v5 main_v6
  (main_v3, main_v7)
-- ==== Mla.lean ====
abbrev S2x6x8192x128 : Shape := ⟨4, ![2, 6, 8192, 128]⟩
abbrev S2x6x32x64x256 : Shape := ⟨5, ![2, 6, 32, 64, 256]⟩
abbrev S2x6x32x16x256 : Shape := ⟨5, ![2, 6, 32, 16, 256]⟩
abbrev S_ : Shape := ⟨0, ![]⟩
abbrev S2x6x32x80x256 : Shape := ⟨5, ![2, 6, 32, 80, 256]⟩
abbrev S2x8192x384 : Shape := ⟨3, ![2, 8192, 384]⟩
abbrev S1x2x512x128 : Shape := ⟨4, ![1, 2, 512, 128]⟩
abbrev S1x2x8192x128 : Shape := ⟨4, ![1, 2, 8192, 128]⟩
abbrev S1x2x32x80x256 : Shape := ⟨5, ![1, 2, 32, 80, 256]⟩
abbrev S1x512x128 : Shape := ⟨3, ![1, 512, 128]⟩
abbrev S512x512 : Shape := ⟨2, ![512, 512]⟩
abbrev S1x512 : Shape := ⟨2, ![1, 512]⟩
abbrev S80x512 : Shape := ⟨2, ![80, 512]⟩
abbrev S1x1x512x128 : Shape := ⟨4, ![1, 1, 512, 128]⟩
abbrev S512x128 : Shape := ⟨2, ![512, 128]⟩
abbrev S1x1x1x80x256 : Shape := ⟨5, ![1, 1, 1, 80, 256]⟩
abbrev S80x256 : Shape := ⟨2, ![80, 256]⟩
abbrev S512 : Shape := ⟨1, ![512]⟩
abbrev S256x512 : Shape := ⟨2, ![256, 512]⟩
abbrev S64x512 : Shape := ⟨2, ![64, 512]⟩
abbrev S128x512 : Shape := ⟨2, ![128, 512]⟩

abbrev nBuf : Space → Nat
  | .hbm => 24
  | .vmem => 10
  | .smem => 0
  | _ => 0

abbrev bufTy : (tb : Table) → Fin (tcTables nBuf tb) → BufTy
  | .hbm, ⟨0, _⟩ => ⟨S2x6x8192x128, .bf16⟩
  | .hbm, ⟨1, _⟩ => ⟨S2x6x8192x128, .bf16⟩
  | .hbm, ⟨2, _⟩ => ⟨S2x6x32x64x256, .bf16⟩
  | .hbm, ⟨3, _⟩ => ⟨S2x6x32x16x256, .i32⟩
  | .hbm, ⟨4, _⟩ => ⟨S_, .i32⟩
  | .hbm, ⟨5, _⟩ => ⟨S2x6x32x16x256, .i32⟩
  | .hbm, ⟨6, _⟩ => ⟨S2x6x32x16x256, .i1⟩
  | .hbm, ⟨7, _⟩ => ⟨S_, .f32⟩
  | .hbm, ⟨8, _⟩ => ⟨S_, .f32⟩
  | .hbm, ⟨9, _⟩ => ⟨S2x6x32x16x256, .f32⟩
  | .hbm, ⟨10, _⟩ => ⟨S2x6x32x16x256, .f32⟩
  | .hbm, ⟨11, _⟩ => ⟨S2x6x32x16x256, .f32⟩
  | .hbm, ⟨12, _⟩ => ⟨S2x6x32x16x256, .bf16⟩
  | .hbm, ⟨13, _⟩ => ⟨S2x6x8192x128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x6x8192x128, .f32⟩
  | .hbm, ⟨20, _⟩ => ⟨S2x6x8192x128, .f32⟩
  | .hbm, ⟨21, _⟩ => ⟨S2x6x8192x128, .bf16⟩
  | .hbm, ⟨22, _⟩ => ⟨S2x6x32x80x256, .bf16⟩
  | .hbm, ⟨23, _⟩ => ⟨S2x8192x384, .bf16⟩
  | .local _ .vmem, ⟨0, _⟩ => ⟨S1x2x512x128, .bf16⟩
  | .local _ .vmem, ⟨1, _⟩ => ⟨S1x2x512x128, .bf16⟩
  | .local _ .vmem, ⟨2, _⟩ => ⟨S1x2x8192x128, .bf16⟩
  | .local _ .vmem, ⟨3, _⟩ => ⟨S1x2x8192x128, .bf16⟩
  | .local _ .vmem, ⟨4, _⟩ => ⟨S1x2x32x80x256, .bf16⟩
  | .local _ .vmem, ⟨5, _⟩ => ⟨S1x2x32x80x256, .bf16⟩
  | .local _ .vmem, ⟨6, _⟩ => ⟨S1x512x128, .bf16⟩
  | .local _ .vmem, ⟨7, _⟩ => ⟨S1x512x128, .bf16⟩
  | .local _ .vmem, ⟨8, _⟩ => ⟨S512x512, .f32⟩
  | .local _ .vmem, ⟨9, _⟩ => ⟨S512x512, .f32⟩
  | _, _ => ⟨S2x6x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 3, 16], ![false, false, false]⟩

def k0_mult1 (i : grid0.Coords) : BitVec 32 :=
  let arg2 : BitVec 32 := BitVec.ofNat 32 (i 2).val
  let c512_i32 : BitVec 32 := 512#32
  let v4 : BitVec 32 := Scalar.muli arg2 c512_i32
  v4
def k0_off1 (i : grid0.Coords) : Fin 4 → Nat :=
  let c0 : Index := 0#32
  let c1 : Index := 1#32
  let arg2 : BitVec 32 := BitVec.ofNat 32 (i 2).val
  let c512_i32 : BitVec 32 := 512#32
  let v4 : BitVec 32 := Scalar.muli arg2 c512_i32
  let v5 : BitVec 32 := v4
  let v6 : Index := Scalar.indexCast v5
  let c0_3 : Index := 0#32
  ![0, 1, v6.toNat, 0]
def k0_mult2 (i : grid0.Coords) : BitVec 32 :=
  let arg2 : BitVec 32 := BitVec.ofNat 32 (i 2).val
  let c512_i32_11 : BitVec 32 := 512#32
  let v15 : BitVec 32 := Scalar.muli arg2 c512_i32_11
  v15
def k0_off2 (i : grid0.Coords) : Fin 4 → Nat :=
  let c0_12 : Index := 0#32
  let c0_13 : Index := 0#32
  let arg2 : BitVec 32 := BitVec.ofNat 32 (i 2).val
  let c512_i32_11 : BitVec 32 := 512#32
  let v15 : BitVec 32 := Scalar.muli arg2 c512_i32_11
  let v16 : BitVec 32 := v15
  let v17 : Index := Scalar.indexCast v16
  let c0_14 : Index := 0#32
  ![0, 0, v17.toNat, 0]
def k0_off3 (i : grid0.Coords) (c0_i32 : BitVec 32) : Fin 5 → Nat :=
  let c0_25 : Index := 0#32
  let c1_26 : Index := 1#32
  let arg2 : BitVec 32 := BitVec.ofNat 32 (i 2).val
  let c2_i32 : BitVec 32 := 2#32
  let v32 : BitVec 32 := Scalar.muli arg2 c2_i32
  let v33 : BitVec 32 := Scalar.addi v32 c0_i32
  let v34 : Index := Scalar.indexCast v33
  let c0_27 : Index := 0#32
  let c0_28 : Index := 0#32
  ![0, 1, v34.toNat, 0, 0]
def k0_mult3 : BitVec 32 :=
  let c0_i32_38 : BitVec 32 := 0#32
  let c512_i32_39 : BitVec 32 := 512#32
  let v61 : BitVec 32 := Scalar.muli c0_i32_38 c512_i32_39
  v61
def k0_off4 : Fin 4 → Nat :=
  let c0_40 : Index := 0#32
  let c1_41 : Index := 1#32
  let c0_i32_38 : BitVec 32 := 0#32
  let c512_i32_39 : BitVec 32 := 512#32
  let v61 : BitVec 32 := Scalar.muli c0_i32_38 c512_i32_39
  let v62 : BitVec 32 := v61
  let v63 : Index := Scalar.indexCast v62
  let c0_42 : Index := 0#32
  ![0, 1, v63.toNat, 0]
def k0_off5 (i : grid0.Coords) (c0_i32_54 : BitVec 32) : Fin 5 → Nat :=
  let c0_55 : Index := 0#32
  let c0_56 : Index := 0#32
  let arg2 : BitVec 32 := BitVec.ofNat 32 (i 2).val
  let c2_i32_53 : BitVec 32 := 2#32
  let v78 : BitVec 32 := Scalar.muli arg2 c2_i32_53
  let v79 : BitVec 32 := Scalar.addi v78 c0_i32_54
  let v80 : Index := Scalar.indexCast v79
  let c0_57 : Index := 0#32
  let c0_58 : Index := 0#32
  ![0, 0, v80.toNat, 0, 0]
@[reducible] def k0_t1_loop (i : grid0.Coords) : Scf.Loop 32 :=
  let c0_i32_77 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let v125 : BitVec 32 := Scalar.subi v124 c0_i32_77
  let c1_i32_78 : BitVec 32 := 1#32
  let v127 : BitVec 32 := Scalar.divsi v125 c1_i32_78
  let v128 : BitVec 32 := Scalar.muli v127 c1_i32_78
  let v129 : BitVec 32 := Scalar.addi c0_i32_77 v128
  let c1_i32_79 : BitVec 32 := 1#32
  ⟨c0_i32_77, v129, c1_i32_79⟩
def k0_mult4 (i : grid0.Coords) (k0_t1 : Fin (k0_t1_loop i).trips) : BitVec 32 :=
  let c0_i32_76 : BitVec 32 := 0#32
  let c4_i32_111 : BitVec 32 := 4#32
  let c0_i32_77 : BitVec 32 := 0#32
  let c1_i32_79 : BitVec 32 := 1#32
  let arg9 : BitVec 32 := Scf.iv c0_i32_77 c1_i32_79 k0_t1
  let v204 : BitVec 32 := Scalar.muli c4_i32_111 arg9
  let v205 : BitVec 32 := Scalar.addi c0_i32_76 v204
  let c0_i32_112 : BitVec 32 := 0#32
  let v206 : BitVec 32 := Scalar.addi v205 c0_i32_112
  let c512_i32_113 : BitVec 32 := 512#32
  let v207 : BitVec 32 := Scalar.muli v206 c512_i32_113
  v207
def k0_off6 (i : grid0.Coords) (k0_t1 : Fin (k0_t1_loop i).trips) (c0_i32_112 : BitVec 32) : Fin 4 → Nat :=
  let c0_114 : Index := 0#32
  let c0_115 : Index := 0#32
  let c0_i32_76 : BitVec 32 := 0#32
  let c4_i32_111 : BitVec 32 := 4#32
  let c0_i32_77 : BitVec 32 := 0#32
  let c1_i32_79 : BitVec 32 := 1#32
  let arg9 : BitVec 32 := Scf.iv c0_i32_77 c1_i32_79 k0_t1
  let v204 : BitVec 32 := Scalar.muli c4_i32_111 arg9
  let v205 : BitVec 32 := Scalar.addi c0_i32_76 v204
  let v206 : BitVec 32 := Scalar.addi v205 c0_i32_112
  let c512_i32_113 : BitVec 32 := 512#32
  let v207 : BitVec 32 := Scalar.muli v206 c512_i32_113
  let v208 : BitVec 32 := v207
  let v209 : Index := Scalar.indexCast v208
  let c0_116 : Index := 0#32
  ![0, 0, v209.toNat, 0]
def k0_off7 (i : grid0.Coords) (k0_t1 : Fin (k0_t1_loop i).trips) (c0_i32_112 : BitVec 32) (c0_i32_127 : BitVec 32) : Fin 5 → Nat :=
  let c0_128 : Index := 0#32
  let c1_129 : Index := 1#32
  let c0_i32_76 : BitVec 32 := 0#32
  let c4_i32_111 : BitVec 32 := 4#32
  let c0_i32_77 : BitVec 32 := 0#32
  let c1_i32_79 : BitVec 32 := 1#32
  let arg9 : BitVec 32 := Scf.iv c0_i32_77 c1_i32_79 k0_t1
  let v204 : BitVec 32 := Scalar.muli c4_i32_111 arg9
  let v205 : BitVec 32 := Scalar.addi c0_i32_76 v204
  let v206 : BitVec 32 := Scalar.addi v205 c0_i32_112
  let c2_i32_126 : BitVec 32 := 2#32
  let v219 : BitVec 32 := Scalar.muli v206 c2_i32_126
  let v220 : BitVec 32 := Scalar.addi v219 c0_i32_127
  let v221 : Index := Scalar.indexCast v220
  let c0_130 : Index := 0#32
  let c0_131 : Index := 0#32
  ![0, 1, v221.toNat, 0, 0]
def k0_mult5 (i : grid0.Coords) (k0_t1 : Fin (k0_t1_loop i).trips) : BitVec 32 :=
  let c0_i32_76 : BitVec 32 := 0#32
  let c4_i32_111 : BitVec 32 := 4#32
  let c0_i32_77 : BitVec 32 := 0#32
  let c1_i32_79 : BitVec 32 := 1#32
  let arg9 : BitVec 32 := Scf.iv c0_i32_77 c1_i32_79 k0_t1
  let v204 : BitVec 32 := Scalar.muli c4_i32_111 arg9
  let v205 : BitVec 32 := Scalar.addi c0_i32_76 v204
  let c0_i32_112 : BitVec 32 := 0#32
  let v206 : BitVec 32 := Scalar.addi v205 c0_i32_112
  let c1_i32_142 : BitVec 32 := 1#32
  let v248 : BitVec 32 := Scalar.addi v206 c1_i32_142
  let c512_i32_143 : BitVec 32 := 512#32
  let v249 : BitVec 32 := Scalar.muli v248 c512_i32_143
  v249
def k0_off8 (i : grid0.Coords) (k0_t1 : Fin (k0_t1_loop i).trips) (c0_i32_112 : BitVec 32) : Fin 4 → Nat :=
  let c0_144 : Index := 0#32
  let c1_145 : Index := 1#32
  let c0_i32_76 : BitVec 32 := 0#32
  let c4_i32_111 : BitVec 32 := 4#32
  let c0_i32_77 : BitVec 32 := 0#32
  let c1_i32_79 : BitVec 32 := 1#32
  let arg9 : BitVec 32 := Scf.iv c0_i32_77 c1_i32_79 k0_t1
  let v204 : BitVec 32 := Scalar.muli c4_i32_111 arg9
  let v205 : BitVec 32 := Scalar.addi c0_i32_76 v204
  let v206 : BitVec 32 := Scalar.addi v205 c0_i32_112
  let c1_i32_142 : BitVec 32 := 1#32
  let v248 : BitVec 32 := Scalar.addi v206 c1_i32_142
  let c512_i32_143 : BitVec 32 := 512#32
  let v249 : BitVec 32 := Scalar.muli v248 c512_i32_143
  let v250 : BitVec 32 := v249
  let v251 : Index := Scalar.indexCast v250
  let c0_146 : Index := 0#32
  ![0, 1, v251.toNat, 0]
def k0_off9 (i : grid0.Coords) (k0_t1 : Fin (k0_t1_loop i).trips) (c0_i32_112 : BitVec 32) (c0_i32_157 : BitVec 32) : Fin 5 → Nat :=
  let c0_158 : Index := 0#32
  let c0_159 : Index := 0#32
  let c0_i32_76 : BitVec 32 := 0#32
  let c4_i32_111 : BitVec 32 := 4#32
  let c0_i32_77 : BitVec 32 := 0#32
  let c1_i32_79 : BitVec 32 := 1#32
  let arg9 : BitVec 32 := Scf.iv c0_i32_77 c1_i32_79 k0_t1
  let v204 : BitVec 32 := Scalar.muli c4_i32_111 arg9
  let v205 : BitVec 32 := Scalar.addi c0_i32_76 v204
  let v206 : BitVec 32 := Scalar.addi v205 c0_i32_112
  let c2_i32_156 : BitVec 32 := 2#32
  let v261 : BitVec 32 := Scalar.muli v206 c2_i32_156
  let v262 : BitVec 32 := Scalar.addi v261 c0_i32_157
  let v263 : Index := Scalar.indexCast v262
  let c0_160 : Index := 0#32
  let c0_161 : Index := 0#32
  ![0, 0, v263.toNat, 0, 0]
def k0_mult6 (i : grid0.Coords) (k0_t1 : Fin (k0_t1_loop i).trips) : BitVec 32 :=
  let c0_i32_76 : BitVec 32 := 0#32
  let c4_i32_172 : BitVec 32 := 4#32
  let c0_i32_77 : BitVec 32 := 0#32
  let c1_i32_79 : BitVec 32 := 1#32
  let arg9 : BitVec 32 := Scf.iv c0_i32_77 c1_i32_79 k0_t1
  let v290 : BitVec 32 := Scalar.muli c4_i32_172 arg9
  let v291 : BitVec 32 := Scalar.addi c0_i32_76 v290
  let c1_i32_173 : BitVec 32 := 1#32
  let v292 : BitVec 32 := Scalar.addi v291 c1_i32_173
  let c512_i32_174 : BitVec 32 := 512#32
  let v293 : BitVec 32 := Scalar.muli v292 c512_i32_174
  v293
def k0_mult7 (i : grid0.Coords) (k0_t1 : Fin (k0_t1_loop i).trips) : BitVec 32 :=
  let c0_i32_76 : BitVec 32 := 0#32
  let c4_i32_172 : BitVec 32 := 4#32
  let c0_i32_77 : BitVec 32 := 0#32
  let c1_i32_79 : BitVec 32 := 1#32
  let arg9 : BitVec 32 := Scf.iv c0_i32_77 c1_i32_79 k0_t1
  let v290 : BitVec 32 := Scalar.muli c4_i32_172 arg9
  let v291 : BitVec 32 := Scalar.addi c0_i32_76 v290
  let c1_i32_173 : BitVec 32 := 1#32
  let v292 : BitVec 32 := Scalar.addi v291 c1_i32_173
  let c1_i32_203 : BitVec 32 := 1#32
  let v334 : BitVec 32 := Scalar.addi v292 c1_i32_203
  let c512_i32_204 : BitVec 32 := 512#32
  let v335 : BitVec 32 := Scalar.muli v334 c512_i32_204
  v335
def k0_mult8 (i : grid0.Coords) (k0_t1 : Fin (k0_t1_loop i).trips) : BitVec 32 :=
  let c0_i32_76 : BitVec 32 := 0#32
  let c4_i32_233 : BitVec 32 := 4#32
  let c0_i32_77 : BitVec 32 := 0#32
  let c1_i32_79 : BitVec 32 := 1#32
  let arg9 : BitVec 32 := Scf.iv c0_i32_77 c1_i32_79 k0_t1
  let v376 : BitVec 32 := Scalar.muli c4_i32_233 arg9
  let v377 : BitVec 32 := Scalar.addi c0_i32_76 v376
  let c2_i32_234 : BitVec 32 := 2#32
  let v378 : BitVec 32 := Scalar.addi v377 c2_i32_234
  let c512_i32_235 : BitVec 32 := 512#32
  let v379 : BitVec 32 := Scalar.muli v378 c512_i32_235
  v379
def k0_mult9 (i : grid0.Coords) (k0_t1 : Fin (k0_t1_loop i).trips) : BitVec 32 :=
  let c0_i32_76 : BitVec 32 := 0#32
  let c4_i32_233 : BitVec 32 := 4#32
  let c0_i32_77 : BitVec 32 := 0#32
  let c1_i32_79 : BitVec 32 := 1#32
  let arg9 : BitVec 32 := Scf.iv c0_i32_77 c1_i32_79 k0_t1
  let v376 : BitVec 32 := Scalar.muli c4_i32_233 arg9
  let v377 : BitVec 32 := Scalar.addi c0_i32_76 v376
  let c2_i32_234 : BitVec 32 := 2#32
  let v378 : BitVec 32 := Scalar.addi v377 c2_i32_234
  let c1_i32_264 : BitVec 32 := 1#32
  let v420 : BitVec 32 := Scalar.addi v378 c1_i32_264
  let c512_i32_265 : BitVec 32 := 512#32
  let v421 : BitVec 32 := Scalar.muli v420 c512_i32_265
  v421
def k0_mult10 (i : grid0.Coords) (k0_t1 : Fin (k0_t1_loop i).trips) : BitVec 32 :=
  let c0_i32_76 : BitVec 32 := 0#32
  let c4_i32_294 : BitVec 32 := 4#32
  let c0_i32_77 : BitVec 32 := 0#32
  let c1_i32_79 : BitVec 32 := 1#32
  let arg9 : BitVec 32 := Scf.iv c0_i32_77 c1_i32_79 k0_t1
  let v462 : BitVec 32 := Scalar.muli c4_i32_294 arg9
  let v463 : BitVec 32 := Scalar.addi c0_i32_76 v462
  let c3_i32 : BitVec 32 := 3#32
  let v464 : BitVec 32 := Scalar.addi v463 c3_i32
  let c512_i32_295 : BitVec 32 := 512#32
  let v465 : BitVec 32 := Scalar.muli v464 c512_i32_295
  v465
def k0_mult11 (i : grid0.Coords) (k0_t1 : Fin (k0_t1_loop i).trips) : BitVec 32 :=
  let c0_i32_76 : BitVec 32 := 0#32
  let c4_i32_294 : BitVec 32 := 4#32
  let c0_i32_77 : BitVec 32 := 0#32
  let c1_i32_79 : BitVec 32 := 1#32
  let arg9 : BitVec 32 := Scf.iv c0_i32_77 c1_i32_79 k0_t1
  let v462 : BitVec 32 := Scalar.muli c4_i32_294 arg9
  let v463 : BitVec 32 := Scalar.addi c0_i32_76 v462
  let c3_i32 : BitVec 32 := 3#32
  let v464 : BitVec 32 := Scalar.addi v463 c3_i32
  let c1_i32_324 : BitVec 32 := 1#32
  let v506 : BitVec 32 := Scalar.addi v464 c1_i32_324
  let c512_i32_325 : BitVec 32 := 512#32
  let v507 : BitVec 32 := Scalar.muli v506 c512_i32_325
  v507
@[reducible] def k0_t2_loop (i : grid0.Coords) : Scf.Loop 32 :=
  let c0_i32_77 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let v125 : BitVec 32 := Scalar.subi v124 c0_i32_77
  let c1_i32_78 : BitVec 32 := 1#32
  let v127 : BitVec 32 := Scalar.divsi v125 c1_i32_78
  let v128 : BitVec 32 := Scalar.muli v127 c1_i32_78
  let v129 : BitVec 32 := Scalar.addi c0_i32_77 v128
  let v126 : BitVec 32 := Scalar.addi c0_i32_77 v125
  let c1_i32_80 : BitVec 32 := 1#32
  ⟨v129, v126, c1_i32_80⟩
def k0_mult12 (i : grid0.Coords) (k0_t2 : Fin (k0_t2_loop i).trips) : BitVec 32 :=
  let c0_i32_76 : BitVec 32 := 0#32
  let c4_i32_111 : BitVec 32 := 4#32
  let c0_i32_77 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let v125 : BitVec 32 := Scalar.subi v124 c0_i32_77
  let c1_i32_78 : BitVec 32 := 1#32
  let v127 : BitVec 32 := Scalar.divsi v125 c1_i32_78
  let v128 : BitVec 32 := Scalar.muli v127 c1_i32_78
  let v129 : BitVec 32 := Scalar.addi c0_i32_77 v128
  let c1_i32_80 : BitVec 32 := 1#32
  let arg9 : BitVec 32 := Scf.iv v129 c1_i32_80 k0_t2
  let v204 : BitVec 32 := Scalar.muli c4_i32_111 arg9
  let v205 : BitVec 32 := Scalar.addi c0_i32_76 v204
  let c0_i32_112 : BitVec 32 := 0#32
  let v206 : BitVec 32 := Scalar.addi v205 c0_i32_112
  let c512_i32_113 : BitVec 32 := 512#32
  let v207 : BitVec 32 := Scalar.muli v206 c512_i32_113
  v207
def k0_off10 (i : grid0.Coords) (k0_t2 : Fin (k0_t2_loop i).trips) (c0_i32_112 : BitVec 32) : Fin 4 → Nat :=
  let c0_114 : Index := 0#32
  let c0_115 : Index := 0#32
  let c0_i32_76 : BitVec 32 := 0#32
  let c4_i32_111 : BitVec 32 := 4#32
  let c0_i32_77 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let v125 : BitVec 32 := Scalar.subi v124 c0_i32_77
  let c1_i32_78 : BitVec 32 := 1#32
  let v127 : BitVec 32 := Scalar.divsi v125 c1_i32_78
  let v128 : BitVec 32 := Scalar.muli v127 c1_i32_78
  let v129 : BitVec 32 := Scalar.addi c0_i32_77 v128
  let c1_i32_80 : BitVec 32 := 1#32
  let arg9 : BitVec 32 := Scf.iv v129 c1_i32_80 k0_t2
  let v204 : BitVec 32 := Scalar.muli c4_i32_111 arg9
  let v205 : BitVec 32 := Scalar.addi c0_i32_76 v204
  let v206 : BitVec 32 := Scalar.addi v205 c0_i32_112
  let c512_i32_113 : BitVec 32 := 512#32
  let v207 : BitVec 32 := Scalar.muli v206 c512_i32_113
  let v208 : BitVec 32 := v207
  let v209 : Index := Scalar.indexCast v208
  let c0_116 : Index := 0#32
  ![0, 0, v209.toNat, 0]
def k0_off11 (i : grid0.Coords) (k0_t2 : Fin (k0_t2_loop i).trips) (c0_i32_112 : BitVec 32) (c0_i32_127 : BitVec 32) : Fin 5 → Nat :=
  let c0_128 : Index := 0#32
  let c1_129 : Index := 1#32
  let c0_i32_76 : BitVec 32 := 0#32
  let c4_i32_111 : BitVec 32 := 4#32
  let c0_i32_77 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let v125 : BitVec 32 := Scalar.subi v124 c0_i32_77
  let c1_i32_78 : BitVec 32 := 1#32
  let v127 : BitVec 32 := Scalar.divsi v125 c1_i32_78
  let v128 : BitVec 32 := Scalar.muli v127 c1_i32_78
  let v129 : BitVec 32 := Scalar.addi c0_i32_77 v128
  let c1_i32_80 : BitVec 32 := 1#32
  let arg9 : BitVec 32 := Scf.iv v129 c1_i32_80 k0_t2
  let v204 : BitVec 32 := Scalar.muli c4_i32_111 arg9
  let v205 : BitVec 32 := Scalar.addi c0_i32_76 v204
  let v206 : BitVec 32 := Scalar.addi v205 c0_i32_112
  let c2_i32_126 : BitVec 32 := 2#32
  let v219 : BitVec 32 := Scalar.muli v206 c2_i32_126
  let v220 : BitVec 32 := Scalar.addi v219 c0_i32_127
  let v221 : Index := Scalar.indexCast v220
  let c0_130 : Index := 0#32
  let c0_131 : Index := 0#32
  ![0, 1, v221.toNat, 0, 0]
def k0_mult13 (i : grid0.Coords) (k0_t2 : Fin (k0_t2_loop i).trips) : BitVec 32 :=
  let c0_i32_76 : BitVec 32 := 0#32
  let c4_i32_111 : BitVec 32 := 4#32
  let c0_i32_77 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let v125 : BitVec 32 := Scalar.subi v124 c0_i32_77
  let c1_i32_78 : BitVec 32 := 1#32
  let v127 : BitVec 32 := Scalar.divsi v125 c1_i32_78
  let v128 : BitVec 32 := Scalar.muli v127 c1_i32_78
  let v129 : BitVec 32 := Scalar.addi c0_i32_77 v128
  let c1_i32_80 : BitVec 32 := 1#32
  let arg9 : BitVec 32 := Scf.iv v129 c1_i32_80 k0_t2
  let v204 : BitVec 32 := Scalar.muli c4_i32_111 arg9
  let v205 : BitVec 32 := Scalar.addi c0_i32_76 v204
  let c0_i32_112 : BitVec 32 := 0#32
  let v206 : BitVec 32 := Scalar.addi v205 c0_i32_112
  let c1_i32_142 : BitVec 32 := 1#32
  let v248 : BitVec 32 := Scalar.addi v206 c1_i32_142
  let c512_i32_143 : BitVec 32 := 512#32
  let v249 : BitVec 32 := Scalar.muli v248 c512_i32_143
  v249
def k0_off12 (i : grid0.Coords) (k0_t2 : Fin (k0_t2_loop i).trips) (c0_i32_112 : BitVec 32) : Fin 4 → Nat :=
  let c0_144 : Index := 0#32
  let c1_145 : Index := 1#32
  let c0_i32_76 : BitVec 32 := 0#32
  let c4_i32_111 : BitVec 32 := 4#32
  let c0_i32_77 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let v125 : BitVec 32 := Scalar.subi v124 c0_i32_77
  let c1_i32_78 : BitVec 32 := 1#32
  let v127 : BitVec 32 := Scalar.divsi v125 c1_i32_78
  let v128 : BitVec 32 := Scalar.muli v127 c1_i32_78
  let v129 : BitVec 32 := Scalar.addi c0_i32_77 v128
  let c1_i32_80 : BitVec 32 := 1#32
  let arg9 : BitVec 32 := Scf.iv v129 c1_i32_80 k0_t2
  let v204 : BitVec 32 := Scalar.muli c4_i32_111 arg9
  let v205 : BitVec 32 := Scalar.addi c0_i32_76 v204
  let v206 : BitVec 32 := Scalar.addi v205 c0_i32_112
  let c1_i32_142 : BitVec 32 := 1#32
  let v248 : BitVec 32 := Scalar.addi v206 c1_i32_142
  let c512_i32_143 : BitVec 32 := 512#32
  let v249 : BitVec 32 := Scalar.muli v248 c512_i32_143
  let v250 : BitVec 32 := v249
  let v251 : Index := Scalar.indexCast v250
  let c0_146 : Index := 0#32
  ![0, 1, v251.toNat, 0]
def k0_off13 (i : grid0.Coords) (k0_t2 : Fin (k0_t2_loop i).trips) (c0_i32_112 : BitVec 32) (c0_i32_157 : BitVec 32) : Fin 5 → Nat :=
  let c0_158 : Index := 0#32
  let c0_159 : Index := 0#32
  let c0_i32_76 : BitVec 32 := 0#32
  let c4_i32_111 : BitVec 32 := 4#32
  let c0_i32_77 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let v125 : BitVec 32 := Scalar.subi v124 c0_i32_77
  let c1_i32_78 : BitVec 32 := 1#32
  let v127 : BitVec 32 := Scalar.divsi v125 c1_i32_78
  let v128 : BitVec 32 := Scalar.muli v127 c1_i32_78
  let v129 : BitVec 32 := Scalar.addi c0_i32_77 v128
  let c1_i32_80 : BitVec 32 := 1#32
  let arg9 : BitVec 32 := Scf.iv v129 c1_i32_80 k0_t2
  let v204 : BitVec 32 := Scalar.muli c4_i32_111 arg9
  let v205 : BitVec 32 := Scalar.addi c0_i32_76 v204
  let v206 : BitVec 32 := Scalar.addi v205 c0_i32_112
  let c2_i32_156 : BitVec 32 := 2#32
  let v261 : BitVec 32 := Scalar.muli v206 c2_i32_156
  let v262 : BitVec 32 := Scalar.addi v261 c0_i32_157
  let v263 : Index := Scalar.indexCast v262
  let c0_160 : Index := 0#32
  let c0_161 : Index := 0#32
  ![0, 0, v263.toNat, 0, 0]
def k0_mult14 (i : grid0.Coords) (k0_t2 : Fin (k0_t2_loop i).trips) : BitVec 32 :=
  let c0_i32_76 : BitVec 32 := 0#32
  let c4_i32_172 : BitVec 32 := 4#32
  let c0_i32_77 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let v125 : BitVec 32 := Scalar.subi v124 c0_i32_77
  let c1_i32_78 : BitVec 32 := 1#32
  let v127 : BitVec 32 := Scalar.divsi v125 c1_i32_78
  let v128 : BitVec 32 := Scalar.muli v127 c1_i32_78
  let v129 : BitVec 32 := Scalar.addi c0_i32_77 v128
  let c1_i32_80 : BitVec 32 := 1#32
  let arg9 : BitVec 32 := Scf.iv v129 c1_i32_80 k0_t2
  let v290 : BitVec 32 := Scalar.muli c4_i32_172 arg9
  let v291 : BitVec 32 := Scalar.addi c0_i32_76 v290
  let c1_i32_173 : BitVec 32 := 1#32
  let v292 : BitVec 32 := Scalar.addi v291 c1_i32_173
  let c512_i32_174 : BitVec 32 := 512#32
  let v293 : BitVec 32 := Scalar.muli v292 c512_i32_174
  v293
def k0_mult15 (i : grid0.Coords) (k0_t2 : Fin (k0_t2_loop i).trips) : BitVec 32 :=
  let c0_i32_76 : BitVec 32 := 0#32
  let c4_i32_172 : BitVec 32 := 4#32
  let c0_i32_77 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let v125 : BitVec 32 := Scalar.subi v124 c0_i32_77
  let c1_i32_78 : BitVec 32 := 1#32
  let v127 : BitVec 32 := Scalar.divsi v125 c1_i32_78
  let v128 : BitVec 32 := Scalar.muli v127 c1_i32_78
  let v129 : BitVec 32 := Scalar.addi c0_i32_77 v128
  let c1_i32_80 : BitVec 32 := 1#32
  let arg9 : BitVec 32 := Scf.iv v129 c1_i32_80 k0_t2
  let v290 : BitVec 32 := Scalar.muli c4_i32_172 arg9
  let v291 : BitVec 32 := Scalar.addi c0_i32_76 v290
  let c1_i32_173 : BitVec 32 := 1#32
  let v292 : BitVec 32 := Scalar.addi v291 c1_i32_173
  let c1_i32_203 : BitVec 32 := 1#32
  let v334 : BitVec 32 := Scalar.addi v292 c1_i32_203
  let c512_i32_204 : BitVec 32 := 512#32
  let v335 : BitVec 32 := Scalar.muli v334 c512_i32_204
  v335
def k0_mult16 (i : grid0.Coords) (k0_t2 : Fin (k0_t2_loop i).trips) : BitVec 32 :=
  let c0_i32_76 : BitVec 32 := 0#32
  let c4_i32_233 : BitVec 32 := 4#32
  let c0_i32_77 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let v125 : BitVec 32 := Scalar.subi v124 c0_i32_77
  let c1_i32_78 : BitVec 32 := 1#32
  let v127 : BitVec 32 := Scalar.divsi v125 c1_i32_78
  let v128 : BitVec 32 := Scalar.muli v127 c1_i32_78
  let v129 : BitVec 32 := Scalar.addi c0_i32_77 v128
  let c1_i32_80 : BitVec 32 := 1#32
  let arg9 : BitVec 32 := Scf.iv v129 c1_i32_80 k0_t2
  let v376 : BitVec 32 := Scalar.muli c4_i32_233 arg9
  let v377 : BitVec 32 := Scalar.addi c0_i32_76 v376
  let c2_i32_234 : BitVec 32 := 2#32
  let v378 : BitVec 32 := Scalar.addi v377 c2_i32_234
  let c512_i32_235 : BitVec 32 := 512#32
  let v379 : BitVec 32 := Scalar.muli v378 c512_i32_235
  v379
def k0_mult17 (i : grid0.Coords) (k0_t2 : Fin (k0_t2_loop i).trips) : BitVec 32 :=
  let c0_i32_76 : BitVec 32 := 0#32
  let c4_i32_233 : BitVec 32 := 4#32
  let c0_i32_77 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let v125 : BitVec 32 := Scalar.subi v124 c0_i32_77
  let c1_i32_78 : BitVec 32 := 1#32
  let v127 : BitVec 32 := Scalar.divsi v125 c1_i32_78
  let v128 : BitVec 32 := Scalar.muli v127 c1_i32_78
  let v129 : BitVec 32 := Scalar.addi c0_i32_77 v128
  let c1_i32_80 : BitVec 32 := 1#32
  let arg9 : BitVec 32 := Scf.iv v129 c1_i32_80 k0_t2
  let v376 : BitVec 32 := Scalar.muli c4_i32_233 arg9
  let v377 : BitVec 32 := Scalar.addi c0_i32_76 v376
  let c2_i32_234 : BitVec 32 := 2#32
  let v378 : BitVec 32 := Scalar.addi v377 c2_i32_234
  let c1_i32_264 : BitVec 32 := 1#32
  let v420 : BitVec 32 := Scalar.addi v378 c1_i32_264
  let c512_i32_265 : BitVec 32 := 512#32
  let v421 : BitVec 32 := Scalar.muli v420 c512_i32_265
  v421
def k0_mult18 (i : grid0.Coords) (k0_t2 : Fin (k0_t2_loop i).trips) : BitVec 32 :=
  let c0_i32_76 : BitVec 32 := 0#32
  let c4_i32_294 : BitVec 32 := 4#32
  let c0_i32_77 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let v125 : BitVec 32 := Scalar.subi v124 c0_i32_77
  let c1_i32_78 : BitVec 32 := 1#32
  let v127 : BitVec 32 := Scalar.divsi v125 c1_i32_78
  let v128 : BitVec 32 := Scalar.muli v127 c1_i32_78
  let v129 : BitVec 32 := Scalar.addi c0_i32_77 v128
  let c1_i32_80 : BitVec 32 := 1#32
  let arg9 : BitVec 32 := Scf.iv v129 c1_i32_80 k0_t2
  let v462 : BitVec 32 := Scalar.muli c4_i32_294 arg9
  let v463 : BitVec 32 := Scalar.addi c0_i32_76 v462
  let c3_i32 : BitVec 32 := 3#32
  let v464 : BitVec 32 := Scalar.addi v463 c3_i32
  let c512_i32_295 : BitVec 32 := 512#32
  let v465 : BitVec 32 := Scalar.muli v464 c512_i32_295
  v465
def k0_mult19 (i : grid0.Coords) (k0_t2 : Fin (k0_t2_loop i).trips) : BitVec 32 :=
  let c0_i32_76 : BitVec 32 := 0#32
  let c4_i32_294 : BitVec 32 := 4#32
  let c0_i32_77 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let v125 : BitVec 32 := Scalar.subi v124 c0_i32_77
  let c1_i32_78 : BitVec 32 := 1#32
  let v127 : BitVec 32 := Scalar.divsi v125 c1_i32_78
  let v128 : BitVec 32 := Scalar.muli v127 c1_i32_78
  let v129 : BitVec 32 := Scalar.addi c0_i32_77 v128
  let c1_i32_80 : BitVec 32 := 1#32
  let arg9 : BitVec 32 := Scf.iv v129 c1_i32_80 k0_t2
  let v462 : BitVec 32 := Scalar.muli c4_i32_294 arg9
  let v463 : BitVec 32 := Scalar.addi c0_i32_76 v462
  let c3_i32 : BitVec 32 := 3#32
  let v464 : BitVec 32 := Scalar.addi v463 c3_i32
  let c1_i32_324 : BitVec 32 := 1#32
  let v506 : BitVec 32 := Scalar.addi v464 c1_i32_324
  let c512_i32_325 : BitVec 32 := 512#32
  let v507 : BitVec 32 := Scalar.muli v506 c512_i32_325
  v507
@[reducible] def k0_t3_loop (i : grid0.Coords) : Scf.Loop 32 :=
  let c0_i32_90 : BitVec 32 := 0#32
  let arg2 : BitVec 32 := BitVec.ofNat 32 (i 2).val
  let c0_i32_82 : BitVec 32 := 0#32
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let v152 : BitVec 32 := Scalar.subi v151 c0_i32_90
  let c1_i32_91 : BitVec 32 := 1#32
  let v154 : BitVec 32 := Scalar.divsi v152 c1_i32_91
  let v155 : BitVec 32 := Scalar.muli v154 c1_i32_91
  let v156 : BitVec 32 := Scalar.addi c0_i32_90 v155
  let c1_i32_92 : BitVec 32 := 1#32
  ⟨c0_i32_90, v156, c1_i32_92⟩
def k0_mult20 (i : grid0.Coords) (k0_t3 : Fin (k0_t3_loop i).trips) : BitVec 32 :=
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let c2_i32_111 : BitVec 32 := 2#32
  let c0_i32_90 : BitVec 32 := 0#32
  let c1_i32_92 : BitVec 32 := 1#32
  let arg9 : BitVec 32 := Scf.iv c0_i32_90 c1_i32_92 k0_t3
  let v204 : BitVec 32 := Scalar.muli c2_i32_111 arg9
  let v205 : BitVec 32 := Scalar.addi v133 v204
  let c0_i32_112 : BitVec 32 := 0#32
  let v206 : BitVec 32 := Scalar.addi v205 c0_i32_112
  let c512_i32_113 : BitVec 32 := 512#32
  let v207 : BitVec 32 := Scalar.muli v206 c512_i32_113
  v207
def k0_off14 (i : grid0.Coords) (k0_t3 : Fin (k0_t3_loop i).trips) (c0_i32_112 : BitVec 32) : Fin 4 → Nat :=
  let c0_114 : Index := 0#32
  let c0_115 : Index := 0#32
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let c2_i32_111 : BitVec 32 := 2#32
  let c0_i32_90 : BitVec 32 := 0#32
  let c1_i32_92 : BitVec 32 := 1#32
  let arg9 : BitVec 32 := Scf.iv c0_i32_90 c1_i32_92 k0_t3
  let v204 : BitVec 32 := Scalar.muli c2_i32_111 arg9
  let v205 : BitVec 32 := Scalar.addi v133 v204
  let v206 : BitVec 32 := Scalar.addi v205 c0_i32_112
  let c512_i32_113 : BitVec 32 := 512#32
  let v207 : BitVec 32 := Scalar.muli v206 c512_i32_113
  let v208 : BitVec 32 := v207
  let v209 : Index := Scalar.indexCast v208
  let c0_116 : Index := 0#32
  ![0, 0, v209.toNat, 0]
def k0_off15 (i : grid0.Coords) (k0_t3 : Fin (k0_t3_loop i).trips) (c0_i32_112 : BitVec 32) (c0_i32_127 : BitVec 32) : Fin 5 → Nat :=
  let c0_128 : Index := 0#32
  let c1_129 : Index := 1#32
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let c2_i32_111 : BitVec 32 := 2#32
  let c0_i32_90 : BitVec 32 := 0#32
  let c1_i32_92 : BitVec 32 := 1#32
  let arg9 : BitVec 32 := Scf.iv c0_i32_90 c1_i32_92 k0_t3
  let v204 : BitVec 32 := Scalar.muli c2_i32_111 arg9
  let v205 : BitVec 32 := Scalar.addi v133 v204
  let v206 : BitVec 32 := Scalar.addi v205 c0_i32_112
  let c2_i32_126 : BitVec 32 := 2#32
  let v219 : BitVec 32 := Scalar.muli v206 c2_i32_126
  let v220 : BitVec 32 := Scalar.addi v219 c0_i32_127
  let v221 : Index := Scalar.indexCast v220
  let c0_130 : Index := 0#32
  let c0_131 : Index := 0#32
  ![0, 1, v221.toNat, 0, 0]
def k0_mult21 (i : grid0.Coords) (k0_t3 : Fin (k0_t3_loop i).trips) : BitVec 32 :=
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let c2_i32_111 : BitVec 32 := 2#32
  let c0_i32_90 : BitVec 32 := 0#32
  let c1_i32_92 : BitVec 32 := 1#32
  let arg9 : BitVec 32 := Scf.iv c0_i32_90 c1_i32_92 k0_t3
  let v204 : BitVec 32 := Scalar.muli c2_i32_111 arg9
  let v205 : BitVec 32 := Scalar.addi v133 v204
  let c0_i32_112 : BitVec 32 := 0#32
  let v206 : BitVec 32 := Scalar.addi v205 c0_i32_112
  let c1_i32_142 : BitVec 32 := 1#32
  let v248 : BitVec 32 := Scalar.addi v206 c1_i32_142
  let c512_i32_143 : BitVec 32 := 512#32
  let v249 : BitVec 32 := Scalar.muli v248 c512_i32_143
  v249
def k0_off16 (i : grid0.Coords) (k0_t3 : Fin (k0_t3_loop i).trips) (c0_i32_112 : BitVec 32) : Fin 4 → Nat :=
  let c0_144 : Index := 0#32
  let c1_145 : Index := 1#32
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let c2_i32_111 : BitVec 32 := 2#32
  let c0_i32_90 : BitVec 32 := 0#32
  let c1_i32_92 : BitVec 32 := 1#32
  let arg9 : BitVec 32 := Scf.iv c0_i32_90 c1_i32_92 k0_t3
  let v204 : BitVec 32 := Scalar.muli c2_i32_111 arg9
  let v205 : BitVec 32 := Scalar.addi v133 v204
  let v206 : BitVec 32 := Scalar.addi v205 c0_i32_112
  let c1_i32_142 : BitVec 32 := 1#32
  let v248 : BitVec 32 := Scalar.addi v206 c1_i32_142
  let c512_i32_143 : BitVec 32 := 512#32
  let v249 : BitVec 32 := Scalar.muli v248 c512_i32_143
  let v250 : BitVec 32 := v249
  let v251 : Index := Scalar.indexCast v250
  let c0_146 : Index := 0#32
  ![0, 1, v251.toNat, 0]
def k0_off17 (i : grid0.Coords) (k0_t3 : Fin (k0_t3_loop i).trips) (c0_i32_112 : BitVec 32) (c0_i32_157 : BitVec 32) : Fin 5 → Nat :=
  let c0_158 : Index := 0#32
  let c0_159 : Index := 0#32
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let c2_i32_111 : BitVec 32 := 2#32
  let c0_i32_90 : BitVec 32 := 0#32
  let c1_i32_92 : BitVec 32 := 1#32
  let arg9 : BitVec 32 := Scf.iv c0_i32_90 c1_i32_92 k0_t3
  let v204 : BitVec 32 := Scalar.muli c2_i32_111 arg9
  let v205 : BitVec 32 := Scalar.addi v133 v204
  let v206 : BitVec 32 := Scalar.addi v205 c0_i32_112
  let c2_i32_156 : BitVec 32 := 2#32
  let v261 : BitVec 32 := Scalar.muli v206 c2_i32_156
  let v262 : BitVec 32 := Scalar.addi v261 c0_i32_157
  let v263 : Index := Scalar.indexCast v262
  let c0_160 : Index := 0#32
  let c0_161 : Index := 0#32
  ![0, 0, v263.toNat, 0, 0]
def k0_mult22 (i : grid0.Coords) (k0_t3 : Fin (k0_t3_loop i).trips) : BitVec 32 :=
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let c2_i32_172 : BitVec 32 := 2#32
  let c0_i32_90 : BitVec 32 := 0#32
  let c1_i32_92 : BitVec 32 := 1#32
  let arg9 : BitVec 32 := Scf.iv c0_i32_90 c1_i32_92 k0_t3
  let v290 : BitVec 32 := Scalar.muli c2_i32_172 arg9
  let v291 : BitVec 32 := Scalar.addi v133 v290
  let c1_i32_173 : BitVec 32 := 1#32
  let v292 : BitVec 32 := Scalar.addi v291 c1_i32_173
  let c512_i32_174 : BitVec 32 := 512#32
  let v293 : BitVec 32 := Scalar.muli v292 c512_i32_174
  v293
def k0_mult23 (i : grid0.Coords) (k0_t3 : Fin (k0_t3_loop i).trips) : BitVec 32 :=
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let c2_i32_172 : BitVec 32 := 2#32
  let c0_i32_90 : BitVec 32 := 0#32
  let c1_i32_92 : BitVec 32 := 1#32
  let arg9 : BitVec 32 := Scf.iv c0_i32_90 c1_i32_92 k0_t3
  let v290 : BitVec 32 := Scalar.muli c2_i32_172 arg9
  let v291 : BitVec 32 := Scalar.addi v133 v290
  let c1_i32_173 : BitVec 32 := 1#32
  let v292 : BitVec 32 := Scalar.addi v291 c1_i32_173
  let c1_i32_203 : BitVec 32 := 1#32
  let v334 : BitVec 32 := Scalar.addi v292 c1_i32_203
  let c512_i32_204 : BitVec 32 := 512#32
  let v335 : BitVec 32 := Scalar.muli v334 c512_i32_204
  v335
@[reducible] def k0_t4_loop (i : grid0.Coords) : Scf.Loop 32 :=
  let c0_i32_90 : BitVec 32 := 0#32
  let arg2 : BitVec 32 := BitVec.ofNat 32 (i 2).val
  let c0_i32_82 : BitVec 32 := 0#32
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let v152 : BitVec 32 := Scalar.subi v151 c0_i32_90
  let c1_i32_91 : BitVec 32 := 1#32
  let v154 : BitVec 32 := Scalar.divsi v152 c1_i32_91
  let v155 : BitVec 32 := Scalar.muli v154 c1_i32_91
  let v156 : BitVec 32 := Scalar.addi c0_i32_90 v155
  let v153 : BitVec 32 := Scalar.addi c0_i32_90 v152
  let c1_i32_93 : BitVec 32 := 1#32
  ⟨v156, v153, c1_i32_93⟩
def k0_mult24 (i : grid0.Coords) (k0_t4 : Fin (k0_t4_loop i).trips) : BitVec 32 :=
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let c2_i32_111 : BitVec 32 := 2#32
  let c0_i32_90 : BitVec 32 := 0#32
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let v152 : BitVec 32 := Scalar.subi v151 c0_i32_90
  let c1_i32_91 : BitVec 32 := 1#32
  let v154 : BitVec 32 := Scalar.divsi v152 c1_i32_91
  let v155 : BitVec 32 := Scalar.muli v154 c1_i32_91
  let v156 : BitVec 32 := Scalar.addi c0_i32_90 v155
  let c1_i32_93 : BitVec 32 := 1#32
  let arg9 : BitVec 32 := Scf.iv v156 c1_i32_93 k0_t4
  let v204 : BitVec 32 := Scalar.muli c2_i32_111 arg9
  let v205 : BitVec 32 := Scalar.addi v133 v204
  let c0_i32_112 : BitVec 32 := 0#32
  let v206 : BitVec 32 := Scalar.addi v205 c0_i32_112
  let c512_i32_113 : BitVec 32 := 512#32
  let v207 : BitVec 32 := Scalar.muli v206 c512_i32_113
  v207
def k0_off18 (i : grid0.Coords) (k0_t4 : Fin (k0_t4_loop i).trips) (c0_i32_112 : BitVec 32) : Fin 4 → Nat :=
  let c0_114 : Index := 0#32
  let c0_115 : Index := 0#32
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let c2_i32_111 : BitVec 32 := 2#32
  let c0_i32_90 : BitVec 32 := 0#32
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let v152 : BitVec 32 := Scalar.subi v151 c0_i32_90
  let c1_i32_91 : BitVec 32 := 1#32
  let v154 : BitVec 32 := Scalar.divsi v152 c1_i32_91
  let v155 : BitVec 32 := Scalar.muli v154 c1_i32_91
  let v156 : BitVec 32 := Scalar.addi c0_i32_90 v155
  let c1_i32_93 : BitVec 32 := 1#32
  let arg9 : BitVec 32 := Scf.iv v156 c1_i32_93 k0_t4
  let v204 : BitVec 32 := Scalar.muli c2_i32_111 arg9
  let v205 : BitVec 32 := Scalar.addi v133 v204
  let v206 : BitVec 32 := Scalar.addi v205 c0_i32_112
  let c512_i32_113 : BitVec 32 := 512#32
  let v207 : BitVec 32 := Scalar.muli v206 c512_i32_113
  let v208 : BitVec 32 := v207
  let v209 : Index := Scalar.indexCast v208
  let c0_116 : Index := 0#32
  ![0, 0, v209.toNat, 0]
def k0_off19 (i : grid0.Coords) (k0_t4 : Fin (k0_t4_loop i).trips) (c0_i32_112 : BitVec 32) (c0_i32_127 : BitVec 32) : Fin 5 → Nat :=
  let c0_128 : Index := 0#32
  let c1_129 : Index := 1#32
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let c2_i32_111 : BitVec 32 := 2#32
  let c0_i32_90 : BitVec 32 := 0#32
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let v152 : BitVec 32 := Scalar.subi v151 c0_i32_90
  let c1_i32_91 : BitVec 32 := 1#32
  let v154 : BitVec 32 := Scalar.divsi v152 c1_i32_91
  let v155 : BitVec 32 := Scalar.muli v154 c1_i32_91
  let v156 : BitVec 32 := Scalar.addi c0_i32_90 v155
  let c1_i32_93 : BitVec 32 := 1#32
  let arg9 : BitVec 32 := Scf.iv v156 c1_i32_93 k0_t4
  let v204 : BitVec 32 := Scalar.muli c2_i32_111 arg9
  let v205 : BitVec 32 := Scalar.addi v133 v204
  let v206 : BitVec 32 := Scalar.addi v205 c0_i32_112
  let c2_i32_126 : BitVec 32 := 2#32
  let v219 : BitVec 32 := Scalar.muli v206 c2_i32_126
  let v220 : BitVec 32 := Scalar.addi v219 c0_i32_127
  let v221 : Index := Scalar.indexCast v220
  let c0_130 : Index := 0#32
  let c0_131 : Index := 0#32
  ![0, 1, v221.toNat, 0, 0]
def k0_mult25 (i : grid0.Coords) (k0_t4 : Fin (k0_t4_loop i).trips) : BitVec 32 :=
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let c2_i32_111 : BitVec 32 := 2#32
  let c0_i32_90 : BitVec 32 := 0#32
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let v152 : BitVec 32 := Scalar.subi v151 c0_i32_90
  let c1_i32_91 : BitVec 32 := 1#32
  let v154 : BitVec 32 := Scalar.divsi v152 c1_i32_91
  let v155 : BitVec 32 := Scalar.muli v154 c1_i32_91
  let v156 : BitVec 32 := Scalar.addi c0_i32_90 v155
  let c1_i32_93 : BitVec 32 := 1#32
  let arg9 : BitVec 32 := Scf.iv v156 c1_i32_93 k0_t4
  let v204 : BitVec 32 := Scalar.muli c2_i32_111 arg9
  let v205 : BitVec 32 := Scalar.addi v133 v204
  let c0_i32_112 : BitVec 32 := 0#32
  let v206 : BitVec 32 := Scalar.addi v205 c0_i32_112
  let c1_i32_142 : BitVec 32 := 1#32
  let v248 : BitVec 32 := Scalar.addi v206 c1_i32_142
  let c512_i32_143 : BitVec 32 := 512#32
  let v249 : BitVec 32 := Scalar.muli v248 c512_i32_143
  v249
def k0_off20 (i : grid0.Coords) (k0_t4 : Fin (k0_t4_loop i).trips) (c0_i32_112 : BitVec 32) : Fin 4 → Nat :=
  let c0_144 : Index := 0#32
  let c1_145 : Index := 1#32
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let c2_i32_111 : BitVec 32 := 2#32
  let c0_i32_90 : BitVec 32 := 0#32
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let v152 : BitVec 32 := Scalar.subi v151 c0_i32_90
  let c1_i32_91 : BitVec 32 := 1#32
  let v154 : BitVec 32 := Scalar.divsi v152 c1_i32_91
  let v155 : BitVec 32 := Scalar.muli v154 c1_i32_91
  let v156 : BitVec 32 := Scalar.addi c0_i32_90 v155
  let c1_i32_93 : BitVec 32 := 1#32
  let arg9 : BitVec 32 := Scf.iv v156 c1_i32_93 k0_t4
  let v204 : BitVec 32 := Scalar.muli c2_i32_111 arg9
  let v205 : BitVec 32 := Scalar.addi v133 v204
  let v206 : BitVec 32 := Scalar.addi v205 c0_i32_112
  let c1_i32_142 : BitVec 32 := 1#32
  let v248 : BitVec 32 := Scalar.addi v206 c1_i32_142
  let c512_i32_143 : BitVec 32 := 512#32
  let v249 : BitVec 32 := Scalar.muli v248 c512_i32_143
  let v250 : BitVec 32 := v249
  let v251 : Index := Scalar.indexCast v250
  let c0_146 : Index := 0#32
  ![0, 1, v251.toNat, 0]
def k0_off21 (i : grid0.Coords) (k0_t4 : Fin (k0_t4_loop i).trips) (c0_i32_112 : BitVec 32) (c0_i32_157 : BitVec 32) : Fin 5 → Nat :=
  let c0_158 : Index := 0#32
  let c0_159 : Index := 0#32
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let c2_i32_111 : BitVec 32 := 2#32
  let c0_i32_90 : BitVec 32 := 0#32
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let v152 : BitVec 32 := Scalar.subi v151 c0_i32_90
  let c1_i32_91 : BitVec 32 := 1#32
  let v154 : BitVec 32 := Scalar.divsi v152 c1_i32_91
  let v155 : BitVec 32 := Scalar.muli v154 c1_i32_91
  let v156 : BitVec 32 := Scalar.addi c0_i32_90 v155
  let c1_i32_93 : BitVec 32 := 1#32
  let arg9 : BitVec 32 := Scf.iv v156 c1_i32_93 k0_t4
  let v204 : BitVec 32 := Scalar.muli c2_i32_111 arg9
  let v205 : BitVec 32 := Scalar.addi v133 v204
  let v206 : BitVec 32 := Scalar.addi v205 c0_i32_112
  let c2_i32_156 : BitVec 32 := 2#32
  let v261 : BitVec 32 := Scalar.muli v206 c2_i32_156
  let v262 : BitVec 32 := Scalar.addi v261 c0_i32_157
  let v263 : Index := Scalar.indexCast v262
  let c0_160 : Index := 0#32
  let c0_161 : Index := 0#32
  ![0, 0, v263.toNat, 0, 0]
def k0_mult26 (i : grid0.Coords) (k0_t4 : Fin (k0_t4_loop i).trips) : BitVec 32 :=
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let c2_i32_172 : BitVec 32 := 2#32
  let c0_i32_90 : BitVec 32 := 0#32
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let v152 : BitVec 32 := Scalar.subi v151 c0_i32_90
  let c1_i32_91 : BitVec 32 := 1#32
  let v154 : BitVec 32 := Scalar.divsi v152 c1_i32_91
  let v155 : BitVec 32 := Scalar.muli v154 c1_i32_91
  let v156 : BitVec 32 := Scalar.addi c0_i32_90 v155
  let c1_i32_93 : BitVec 32 := 1#32
  let arg9 : BitVec 32 := Scf.iv v156 c1_i32_93 k0_t4
  let v290 : BitVec 32 := Scalar.muli c2_i32_172 arg9
  let v291 : BitVec 32 := Scalar.addi v133 v290
  let c1_i32_173 : BitVec 32 := 1#32
  let v292 : BitVec 32 := Scalar.addi v291 c1_i32_173
  let c512_i32_174 : BitVec 32 := 512#32
  let v293 : BitVec 32 := Scalar.muli v292 c512_i32_174
  v293
def k0_mult27 (i : grid0.Coords) (k0_t4 : Fin (k0_t4_loop i).trips) : BitVec 32 :=
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let c2_i32_172 : BitVec 32 := 2#32
  let c0_i32_90 : BitVec 32 := 0#32
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let v152 : BitVec 32 := Scalar.subi v151 c0_i32_90
  let c1_i32_91 : BitVec 32 := 1#32
  let v154 : BitVec 32 := Scalar.divsi v152 c1_i32_91
  let v155 : BitVec 32 := Scalar.muli v154 c1_i32_91
  let v156 : BitVec 32 := Scalar.addi c0_i32_90 v155
  let c1_i32_93 : BitVec 32 := 1#32
  let arg9 : BitVec 32 := Scf.iv v156 c1_i32_93 k0_t4
  let v290 : BitVec 32 := Scalar.muli c2_i32_172 arg9
  let v291 : BitVec 32 := Scalar.addi v133 v290
  let c1_i32_173 : BitVec 32 := 1#32
  let v292 : BitVec 32 := Scalar.addi v291 c1_i32_173
  let c1_i32_203 : BitVec 32 := 1#32
  let v334 : BitVec 32 := Scalar.addi v292 c1_i32_203
  let c512_i32_204 : BitVec 32 := 512#32
  let v335 : BitVec 32 := Scalar.muli v334 c512_i32_204
  v335
@[reducible] def k0_t5_loop (i : grid0.Coords) : Scf.Loop 32 :=
  let c0_i32_102 : BitVec 32 := 0#32
  let arg2 : BitVec 32 := BitVec.ofNat 32 (i 2).val
  let c0_i32_82 : BitVec 32 := 0#32
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let c2_i32_94 : BitVec 32 := 2#32
  let v159 : BitVec 32 := Scalar.muli v151 c2_i32_94
  let v160 : BitVec 32 := Scalar.addi v133 v159
  let v161 : BitVec 32 := Scalar.subi arg2 v160
  let c0_i32_96 : BitVec 32 := 0#32
  let v163 : BitVec 1 := Scalar.cmpi .sgt v161 c0_i32_96
  let v164 : BitVec 32 := Scalar.extui v163
  let c0_i32_97 : BitVec 32 := 0#32
  let v165 : BitVec 1 := Scalar.cmpi .slt v161 c0_i32_97
  let v166 : BitVec 32 := Scalar.extui v165
  let v167 : BitVec 32 := Scalar.subi v164 v166
  let c1_i32_95 : BitVec 32 := 1#32
  let c0_i32_98 : BitVec 32 := 0#32
  let v168 : BitVec 1 := Scalar.cmpi .sgt c1_i32_95 c0_i32_98
  let v169 : BitVec 32 := Scalar.extui v168
  let c0_i32_99 : BitVec 32 := 0#32
  let v170 : BitVec 1 := Scalar.cmpi .slt c1_i32_95 c0_i32_99
  let v171 : BitVec 32 := Scalar.extui v170
  let v172 : BitVec 32 := Scalar.subi v169 v171
  let v173 : BitVec 1 := Scalar.cmpi .ne v167 v172
  let v174 : BitVec 32 := Scalar.remsi v161 c1_i32_95
  let c0_i32_100 : BitVec 32 := 0#32
  let v175 : BitVec 1 := Scalar.cmpi .ne v174 c0_i32_100
  let v176 : BitVec 1 := Scalar.andi v173 v175
  let v162 : BitVec 32 := Scalar.divsi v161 c1_i32_95
  let c1_i32_101 : BitVec 32 := 1#32
  let v177 : BitVec 32 := Scalar.subi v162 c1_i32_101
  let v178 : BitVec 32 := Scalar.select v176 v177 v162
  let v179 : BitVec 32 := Scalar.subi v178 c0_i32_102
  let c1_i32_103 : BitVec 32 := 1#32
  let v181 : BitVec 32 := Scalar.divsi v179 c1_i32_103
  let v182 : BitVec 32 := Scalar.muli v181 c1_i32_103
  let v183 : BitVec 32 := Scalar.addi c0_i32_102 v182
  let c1_i32_104 : BitVec 32 := 1#32
  ⟨c0_i32_102, v183, c1_i32_104⟩
def k0_mult28 (i : grid0.Coords) (k0_t5 : Fin (k0_t5_loop i).trips) : BitVec 32 :=
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let c2_i32_94 : BitVec 32 := 2#32
  let v159 : BitVec 32 := Scalar.muli v151 c2_i32_94
  let v160 : BitVec 32 := Scalar.addi v133 v159
  let c1_i32_111 : BitVec 32 := 1#32
  let c0_i32_102 : BitVec 32 := 0#32
  let c1_i32_104 : BitVec 32 := 1#32
  let arg9 : BitVec 32 := Scf.iv c0_i32_102 c1_i32_104 k0_t5
  let v204 : BitVec 32 := Scalar.muli c1_i32_111 arg9
  let v205 : BitVec 32 := Scalar.addi v160 v204
  let c0_i32_112 : BitVec 32 := 0#32
  let v206 : BitVec 32 := Scalar.addi v205 c0_i32_112
  let c512_i32_113 : BitVec 32 := 512#32
  let v207 : BitVec 32 := Scalar.muli v206 c512_i32_113
  v207
def k0_off22 (i : grid0.Coords) (k0_t5 : Fin (k0_t5_loop i).trips) : Fin 4 → Nat :=
  let c0_114 : Index := 0#32
  let c0_115 : Index := 0#32
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let c2_i32_94 : BitVec 32 := 2#32
  let v159 : BitVec 32 := Scalar.muli v151 c2_i32_94
  let v160 : BitVec 32 := Scalar.addi v133 v159
  let c1_i32_111 : BitVec 32 := 1#32
  let c0_i32_102 : BitVec 32 := 0#32
  let c1_i32_104 : BitVec 32 := 1#32
  let arg9 : BitVec 32 := Scf.iv c0_i32_102 c1_i32_104 k0_t5
  let v204 : BitVec 32 := Scalar.muli c1_i32_111 arg9
  let v205 : BitVec 32 := Scalar.addi v160 v204
  let c0_i32_112 : BitVec 32 := 0#32
  let v206 : BitVec 32 := Scalar.addi v205 c0_i32_112
  let c512_i32_113 : BitVec 32 := 512#32
  let v207 : BitVec 32 := Scalar.muli v206 c512_i32_113
  let v208 : BitVec 32 := v207
  let v209 : Index := Scalar.indexCast v208
  let c0_116 : Index := 0#32
  ![0, 0, v209.toNat, 0]
def k0_off23 (i : grid0.Coords) (k0_t5 : Fin (k0_t5_loop i).trips) (c0_i32_127 : BitVec 32) : Fin 5 → Nat :=
  let c0_128 : Index := 0#32
  let c1_129 : Index := 1#32
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let c2_i32_94 : BitVec 32 := 2#32
  let v159 : BitVec 32 := Scalar.muli v151 c2_i32_94
  let v160 : BitVec 32 := Scalar.addi v133 v159
  let c1_i32_111 : BitVec 32 := 1#32
  let c0_i32_102 : BitVec 32 := 0#32
  let c1_i32_104 : BitVec 32 := 1#32
  let arg9 : BitVec 32 := Scf.iv c0_i32_102 c1_i32_104 k0_t5
  let v204 : BitVec 32 := Scalar.muli c1_i32_111 arg9
  let v205 : BitVec 32 := Scalar.addi v160 v204
  let c0_i32_112 : BitVec 32 := 0#32
  let v206 : BitVec 32 := Scalar.addi v205 c0_i32_112
  let c2_i32_126 : BitVec 32 := 2#32
  let v219 : BitVec 32 := Scalar.muli v206 c2_i32_126
  let v220 : BitVec 32 := Scalar.addi v219 c0_i32_127
  let v221 : Index := Scalar.indexCast v220
  let c0_130 : Index := 0#32
  let c0_131 : Index := 0#32
  ![0, 1, v221.toNat, 0, 0]
def k0_mult29 (i : grid0.Coords) (k0_t5 : Fin (k0_t5_loop i).trips) : BitVec 32 :=
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let c2_i32_94 : BitVec 32 := 2#32
  let v159 : BitVec 32 := Scalar.muli v151 c2_i32_94
  let v160 : BitVec 32 := Scalar.addi v133 v159
  let c1_i32_111 : BitVec 32 := 1#32
  let c0_i32_102 : BitVec 32 := 0#32
  let c1_i32_104 : BitVec 32 := 1#32
  let arg9 : BitVec 32 := Scf.iv c0_i32_102 c1_i32_104 k0_t5
  let v204 : BitVec 32 := Scalar.muli c1_i32_111 arg9
  let v205 : BitVec 32 := Scalar.addi v160 v204
  let c0_i32_112 : BitVec 32 := 0#32
  let v206 : BitVec 32 := Scalar.addi v205 c0_i32_112
  let c1_i32_142 : BitVec 32 := 1#32
  let v248 : BitVec 32 := Scalar.addi v206 c1_i32_142
  let c512_i32_143 : BitVec 32 := 512#32
  let v249 : BitVec 32 := Scalar.muli v248 c512_i32_143
  v249
def k0_off24 (i : grid0.Coords) (k0_t5 : Fin (k0_t5_loop i).trips) : Fin 4 → Nat :=
  let c0_144 : Index := 0#32
  let c1_145 : Index := 1#32
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let c2_i32_94 : BitVec 32 := 2#32
  let v159 : BitVec 32 := Scalar.muli v151 c2_i32_94
  let v160 : BitVec 32 := Scalar.addi v133 v159
  let c1_i32_111 : BitVec 32 := 1#32
  let c0_i32_102 : BitVec 32 := 0#32
  let c1_i32_104 : BitVec 32 := 1#32
  let arg9 : BitVec 32 := Scf.iv c0_i32_102 c1_i32_104 k0_t5
  let v204 : BitVec 32 := Scalar.muli c1_i32_111 arg9
  let v205 : BitVec 32 := Scalar.addi v160 v204
  let c0_i32_112 : BitVec 32 := 0#32
  let v206 : BitVec 32 := Scalar.addi v205 c0_i32_112
  let c1_i32_142 : BitVec 32 := 1#32
  let v248 : BitVec 32 := Scalar.addi v206 c1_i32_142
  let c512_i32_143 : BitVec 32 := 512#32
  let v249 : BitVec 32 := Scalar.muli v248 c512_i32_143
  let v250 : BitVec 32 := v249
  let v251 : Index := Scalar.indexCast v250
  let c0_146 : Index := 0#32
  ![0, 1, v251.toNat, 0]
def k0_off25 (i : grid0.Coords) (k0_t5 : Fin (k0_t5_loop i).trips) (c0_i32_157 : BitVec 32) : Fin 5 → Nat :=
  let c0_158 : Index := 0#32
  let c0_159 : Index := 0#32
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let c2_i32_94 : BitVec 32 := 2#32
  let v159 : BitVec 32 := Scalar.muli v151 c2_i32_94
  let v160 : BitVec 32 := Scalar.addi v133 v159
  let c1_i32_111 : BitVec 32 := 1#32
  let c0_i32_102 : BitVec 32 := 0#32
  let c1_i32_104 : BitVec 32 := 1#32
  let arg9 : BitVec 32 := Scf.iv c0_i32_102 c1_i32_104 k0_t5
  let v204 : BitVec 32 := Scalar.muli c1_i32_111 arg9
  let v205 : BitVec 32 := Scalar.addi v160 v204
  let c0_i32_112 : BitVec 32 := 0#32
  let v206 : BitVec 32 := Scalar.addi v205 c0_i32_112
  let c2_i32_156 : BitVec 32 := 2#32
  let v261 : BitVec 32 := Scalar.muli v206 c2_i32_156
  let v262 : BitVec 32 := Scalar.addi v261 c0_i32_157
  let v263 : Index := Scalar.indexCast v262
  let c0_160 : Index := 0#32
  let c0_161 : Index := 0#32
  ![0, 0, v263.toNat, 0, 0]
@[reducible] def k0_t6_loop (i : grid0.Coords) : Scf.Loop 32 :=
  let c0_i32_102 : BitVec 32 := 0#32
  let arg2 : BitVec 32 := BitVec.ofNat 32 (i 2).val
  let c0_i32_82 : BitVec 32 := 0#32
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let c2_i32_94 : BitVec 32 := 2#32
  let v159 : BitVec 32 := Scalar.muli v151 c2_i32_94
  let v160 : BitVec 32 := Scalar.addi v133 v159
  let v161 : BitVec 32 := Scalar.subi arg2 v160
  let c0_i32_96 : BitVec 32 := 0#32
  let v163 : BitVec 1 := Scalar.cmpi .sgt v161 c0_i32_96
  let v164 : BitVec 32 := Scalar.extui v163
  let c0_i32_97 : BitVec 32 := 0#32
  let v165 : BitVec 1 := Scalar.cmpi .slt v161 c0_i32_97
  let v166 : BitVec 32 := Scalar.extui v165
  let v167 : BitVec 32 := Scalar.subi v164 v166
  let c1_i32_95 : BitVec 32 := 1#32
  let c0_i32_98 : BitVec 32 := 0#32
  let v168 : BitVec 1 := Scalar.cmpi .sgt c1_i32_95 c0_i32_98
  let v169 : BitVec 32 := Scalar.extui v168
  let c0_i32_99 : BitVec 32 := 0#32
  let v170 : BitVec 1 := Scalar.cmpi .slt c1_i32_95 c0_i32_99
  let v171 : BitVec 32 := Scalar.extui v170
  let v172 : BitVec 32 := Scalar.subi v169 v171
  let v173 : BitVec 1 := Scalar.cmpi .ne v167 v172
  let v174 : BitVec 32 := Scalar.remsi v161 c1_i32_95
  let c0_i32_100 : BitVec 32 := 0#32
  let v175 : BitVec 1 := Scalar.cmpi .ne v174 c0_i32_100
  let v176 : BitVec 1 := Scalar.andi v173 v175
  let v162 : BitVec 32 := Scalar.divsi v161 c1_i32_95
  let c1_i32_101 : BitVec 32 := 1#32
  let v177 : BitVec 32 := Scalar.subi v162 c1_i32_101
  let v178 : BitVec 32 := Scalar.select v176 v177 v162
  let v179 : BitVec 32 := Scalar.subi v178 c0_i32_102
  let c1_i32_103 : BitVec 32 := 1#32
  let v181 : BitVec 32 := Scalar.divsi v179 c1_i32_103
  let v182 : BitVec 32 := Scalar.muli v181 c1_i32_103
  let v183 : BitVec 32 := Scalar.addi c0_i32_102 v182
  let v180 : BitVec 32 := Scalar.addi c0_i32_102 v179
  let c1_i32_105 : BitVec 32 := 1#32
  ⟨v183, v180, c1_i32_105⟩
def k0_mult30 (i : grid0.Coords) (k0_t6 : Fin (k0_t6_loop i).trips) : BitVec 32 :=
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let c2_i32_94 : BitVec 32 := 2#32
  let v159 : BitVec 32 := Scalar.muli v151 c2_i32_94
  let v160 : BitVec 32 := Scalar.addi v133 v159
  let c1_i32_111 : BitVec 32 := 1#32
  let c0_i32_102 : BitVec 32 := 0#32
  let v161 : BitVec 32 := Scalar.subi arg2 v160
  let c0_i32_96 : BitVec 32 := 0#32
  let v163 : BitVec 1 := Scalar.cmpi .sgt v161 c0_i32_96
  let v164 : BitVec 32 := Scalar.extui v163
  let c0_i32_97 : BitVec 32 := 0#32
  let v165 : BitVec 1 := Scalar.cmpi .slt v161 c0_i32_97
  let v166 : BitVec 32 := Scalar.extui v165
  let v167 : BitVec 32 := Scalar.subi v164 v166
  let c1_i32_95 : BitVec 32 := 1#32
  let c0_i32_98 : BitVec 32 := 0#32
  let v168 : BitVec 1 := Scalar.cmpi .sgt c1_i32_95 c0_i32_98
  let v169 : BitVec 32 := Scalar.extui v168
  let c0_i32_99 : BitVec 32 := 0#32
  let v170 : BitVec 1 := Scalar.cmpi .slt c1_i32_95 c0_i32_99
  let v171 : BitVec 32 := Scalar.extui v170
  let v172 : BitVec 32 := Scalar.subi v169 v171
  let v173 : BitVec 1 := Scalar.cmpi .ne v167 v172
  let v174 : BitVec 32 := Scalar.remsi v161 c1_i32_95
  let c0_i32_100 : BitVec 32 := 0#32
  let v175 : BitVec 1 := Scalar.cmpi .ne v174 c0_i32_100
  let v176 : BitVec 1 := Scalar.andi v173 v175
  let v162 : BitVec 32 := Scalar.divsi v161 c1_i32_95
  let c1_i32_101 : BitVec 32 := 1#32
  let v177 : BitVec 32 := Scalar.subi v162 c1_i32_101
  let v178 : BitVec 32 := Scalar.select v176 v177 v162
  let v179 : BitVec 32 := Scalar.subi v178 c0_i32_102
  let c1_i32_103 : BitVec 32 := 1#32
  let v181 : BitVec 32 := Scalar.divsi v179 c1_i32_103
  let v182 : BitVec 32 := Scalar.muli v181 c1_i32_103
  let v183 : BitVec 32 := Scalar.addi c0_i32_102 v182
  let c1_i32_105 : BitVec 32 := 1#32
  let arg9 : BitVec 32 := Scf.iv v183 c1_i32_105 k0_t6
  let v204 : BitVec 32 := Scalar.muli c1_i32_111 arg9
  let v205 : BitVec 32 := Scalar.addi v160 v204
  let c0_i32_112 : BitVec 32 := 0#32
  let v206 : BitVec 32 := Scalar.addi v205 c0_i32_112
  let c512_i32_113 : BitVec 32 := 512#32
  let v207 : BitVec 32 := Scalar.muli v206 c512_i32_113
  v207
def k0_off26 (i : grid0.Coords) (k0_t6 : Fin (k0_t6_loop i).trips) : Fin 4 → Nat :=
  let c0_114 : Index := 0#32
  let c0_115 : Index := 0#32
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let c2_i32_94 : BitVec 32 := 2#32
  let v159 : BitVec 32 := Scalar.muli v151 c2_i32_94
  let v160 : BitVec 32 := Scalar.addi v133 v159
  let c1_i32_111 : BitVec 32 := 1#32
  let c0_i32_102 : BitVec 32 := 0#32
  let v161 : BitVec 32 := Scalar.subi arg2 v160
  let c0_i32_96 : BitVec 32 := 0#32
  let v163 : BitVec 1 := Scalar.cmpi .sgt v161 c0_i32_96
  let v164 : BitVec 32 := Scalar.extui v163
  let c0_i32_97 : BitVec 32 := 0#32
  let v165 : BitVec 1 := Scalar.cmpi .slt v161 c0_i32_97
  let v166 : BitVec 32 := Scalar.extui v165
  let v167 : BitVec 32 := Scalar.subi v164 v166
  let c1_i32_95 : BitVec 32 := 1#32
  let c0_i32_98 : BitVec 32 := 0#32
  let v168 : BitVec 1 := Scalar.cmpi .sgt c1_i32_95 c0_i32_98
  let v169 : BitVec 32 := Scalar.extui v168
  let c0_i32_99 : BitVec 32 := 0#32
  let v170 : BitVec 1 := Scalar.cmpi .slt c1_i32_95 c0_i32_99
  let v171 : BitVec 32 := Scalar.extui v170
  let v172 : BitVec 32 := Scalar.subi v169 v171
  let v173 : BitVec 1 := Scalar.cmpi .ne v167 v172
  let v174 : BitVec 32 := Scalar.remsi v161 c1_i32_95
  let c0_i32_100 : BitVec 32 := 0#32
  let v175 : BitVec 1 := Scalar.cmpi .ne v174 c0_i32_100
  let v176 : BitVec 1 := Scalar.andi v173 v175
  let v162 : BitVec 32 := Scalar.divsi v161 c1_i32_95
  let c1_i32_101 : BitVec 32 := 1#32
  let v177 : BitVec 32 := Scalar.subi v162 c1_i32_101
  let v178 : BitVec 32 := Scalar.select v176 v177 v162
  let v179 : BitVec 32 := Scalar.subi v178 c0_i32_102
  let c1_i32_103 : BitVec 32 := 1#32
  let v181 : BitVec 32 := Scalar.divsi v179 c1_i32_103
  let v182 : BitVec 32 := Scalar.muli v181 c1_i32_103
  let v183 : BitVec 32 := Scalar.addi c0_i32_102 v182
  let c1_i32_105 : BitVec 32 := 1#32
  let arg9 : BitVec 32 := Scf.iv v183 c1_i32_105 k0_t6
  let v204 : BitVec 32 := Scalar.muli c1_i32_111 arg9
  let v205 : BitVec 32 := Scalar.addi v160 v204
  let c0_i32_112 : BitVec 32 := 0#32
  let v206 : BitVec 32 := Scalar.addi v205 c0_i32_112
  let c512_i32_113 : BitVec 32 := 512#32
  let v207 : BitVec 32 := Scalar.muli v206 c512_i32_113
  let v208 : BitVec 32 := v207
  let v209 : Index := Scalar.indexCast v208
  let c0_116 : Index := 0#32
  ![0, 0, v209.toNat, 0]
def k0_off27 (i : grid0.Coords) (k0_t6 : Fin (k0_t6_loop i).trips) (c0_i32_127 : BitVec 32) : Fin 5 → Nat :=
  let c0_128 : Index := 0#32
  let c1_129 : Index := 1#32
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let c2_i32_94 : BitVec 32 := 2#32
  let v159 : BitVec 32 := Scalar.muli v151 c2_i32_94
  let v160 : BitVec 32 := Scalar.addi v133 v159
  let c1_i32_111 : BitVec 32 := 1#32
  let c0_i32_102 : BitVec 32 := 0#32
  let v161 : BitVec 32 := Scalar.subi arg2 v160
  let c0_i32_96 : BitVec 32 := 0#32
  let v163 : BitVec 1 := Scalar.cmpi .sgt v161 c0_i32_96
  let v164 : BitVec 32 := Scalar.extui v163
  let c0_i32_97 : BitVec 32 := 0#32
  let v165 : BitVec 1 := Scalar.cmpi .slt v161 c0_i32_97
  let v166 : BitVec 32 := Scalar.extui v165
  let v167 : BitVec 32 := Scalar.subi v164 v166
  let c1_i32_95 : BitVec 32 := 1#32
  let c0_i32_98 : BitVec 32 := 0#32
  let v168 : BitVec 1 := Scalar.cmpi .sgt c1_i32_95 c0_i32_98
  let v169 : BitVec 32 := Scalar.extui v168
  let c0_i32_99 : BitVec 32 := 0#32
  let v170 : BitVec 1 := Scalar.cmpi .slt c1_i32_95 c0_i32_99
  let v171 : BitVec 32 := Scalar.extui v170
  let v172 : BitVec 32 := Scalar.subi v169 v171
  let v173 : BitVec 1 := Scalar.cmpi .ne v167 v172
  let v174 : BitVec 32 := Scalar.remsi v161 c1_i32_95
  let c0_i32_100 : BitVec 32 := 0#32
  let v175 : BitVec 1 := Scalar.cmpi .ne v174 c0_i32_100
  let v176 : BitVec 1 := Scalar.andi v173 v175
  let v162 : BitVec 32 := Scalar.divsi v161 c1_i32_95
  let c1_i32_101 : BitVec 32 := 1#32
  let v177 : BitVec 32 := Scalar.subi v162 c1_i32_101
  let v178 : BitVec 32 := Scalar.select v176 v177 v162
  let v179 : BitVec 32 := Scalar.subi v178 c0_i32_102
  let c1_i32_103 : BitVec 32 := 1#32
  let v181 : BitVec 32 := Scalar.divsi v179 c1_i32_103
  let v182 : BitVec 32 := Scalar.muli v181 c1_i32_103
  let v183 : BitVec 32 := Scalar.addi c0_i32_102 v182
  let c1_i32_105 : BitVec 32 := 1#32
  let arg9 : BitVec 32 := Scf.iv v183 c1_i32_105 k0_t6
  let v204 : BitVec 32 := Scalar.muli c1_i32_111 arg9
  let v205 : BitVec 32 := Scalar.addi v160 v204
  let c0_i32_112 : BitVec 32 := 0#32
  let v206 : BitVec 32 := Scalar.addi v205 c0_i32_112
  let c2_i32_126 : BitVec 32 := 2#32
  let v219 : BitVec 32 := Scalar.muli v206 c2_i32_126
  let v220 : BitVec 32 := Scalar.addi v219 c0_i32_127
  let v221 : Index := Scalar.indexCast v220
  let c0_130 : Index := 0#32
  let c0_131 : Index := 0#32
  ![0, 1, v221.toNat, 0, 0]
def k0_mult31 (i : grid0.Coords) (k0_t6 : Fin (k0_t6_loop i).trips) : BitVec 32 :=
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let c2_i32_94 : BitVec 32 := 2#32
  let v159 : BitVec 32 := Scalar.muli v151 c2_i32_94
  let v160 : BitVec 32 := Scalar.addi v133 v159
  let c1_i32_111 : BitVec 32 := 1#32
  let c0_i32_102 : BitVec 32 := 0#32
  let v161 : BitVec 32 := Scalar.subi arg2 v160
  let c0_i32_96 : BitVec 32 := 0#32
  let v163 : BitVec 1 := Scalar.cmpi .sgt v161 c0_i32_96
  let v164 : BitVec 32 := Scalar.extui v163
  let c0_i32_97 : BitVec 32 := 0#32
  let v165 : BitVec 1 := Scalar.cmpi .slt v161 c0_i32_97
  let v166 : BitVec 32 := Scalar.extui v165
  let v167 : BitVec 32 := Scalar.subi v164 v166
  let c1_i32_95 : BitVec 32 := 1#32
  let c0_i32_98 : BitVec 32 := 0#32
  let v168 : BitVec 1 := Scalar.cmpi .sgt c1_i32_95 c0_i32_98
  let v169 : BitVec 32 := Scalar.extui v168
  let c0_i32_99 : BitVec 32 := 0#32
  let v170 : BitVec 1 := Scalar.cmpi .slt c1_i32_95 c0_i32_99
  let v171 : BitVec 32 := Scalar.extui v170
  let v172 : BitVec 32 := Scalar.subi v169 v171
  let v173 : BitVec 1 := Scalar.cmpi .ne v167 v172
  let v174 : BitVec 32 := Scalar.remsi v161 c1_i32_95
  let c0_i32_100 : BitVec 32 := 0#32
  let v175 : BitVec 1 := Scalar.cmpi .ne v174 c0_i32_100
  let v176 : BitVec 1 := Scalar.andi v173 v175
  let v162 : BitVec 32 := Scalar.divsi v161 c1_i32_95
  let c1_i32_101 : BitVec 32 := 1#32
  let v177 : BitVec 32 := Scalar.subi v162 c1_i32_101
  let v178 : BitVec 32 := Scalar.select v176 v177 v162
  let v179 : BitVec 32 := Scalar.subi v178 c0_i32_102
  let c1_i32_103 : BitVec 32 := 1#32
  let v181 : BitVec 32 := Scalar.divsi v179 c1_i32_103
  let v182 : BitVec 32 := Scalar.muli v181 c1_i32_103
  let v183 : BitVec 32 := Scalar.addi c0_i32_102 v182
  let c1_i32_105 : BitVec 32 := 1#32
  let arg9 : BitVec 32 := Scf.iv v183 c1_i32_105 k0_t6
  let v204 : BitVec 32 := Scalar.muli c1_i32_111 arg9
  let v205 : BitVec 32 := Scalar.addi v160 v204
  let c0_i32_112 : BitVec 32 := 0#32
  let v206 : BitVec 32 := Scalar.addi v205 c0_i32_112
  let c1_i32_142 : BitVec 32 := 1#32
  let v248 : BitVec 32 := Scalar.addi v206 c1_i32_142
  let c512_i32_143 : BitVec 32 := 512#32
  let v249 : BitVec 32 := Scalar.muli v248 c512_i32_143
  v249
def k0_off28 (i : grid0.Coords) (k0_t6 : Fin (k0_t6_loop i).trips) : Fin 4 → Nat :=
  let c0_144 : Index := 0#32
  let c1_145 : Index := 1#32
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let c2_i32_94 : BitVec 32 := 2#32
  let v159 : BitVec 32 := Scalar.muli v151 c2_i32_94
  let v160 : BitVec 32 := Scalar.addi v133 v159
  let c1_i32_111 : BitVec 32 := 1#32
  let c0_i32_102 : BitVec 32 := 0#32
  let v161 : BitVec 32 := Scalar.subi arg2 v160
  let c0_i32_96 : BitVec 32 := 0#32
  let v163 : BitVec 1 := Scalar.cmpi .sgt v161 c0_i32_96
  let v164 : BitVec 32 := Scalar.extui v163
  let c0_i32_97 : BitVec 32 := 0#32
  let v165 : BitVec 1 := Scalar.cmpi .slt v161 c0_i32_97
  let v166 : BitVec 32 := Scalar.extui v165
  let v167 : BitVec 32 := Scalar.subi v164 v166
  let c1_i32_95 : BitVec 32 := 1#32
  let c0_i32_98 : BitVec 32 := 0#32
  let v168 : BitVec 1 := Scalar.cmpi .sgt c1_i32_95 c0_i32_98
  let v169 : BitVec 32 := Scalar.extui v168
  let c0_i32_99 : BitVec 32 := 0#32
  let v170 : BitVec 1 := Scalar.cmpi .slt c1_i32_95 c0_i32_99
  let v171 : BitVec 32 := Scalar.extui v170
  let v172 : BitVec 32 := Scalar.subi v169 v171
  let v173 : BitVec 1 := Scalar.cmpi .ne v167 v172
  let v174 : BitVec 32 := Scalar.remsi v161 c1_i32_95
  let c0_i32_100 : BitVec 32 := 0#32
  let v175 : BitVec 1 := Scalar.cmpi .ne v174 c0_i32_100
  let v176 : BitVec 1 := Scalar.andi v173 v175
  let v162 : BitVec 32 := Scalar.divsi v161 c1_i32_95
  let c1_i32_101 : BitVec 32 := 1#32
  let v177 : BitVec 32 := Scalar.subi v162 c1_i32_101
  let v178 : BitVec 32 := Scalar.select v176 v177 v162
  let v179 : BitVec 32 := Scalar.subi v178 c0_i32_102
  let c1_i32_103 : BitVec 32 := 1#32
  let v181 : BitVec 32 := Scalar.divsi v179 c1_i32_103
  let v182 : BitVec 32 := Scalar.muli v181 c1_i32_103
  let v183 : BitVec 32 := Scalar.addi c0_i32_102 v182
  let c1_i32_105 : BitVec 32 := 1#32
  let arg9 : BitVec 32 := Scf.iv v183 c1_i32_105 k0_t6
  let v204 : BitVec 32 := Scalar.muli c1_i32_111 arg9
  let v205 : BitVec 32 := Scalar.addi v160 v204
  let c0_i32_112 : BitVec 32 := 0#32
  let v206 : BitVec 32 := Scalar.addi v205 c0_i32_112
  let c1_i32_142 : BitVec 32 := 1#32
  let v248 : BitVec 32 := Scalar.addi v206 c1_i32_142
  let c512_i32_143 : BitVec 32 := 512#32
  let v249 : BitVec 32 := Scalar.muli v248 c512_i32_143
  let v250 : BitVec 32 := v249
  let v251 : Index := Scalar.indexCast v250
  let c0_146 : Index := 0#32
  ![0, 1, v251.toNat, 0]
def k0_off29 (i : grid0.Coords) (k0_t6 : Fin (k0_t6_loop i).trips) (c0_i32_157 : BitVec 32) : Fin 5 → Nat :=
  let c0_158 : Index := 0#32
  let c0_159 : Index := 0#32
  let c0_i32_82 : BitVec 32 := 0#32
  let arg2 : BitVec 32 := BitVec.ofNat 32 (i 2).val
  let c0_i32_69 : BitVec 32 := 0#32
  let v107 : BitVec 32 := Scalar.subi arg2 c0_i32_69
  let c0_i32_70 : BitVec 32 := 0#32
  let v109 : BitVec 1 := Scalar.cmpi .sgt v107 c0_i32_70
  let v110 : BitVec 32 := Scalar.extui v109
  let c0_i32_71 : BitVec 32 := 0#32
  let v111 : BitVec 1 := Scalar.cmpi .slt v107 c0_i32_71
  let v112 : BitVec 32 := Scalar.extui v111
  let v113 : BitVec 32 := Scalar.subi v110 v112
  let c4_i32 : BitVec 32 := 4#32
  let c0_i32_72 : BitVec 32 := 0#32
  let v114 : BitVec 1 := Scalar.cmpi .sgt c4_i32 c0_i32_72
  let v115 : BitVec 32 := Scalar.extui v114
  let c0_i32_73 : BitVec 32 := 0#32
  let v116 : BitVec 1 := Scalar.cmpi .slt c4_i32 c0_i32_73
  let v117 : BitVec 32 := Scalar.extui v116
  let v118 : BitVec 32 := Scalar.subi v115 v117
  let v119 : BitVec 1 := Scalar.cmpi .ne v113 v118
  let v120 : BitVec 32 := Scalar.remsi v107 c4_i32
  let c0_i32_74 : BitVec 32 := 0#32
  let v121 : BitVec 1 := Scalar.cmpi .ne v120 c0_i32_74
  let v122 : BitVec 1 := Scalar.andi v119 v121
  let v108 : BitVec 32 := Scalar.divsi v107 c4_i32
  let c1_i32_75 : BitVec 32 := 1#32
  let v123 : BitVec 32 := Scalar.subi v108 c1_i32_75
  let v124 : BitVec 32 := Scalar.select v122 v123 v108
  let c4_i32_81 : BitVec 32 := 4#32
  let v132 : BitVec 32 := Scalar.muli v124 c4_i32_81
  let v133 : BitVec 32 := Scalar.addi c0_i32_82 v132
  let v134 : BitVec 32 := Scalar.subi arg2 v133
  let c0_i32_84 : BitVec 32 := 0#32
  let v136 : BitVec 1 := Scalar.cmpi .sgt v134 c0_i32_84
  let v137 : BitVec 32 := Scalar.extui v136
  let c0_i32_85 : BitVec 32 := 0#32
  let v138 : BitVec 1 := Scalar.cmpi .slt v134 c0_i32_85
  let v139 : BitVec 32 := Scalar.extui v138
  let v140 : BitVec 32 := Scalar.subi v137 v139
  let c2_i32_83 : BitVec 32 := 2#32
  let c0_i32_86 : BitVec 32 := 0#32
  let v141 : BitVec 1 := Scalar.cmpi .sgt c2_i32_83 c0_i32_86
  let v142 : BitVec 32 := Scalar.extui v141
  let c0_i32_87 : BitVec 32 := 0#32
  let v143 : BitVec 1 := Scalar.cmpi .slt c2_i32_83 c0_i32_87
  let v144 : BitVec 32 := Scalar.extui v143
  let v145 : BitVec 32 := Scalar.subi v142 v144
  let v146 : BitVec 1 := Scalar.cmpi .ne v140 v145
  let v147 : BitVec 32 := Scalar.remsi v134 c2_i32_83
  let c0_i32_88 : BitVec 32 := 0#32
  let v148 : BitVec 1 := Scalar.cmpi .ne v147 c0_i32_88
  let v149 : BitVec 1 := Scalar.andi v146 v148
  let v135 : BitVec 32 := Scalar.divsi v134 c2_i32_83
  let c1_i32_89 : BitVec 32 := 1#32
  let v150 : BitVec 32 := Scalar.subi v135 c1_i32_89
  let v151 : BitVec 32 := Scalar.select v149 v150 v135
  let c2_i32_94 : BitVec 32 := 2#32
  let v159 : BitVec 32 := Scalar.muli v151 c2_i32_94
  let v160 : BitVec 32 := Scalar.addi v133 v159
  let c1_i32_111 : BitVec 32 := 1#32
  let c0_i32_102 : BitVec 32 := 0#32
  let v161 : BitVec 32 := Scalar.subi arg2 v160
  let c0_i32_96 : BitVec 32 := 0#32
  let v163 : BitVec 1 := Scalar.cmpi .sgt v161 c0_i32_96
  let v164 : BitVec 32 := Scalar.extui v163
  let c0_i32_97 : BitVec 32 := 0#32
  let v165 : BitVec 1 := Scalar.cmpi .slt v161 c0_i32_97
  let v166 : BitVec 32 := Scalar.extui v165
  let v167 : BitVec 32 := Scalar.subi v164 v166
  let c1_i32_95 : BitVec 32 := 1#32
  let c0_i32_98 : BitVec 32 := 0#32
  let v168 : BitVec 1 := Scalar.cmpi .sgt c1_i32_95 c0_i32_98
  let v169 : BitVec 32 := Scalar.extui v168
  let c0_i32_99 : BitVec 32 := 0#32
  let v170 : BitVec 1 := Scalar.cmpi .slt c1_i32_95 c0_i32_99
  let v171 : BitVec 32 := Scalar.extui v170
  let v172 : BitVec 32 := Scalar.subi v169 v171
  let v173 : BitVec 1 := Scalar.cmpi .ne v167 v172
  let v174 : BitVec 32 := Scalar.remsi v161 c1_i32_95
  let c0_i32_100 : BitVec 32 := 0#32
  let v175 : BitVec 1 := Scalar.cmpi .ne v174 c0_i32_100
  let v176 : BitVec 1 := Scalar.andi v173 v175
  let v162 : BitVec 32 := Scalar.divsi v161 c1_i32_95
  let c1_i32_101 : BitVec 32 := 1#32
  let v177 : BitVec 32 := Scalar.subi v162 c1_i32_101
  let v178 : BitVec 32 := Scalar.select v176 v177 v162
  let v179 : BitVec 32 := Scalar.subi v178 c0_i32_102
  let c1_i32_103 : BitVec 32 := 1#32
  let v181 : BitVec 32 := Scalar.divsi v179 c1_i32_103
  let v182 : BitVec 32 := Scalar.muli v181 c1_i32_103
  let v183 : BitVec 32 := Scalar.addi c0_i32_102 v182
  let c1_i32_105 : BitVec 32 := 1#32
  let arg9 : BitVec 32 := Scf.iv v183 c1_i32_105 k0_t6
  let v204 : BitVec 32 := Scalar.muli c1_i32_111 arg9
  let v205 : BitVec 32 := Scalar.addi v160 v204
  let c0_i32_112 : BitVec 32 := 0#32
  let v206 : BitVec 32 := Scalar.addi v205 c0_i32_112
  let c2_i32_156 : BitVec 32 := 2#32
  let v261 : BitVec 32 := Scalar.muli v206 c2_i32_156
  let v262 : BitVec 32 := Scalar.addi v261 c0_i32_157
  let v263 : Index := Scalar.indexCast v262
  let c0_160 : Index := 0#32
  let c0_161 : Index := 0#32
  ![0, 0, v263.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x32x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaIdeal.lean ====
variable {F : FTy → Type} [FloatOps F] [Named F]
def κ : String → Option EReal := fun
  | "mask" => some ⊥
  | _ => none
-- ==== MlaRef.lean ====
abbrev S2x6x8192x128 : Shape := ⟨4, ![2, 6, 8192, 128]⟩
abbrev S2x6x32x64x256 : Shape := ⟨5, ![2, 6, 32, 64, 256]⟩
abbrev S2x6x32x256x64 : Shape := ⟨5, ![2, 6, 32, 256, 64]⟩
abbrev S2x6x8192x64 : Shape := ⟨4, ![2, 6, 8192, 64]⟩
abbrev S8192 : Shape := ⟨1, ![8192]⟩
abbrev S2x6x8192x8192 : Shape := ⟨4, ![2, 6, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S2x6x8192 : Shape := ⟨3, ![2, 6, 8192]⟩
abbrev S2x6x8192x1 : Shape := ⟨4, ![2, 6, 8192, 1]⟩
abbrev S2x6x64x8192 : Shape := ⟨4, ![2, 6, 64, 8192]⟩
abbrev S2x8192x6x64 : Shape := ⟨4, ![2, 8192, 6, 64]⟩
abbrev S2x8192x384 : Shape := ⟨3, ![2, 8192, 384]⟩

abbrev nBuf : Space → Nat
  | .hbm => 42
  | .vmem => 0
  | .smem => 0
  | _ => 0

abbrev bufTy : (tb : Table) → Fin (tcTables nBuf tb) → BufTy
  | .hbm, ⟨0, _⟩ => ⟨S2x6x8192x128, .bf16⟩
  | .hbm, ⟨1, _⟩ => ⟨S2x6x8192x128, .bf16⟩
  | .hbm, ⟨2, _⟩ => ⟨S2x6x32x64x256, .bf16⟩
  | .hbm, ⟨3, _⟩ => ⟨S2x6x8192x128, .f32⟩
  | .hbm, ⟨4, _⟩ => ⟨S2x6x8192x128, .f32⟩
  | .hbm, ⟨5, _⟩ => ⟨S2x6x32x64x256, .f32⟩
  | .hbm, ⟨6, _⟩ => ⟨S2x6x32x256x64, .f32⟩
  | .hbm, ⟨7, _⟩ => ⟨S2x6x8192x64, .f32⟩
  | .hbm, ⟨8, _⟩ => ⟨S8192, .i32⟩
  | .hbm, ⟨9, _⟩ => ⟨S2x6x8192x8192, .f32⟩
  | .hbm, ⟨10, _⟩ => ⟨S_, .f32⟩
  | .hbm, ⟨11, _⟩ => ⟨S_, .f32⟩
  | .hbm, ⟨12, _⟩ => ⟨S2x6x8192x8192, .f32⟩
  | .hbm, ⟨13, _⟩ => ⟨S2x6x8192x8192, .f32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S_, .f32⟩
  | .hbm, ⟨21, _⟩ => ⟨S2x6x8192x8192, .i1⟩
  | .hbm, ⟨22, _⟩ => ⟨S2x6x8192x8192, .f32⟩
  | .hbm, ⟨23, _⟩ => ⟨S2x6x8192x8192, .f32⟩
  | .hbm, ⟨24, _⟩ => ⟨S_, .f32⟩
  | .hbm, ⟨25, _⟩ => ⟨S2x6x8192, .f32⟩
  | .hbm, ⟨26, _⟩ => ⟨S_, .f32⟩
  | .hbm, ⟨27, _⟩ => ⟨S2x6x8192, .f32⟩
  | .hbm, ⟨28, _⟩ => ⟨S2x6x8192, .f32⟩
  | .hbm, ⟨29, _⟩ => ⟨S2x6x8192x1, .f32⟩
  | .hbm, ⟨30, _⟩ => ⟨S2x6x8192x8192, .f32⟩
  | .hbm, ⟨31, _⟩ => ⟨S2x6x8192x8192, .f32⟩
  | .hbm, ⟨32, _⟩ => ⟨S2x6x8192x8192, .f32⟩
  | .hbm, ⟨33, _⟩ => ⟨S_, .f32⟩
  | .hbm, ⟨34, _⟩ => ⟨S2x6x8192, .f32⟩
  | .hbm, ⟨35, _⟩ => ⟨S2x6x8192x1, .f32⟩
  | .hbm, ⟨36, _⟩ => ⟨S2x6x8192x8192, .f32⟩
  | .hbm, ⟨37, _⟩ => ⟨S2x6x8192x8192, .f32⟩
  | .hbm, ⟨38, _⟩ => ⟨S2x6x64x8192, .f32⟩
  | .hbm, ⟨39, _⟩ => ⟨S2x8192x6x64, .f32⟩
  | .hbm, ⟨40, _⟩ => ⟨S2x8192x384, .f32⟩
  | .hbm, ⟨41, _⟩ => ⟨S2x8192x384, .bf16⟩
  | _, _ => ⟨S2x6x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Ffn.lean ====
abbrev S16384x1024 : Shape := ⟨2, ![16384, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S2x1x1024 : Shape := ⟨3, ![2, 1, 1024]⟩
abbrev S1x1024 : Shape := ⟨2, ![1, 1024]⟩
abbrev S1024x1024 : Shape := ⟨2, ![1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 12
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S2x1x1024, .f32⟩
  | .hbm, ⟨7, _⟩ => ⟨S2x1024x2816, .bf16⟩
  | .hbm, ⟨8, _⟩ => ⟨S2x1024x2816, .bf16⟩
  | .hbm, ⟨9, _⟩ => ⟨S2x2816x1024, .bf16⟩
  | .hbm, ⟨10, _⟩ => ⟨S1x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S16384x1024 : Shape := ⟨2, ![16384, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== Last.lean ====
abbrev S16384x1024 : Shape := ⟨2, ![16384, 1024]⟩
abbrev S16384x384 : Shape := ⟨2, ![16384, 384]⟩
abbrev S16384x256 : Shape := ⟨2, ![16384, 256]⟩
abbrev S2x1024x1024 : Shape := ⟨3, ![2, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S2x1x1024 : Shape := ⟨3, ![2, 1, 1024]⟩
abbrev S1x1024 : Shape := ⟨2, ![1, 1024]⟩
abbrev S1024x1024 : Shape := ⟨2, ![1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1024x384 : Shape := ⟨2, ![1024, 384]⟩
abbrev S1024x256 : Shape := ⟨2, ![1024, 256]⟩
abbrev S1x1024x1024 : Shape := ⟨3, ![1, 1024, 1024]⟩
abbrev S1024x2816 : Shape := ⟨2, ![1024, 2816]⟩
abbrev S1x384x1024 : Shape := ⟨3, ![1, 384, 1024]⟩
abbrev S384x1024 : Shape := ⟨2, ![384, 1024]⟩
abbrev S1x256x1024 : Shape := ⟨3, ![1, 256, 1024]⟩
abbrev S256x1024 : Shape := ⟨2, ![256, 1024]⟩
abbrev S1024x1 : Shape := ⟨2, ![1024, 1]⟩
abbrev S1x1024x256 : Shape := ⟨3, ![1, 1024, 256]⟩
abbrev S2816x1024 : Shape := ⟨2, ![2816, 1024]⟩

abbrev nBuf : Space → Nat
  | .hbm => 19
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x384, .bf16⟩
  | .hbm, ⟨2, _⟩ => ⟨S16384x384, .bf16⟩
  | .hbm, ⟨3, _⟩ => ⟨S16384x384, .bf16⟩
  | .hbm, ⟨4, _⟩ => ⟨S16384x384, .bf16⟩
  | .hbm, ⟨5, _⟩ => ⟨S16384x256, .bf16⟩
  | .hbm, ⟨6, _⟩ => ⟨S2x1024x1024, .f32⟩
  | .hbm, ⟨7, _⟩ => ⟨S2x1024, .f32⟩
  | .hbm, ⟨8, _⟩ => ⟨S2x1024x2816, .f32⟩
  | .hbm, ⟨9, _⟩ => ⟨S2x1024x2816, .f32⟩
  | .hbm, ⟨10, _⟩ => ⟨S2x2816x1024, .f32⟩
  | .hbm, ⟨11, _⟩ => ⟨S1024, .f32⟩
  | .hbm, ⟨12, _⟩ => ⟨S2x1x1024, .f32⟩
  | .hbm, ⟨13, _⟩ => ⟨S2x1024x2816, .bf16⟩
  | .hbm, ⟨14, _⟩ => ⟨S2x1024x2816, .bf16⟩
  | .hbm, ⟨15, _⟩ => ⟨S2x2816x1024, .bf16⟩
  | .hbm, ⟨16, _⟩ => ⟨S1x1024, .f32⟩
  | .hbm, ⟨17, _⟩ => ⟨S2x1024x1024, .bf16⟩
  | .hbm, ⟨18, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S1024x384, .bf16⟩
  | .local _ .vmem, ⟨8, _⟩ => ⟨S1024x384, .bf16⟩
  | .local _ .vmem, ⟨9, _⟩ => ⟨S1024x384, .bf16⟩
  | .local _ .vmem, ⟨10, _⟩ => ⟨S1024x384, .bf16⟩
  | .local _ .vmem, ⟨11, _⟩ => ⟨S1024x384, .bf16⟩
  | .local _ .vmem, ⟨12, _⟩ => ⟨S1024x384, .bf16⟩
  | .local _ .vmem, ⟨13, _⟩ => ⟨S1024x384, .bf16⟩
  | .local _ .vmem, ⟨14, _⟩ => ⟨S1024x384, .bf16⟩
  | .local _ .vmem, ⟨15, _⟩ => ⟨S1024x256, .bf16⟩
  | .local _ .vmem, ⟨16, _⟩ => ⟨S1024x256, .bf16⟩
  | .local _ .vmem, ⟨17, _⟩ => ⟨S1x1024x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== LastRefIdeal.lean ====
abbrev S16384x1024 : Shape := ⟨2, ![16384, 1024]⟩
abbrev S16384x384 : Shape := ⟨2, ![16384, 384]⟩
abbrev S16384x256 : Shape := ⟨2, ![16384, 256]⟩
abbrev S2x1024x1024 : Shape := ⟨3, ![2, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩

abbrev nBuf : Space → Nat
  | .hbm => 81
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x384, .bf16⟩
  | .hbm, ⟨2, _⟩ => ⟨S16384x384, .bf16⟩
  | .hbm, ⟨3, _⟩ => ⟨S16384x384, .bf16⟩
  | .hbm, ⟨4, _⟩ => ⟨S16384x384, .bf16⟩
  | .hbm, ⟨5, _⟩ => ⟨S16384x256, .bf16⟩
  | .hbm, ⟨6, _⟩ => ⟨S2x1024x1024, .f32⟩
  | .hbm, ⟨7, _⟩ => ⟨S2x1024, .f32⟩
  | .hbm, ⟨8, _⟩ => ⟨S2x1024x2816, .f32⟩
  | .hbm, ⟨9, _⟩ => ⟨S2x1024x2816, .f32⟩
  | .hbm, ⟨10, _⟩ => ⟨S2x2816x1024, .f32⟩
  | .hbm, ⟨11, _⟩ => ⟨S1024, .f32⟩
  | .hbm, ⟨12, _⟩ => ⟨S16384x384, .f32⟩
  | .hbm, ⟨13, _⟩ => ⟨S16384x384, .f32⟩
  | .hbm, ⟨14, _⟩ => ⟨S16384x384, .f32⟩
  | .hbm, ⟨15, _⟩ => ⟨S16384x384, .f32⟩
  | .hbm, ⟨16, _⟩ => ⟨S16384x256, .f32⟩
  | .hbm, ⟨17, _⟩ => ⟨S16384x384, .f32⟩
  | .hbm, ⟨18, _⟩ => ⟨S16384x384, .f32⟩
  | .hbm, ⟨19, _⟩ => ⟨S16384x1024, .f32⟩
  | .hbm, ⟨20, _⟩ => ⟨S1x1024x1024, .f32⟩
  | .hbm, ⟨21, _⟩ => ⟨S1024x1024, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S1x1024x2816, .f32⟩
  | .hbm, ⟨43, _⟩ => ⟨S1024x2816, .f32⟩
  | .hbm, ⟨44, _⟩ => ⟨S1x1024x2816, .f32⟩
  | .hbm, ⟨45, _⟩ => ⟨S1024x2816, .f32⟩
  | .hbm, ⟨46, _⟩ => ⟨S1x2816x1024, .f32⟩
  | .hbm, ⟨47, _⟩ => ⟨S2816x1024, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S_, .f32⟩
  | .hbm, ⟨52, _⟩ => ⟨S16384x2816, .f32⟩
  | .hbm, ⟨53, _⟩ => ⟨S16384x2816, .f32⟩
  | .hbm, ⟨54, _⟩ => ⟨S_, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S16384x2816, .f32⟩
  | .hbm, ⟨59, _⟩ => ⟨S16384x2816, .f32⟩
  | .hbm, ⟨60, _⟩ => ⟨S16384x1024, .f32⟩
  | .hbm, ⟨61, _⟩ => ⟨S_, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S1x1024, .f32⟩
  | .hbm, ⟨79, _⟩ => ⟨S16384x1024, .f32⟩
  | .hbm, ⟨80, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_3 : Ref sig .tc := ⟨.hbm, 66, rfl⟩
abbrev main_v42 : Ref sig .tc := ⟨.hbm, 67, rfl⟩
abbrev main_v43 : Ref sig .tc := ⟨.hbm, 68, rfl⟩
abbrev main_cst_4 : Ref sig .tc := ⟨.hbm, 69, rfl⟩
abbrev main_v44 : Ref sig .tc := ⟨.hbm, 70, rfl⟩
abbrev main_v45 : Ref sig .tc := ⟨.hbm, 71, rfl⟩
abbrev main_cst_5 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩

abbrev nD : Nat := 1
abbrev τ : Topo := Topo.v7x

variable {F : FTy → Type} [FloatOps F]
-- ==== Proof.Rows.lean ====
/-
One row of the feed-forward block, as a function on the extended reals: the root-mean-square norm
of a row, the gated unit of one hidden column, and the whole row of the block.
-/
module

public import Idealize.ShloMosaic.PureOps.Ideal.Laws

@[expose] public section

noncomputable section

namespace Rows

open Idealize.ShloMosaic

/-- The row `x` over its root mean square (of 1024 entries, shifted by 1e-6), scaled by the gain `g`. -/
def rms (x g : Fin 1024 → EReal) (k : Fin 1024) : EReal :=
  x k * Ideal.rsqrt (Ideal.div (∑ j, x j * x j) (Ideal.ofBits .f32 0x44800000#32) + Ideal.ofBits .f32 0x358637BD#32) * g k

/-- The gated unit of one hidden column: `silu (h · a) * (h · b)`. -/
def unit (h a b : Fin 1024 → EReal) : EReal :=
  (∑ k, h k * a k) * Ideal.logistic (∑ k, h k * a k) * ∑ k, h k * b k

/-- One entry of the row: the row plus half of the down projection of its gated units. -/
def ffn (x g : Fin 1024 → EReal) (a b : Fin 1024 → Fin 2816 → EReal) (d : Fin 2816 → Fin 1024 → EReal) (n : Fin 1024) : EReal :=
  x n + Ideal.ofBits .f32 0x3F000000#32 * ∑ f, unit (rms x g) (fun k => a k f) (fun k => b k f) * d f n

/-- One entry of a row joined of three pieces, of 384, 384 and 256 columns, times a 1024 by 1024 matrix. -/
def mix (a b : Fin 384 → EReal) (c : Fin 256 → EReal) (w : Fin 1024 → Fin 1024 → EReal) (n : Fin 1024) : EReal :=
  (∑ k : Fin 384, a k * w ⟨k, by omega⟩ n) + (∑ k : Fin 384, b k * w ⟨384 + k, by omega⟩ n) + ∑ k : Fin 256, c k * w ⟨768 + k, by omega⟩ n

/-- A row after the mixer's projection: the row plus its mixed pieces, the middle piece a sum of three. -/
def after (x : Fin 1024 → EReal) (o₀ o₁ o₂ o₃ : Fin 384 → EReal) (o₄ : Fin 256 → EReal) (w : Fin 1024 → Fin 1024 → EReal) (n : Fin 1024) : EReal :=
  x n + mix o₀ (fun k => o₁ k + o₂ k + o₃ k) o₄ w n

end Rows
-- ==== Proof.Chunks.lean ====
/-
The gated units are computed in chunks of 256 hidden columns, each stored beside the last. What the
chunks leave, read at one row and one hidden column.
-/
module

public import proofs.«01_k».proof.Proof.Rows
public import Idealize.ShloMosaic.Lib.Pointwise
public import Idealize.ShloMosaic.Lib.Pipeline.ValueKit.Acc
public import Idealize.ShloMosaic.Lib.Pipeline.ValueKit.Tiles

@[expose] public section

set_option maxRecDepth 16384

noncomputable section

namespace Chunks

open Idealize.ShloMosaic Idealize.SL

/-- The up projections of the block as they lie in memory. -/
abbrev Wide : Shape := ⟨3, ![1, 1024, 2816]⟩
/-- The whole row of gated units. -/
abbrev Row : Shape := ⟨2, ![1024, 2816]⟩

/-- A chunk of gated units at one entry, over the rows `h` and 256 columns `a`, `b` of the up projections. -/
def Gated (h : (⟨2, ![1024, 1024]⟩ : Shape).Idx → EReal) (a b : (⟨3, ![1, 1024, 256]⟩ : Shape).Idx → EReal)
    (w : (⟨2, ![1024, 256]⟩ : Shape).Idx → EReal) : Prop :=
  ∀ (r : Fin 1024) (f : Fin 256), w (ix2 r f) = Rows.unit (fun k => h (ix2 r k)) (fun k => a (ix3 0 k f)) (fun k => b (ix3 0 k f))

/-- The 256 columns of a projection from column `o` on. -/
abbrev part (A : Wide.Idx → EReal) (o : ℕ) (inb : ∀ a, (![0, 0, o] : Fin 3 → ℕ) a + (![1, 1024, 256] : Fin 3 → ℕ) a ≤ Wide.size a) :
    (⟨3, ![1, 1024, 256]⟩ : Shape).Idx → EReal :=
  View.ld (Val := Elt Ideal) (e' := .bf16) A (Rect.unit (s := Wide) ![0, 0, o] ![1, 1024, 256] inb)

/-- A column of the chunk at offset `o` is that column of the projection. -/
theorem column (A : Wide.Idx → EReal) (o : ℕ) (inb : ∀ a, (![0, 0, o] : Fin 3 → ℕ) a + (![1, 1024, 256] : Fin 3 → ℕ) a ≤ Wide.size a)
    (k : Fin 1024) (f : Fin 256) (g : Fin 2816) (hg : (g : ℕ) = o + f) :
    part A o inb (ix3 0 k f) = A (ix3 0 k g) := by
  refine View.ld_unit_apply_of (Val := Elt Ideal) (e := .bf16) A _ _ inb _ _ fun a => ?_
  match a with
  | ⟨0, _⟩ => rfl
  | ⟨1, _⟩ => exact (Nat.zero_add _).symm
  | ⟨2, _⟩ => exact hg

/-- Where the chunk at offset `o` lies over the column `g`, it holds the gated unit of `g`. -/
theorem tile (h : (⟨2, ![1024, 1024]⟩ : Shape).Idx → EReal) (A B : Wide.Idx → EReal) (o : ℕ)
    (ia ib : ∀ a, (![0, 0, o] : Fin 3 → ℕ) a + (![1, 1024, 256] : Fin 3 → ℕ) a ≤ Wide.size a) (w : (⟨2, ![1024, 256]⟩ : Shape).Idx → EReal)
    (hw : Gated h (part A o ia)
      (part B o ib) w)
    (r : Fin 1024) (g : Fin 2816) :
    View.TileAt (Val := Elt Ideal) (S := Row) (e := .bf16) (ix2 r g) ![0, o] ![1024, 256] w
      (Rows.unit (fun k => h (ix2 r k)) (fun k => A (ix3 0 k g)) (fun k => B (ix3 0 k g))) := by
  intro x hx
  obtain ⟨r', f, rfl⟩ : ∃ (a : Fin 1024) (b : Fin 256), x = ix2 a b := ⟨x 0, x 1, eq_ix2 x⟩
  have h0 : (r : ℕ) = 0 + r' := hx 0
  have h1 : (g : ℕ) = o + f := hx 1
  obtain rfl : r = r' := Fin.ext (by omega)
  rw [hw r f]
  congr 1 <;> funext k
  · exact column A o ia k f g h1
  · exact column B o ib k f g h1

end Chunks
-- ==== Proof.FfnRows.lean ====
/-
The values the first feed-forward kernel stores, read at a row and a column: the normed rows, the
gated units chunk by chunk, and the final row.
-/
module

public import proofs.«01_k».proof.Proof.Gen.FfnIdeal.Skeleton
public import proofs.«01_k».proof.Proof.Chunks
public import Idealize.ShloMosaic.Lib.Pointwise

@[expose] public section

set_option maxRecDepth 16384

noncomputable section

namespace Cert.FfnIdeal.Hand

open Cert.FfnIdeal Cert.FfnIdeal.Gen Idealize.ShloMosaic

theorem normed (x : Vec Ideal S1024x1024 .f32) (g : Vec Ideal S1x1x1024 .f32) (r k : Fin 1024) :
    k0_pay2 x g (ix2 r k) = Rows.rms (fun j => x (ix2 r j)) (fun j => g (ix3 0 0 j)) k := by
  pointwise [k0_pay2, Rows.rms]

theorem gated3 (x : Vec Ideal S1024x1024 .f32) (g : Vec Ideal S1x1x1024 .f32) (a b : Vec Ideal S1x1024x256 .bf16) :
    Chunks.Gated (k0_pay2 x g) a b (k0_pay3 x g a b) := by
  intro r f; pointwise [k0_pay3, Rows.unit]

theorem gated5 (x : Vec Ideal S1024x1024 .f32) (g : Vec Ideal S1x1x1024 .f32) (a b : Vec Ideal S1x1024x256 .bf16) :
    Chunks.Gated (k0_pay2 x g) a b (k0_pay5 (k0_pay2 x g) (k0_pay4 x g a) b) := by
  intro r f; pointwise [k0_pay5, k0_pay4, Rows.unit]

theorem gated6 (h : FVec Ideal S1024x1024 .bf16) (a b : Vec Ideal S1x1024x256 .bf16) : Chunks.Gated h a b (k0_pay6 h a b) := by
  intro r f; pointwise [k0_pay6, Rows.unit]

theorem gated7 (h : FVec Ideal S1024x1024 .bf16) (a b : Vec Ideal S1x1024x256 .bf16) : Chunks.Gated h a b (k0_pay7 h a b) := by
  intro r f; pointwise [k0_pay7, Rows.unit]

theorem gated8 (h : FVec Ideal S1024x1024 .bf16) (a b : Vec Ideal S1x1024x256 .bf16) : Chunks.Gated h a b (k0_pay8 h a b) := by
  intro r f; pointwise [k0_pay8, Rows.unit]

theorem gated9 (h : FVec Ideal S1024x1024 .bf16) (a b : Vec Ideal S1x1024x256 .bf16) : Chunks.Gated h a b (k0_pay9 h a b) := by
  intro r f; pointwise [k0_pay9, Rows.unit]

theorem gated12 (h : FVec Ideal S1024x1024 .bf16) (a b : Vec Ideal S1x1024x256 .bf16) : Chunks.Gated h a b (k0_pay12 h a b) := by
  intro r f; pointwise [k0_pay12, Rows.unit]

theorem gated13 (h : FVec Ideal S1024x1024 .bf16) (a b : Vec Ideal S1x1024x256 .bf16) : Chunks.Gated h a b (k0_pay13 h a b) := by
  intro r f; pointwise [k0_pay13, Rows.unit]

theorem gated14 (h : FVec Ideal S1024x1024 .bf16) (a b : Vec Ideal S1x1024x256 .bf16) : Chunks.Gated h a b (k0_pay14 h a b) := by
  intro r f; pointwise [k0_pay14, Rows.unit]

theorem gated15 (h : FVec Ideal S1024x1024 .bf16) (a b : Vec Ideal S1x1024x256 .bf16) : Chunks.Gated h a b (k0_pay15 h a b) := by
  intro r f; pointwise [k0_pay15, Rows.unit]

theorem gated11 (h : FVec Ideal S1024x1024 .bf16) (a b : Vec Ideal S1x1024x256 .bf16) : Chunks.Gated h a b (k0_pay11 h (k0_pay10 h a) b) := by
  intro r f; pointwise [k0_pay11, k0_pay10, Rows.unit]

theorem last (x : Vec Ideal S1024x1024 .f32) (w : Vec Ideal S1024x2816 .bf16) (d : Vec Ideal S1x2816x1024 .bf16) (r n : Fin 1024) :
    k0_pay1 x (k0_pay16 w d) (Scalar.ofBits .f32 1056964608#32) (ix2 r n)
      = x (ix2 r n) + Ideal.ofBits .f32 0x3F000000#32 * ∑ f : Fin 2816, w (ix2 r f) * d (ix3 0 f n) := by
  pointwise [k0_pay1, k0_pay16]

/-- The row of the block, once the gated units `w` of the row are known. -/
theorem row (x : Vec Ideal S1024x1024 .f32) (g : Vec Ideal S1x1x1024 .f32) (a b : Vec Ideal S1x1024x2816 .bf16) (d : Vec Ideal S1x2816x1024 .bf16)
    (w : Vec Ideal S1024x2816 .bf16) (r n : Fin 1024)
    (hw : ∀ f : Fin 2816, w (ix2 r f) = Rows.unit (fun k => k0_pay2 x g (ix2 r k)) (fun k => a (ix3 0 k f)) (fun k => b (ix3 0 k f))) :
    k0_pay1 x (k0_pay16 w d) (Scalar.ofBits .f32 1056964608#32) (ix2 r n)
      = Rows.ffn (fun k => x (ix2 r k)) (fun k => g (ix3 0 0 k)) (fun k f => a (ix3 0 k f)) (fun k f => b (ix3 0 k f)) (fun f n => d (ix3 0 f n)) n := by
  have hn : (fun k => k0_pay2 x g (ix2 r k)) = Rows.rms (fun j => x (ix2 r j)) (fun j => g (ix3 0 0 j)) := funext fun k => normed x g r k
  rw [last]
  unfold Rows.ffn
  exact congrArg (_ + _ * ·) (Finset.sum_congr rfl fun f _ => by rw [hw f, hn])

end Cert.FfnIdeal.Hand
-- ==== Proof.FfnBlock.lean ====
/-
The block the first feed-forward kernel writes at one grid point, read at a row and a column.
-/
module

public import proofs.«01_k».proof.Proof.Gen.FfnIdeal.Value
public import proofs.«01_k».proof.Proof.FfnRows
public import Idealize.ShloMosaic.Lib.Pipeline.ValueKit.Acc

@[expose] public section

set_option maxRecDepth 16384

noncomputable section

namespace Cert.FfnIdeal.Hand

open Cert.FfnIdeal Cert.FfnIdeal.Gen Idealize.ShloMosaic Idealize.ShloMosaic.TcCoe Idealize.SL.Sem

variable (m : (ℓ : Loc nD τ sig) → Buf (Elt Ideal) ℓ)

theorem block (c : Dev nD) (t : Fin cfg0.N) (r n : Fin 1024) :
    outsAt0 m c t (ix2 r n) = Rows.ffn (fun k => iblk m c 0 t (ix2 r k)) (fun k => iblk m c 1 t (ix3 0 0 k))
      (fun k f => iblk m c 2 t (ix3 0 k f)) (fun k f => iblk m c 3 t (ix3 0 k f)) (fun f n => iblk m c 4 t (ix3 0 f n)) n := by
  unfold outsAt0
  frame_out
  refine row _ _ _ _ _ _ r n fun f => ?_
  rw [View.readCov_eq_canon_ld]
  swap
  · exact View.cover_of_tiled_head _ _ _ rfl
  refine (View.ld_unit_apply_of _ _ _ _ _ (ix2 r f) fun a => ?_).trans ?_
  · match a with
    | ⟨0, _⟩ => exact (Nat.zero_add _).symm
    | ⟨1, _⟩ => exact (Nat.zero_add _).symm
  refine View.canon_eq_of_allAt _ _ _ (View.cover_of_tiled_head _ _ _ rfl _) ?_
  refine View.allAt_cons_unit _ _ _ _ _ (Chunks.tile _ (iblk m c 2 t) (iblk m c 3 t) _ _ _ _ (gated15 _ _ _) r f) ?_
  refine View.allAt_cons_unit _ _ _ _ _ (Chunks.tile _ (iblk m c 2 t) (iblk m c 3 t) _ _ _ _ (gated14 _ _ _) r f) ?_
  refine View.allAt_cons_unit _ _ _ _ _ (Chunks.tile _ (iblk m c 2 t) (iblk m c 3 t) _ _ _ _ (gated13 _ _ _) r f) ?_
  refine View.allAt_cons_unit _ _ _ _ _ (Chunks.tile _ (iblk m c 2 t) (iblk m c 3 t) _ _ _ _ (gated12 _ _ _) r f) ?_
  refine View.allAt_cons_unit _ _ _ _ _ (Chunks.tile _ (iblk m c 2 t) (iblk m c 3 t) _ _ _ _ (gated11 _ _ _) r f) ?_
  refine View.allAt_cons_unit _ _ _ _ _ (Chunks.tile _ (iblk m c 2 t) (iblk m c 3 t) _ _ _ _ (gated9 _ _ _) r f) ?_
  refine View.allAt_cons_unit _ _ _ _ _ (Chunks.tile _ (iblk m c 2 t) (iblk m c 3 t) _ _ _ _ (gated8 _ _ _) r f) ?_
  refine View.allAt_cons_unit _ _ _ _ _ (Chunks.tile _ (iblk m c 2 t) (iblk m c 3 t) _ _ _ _ (gated7 _ _ _) r f) ?_
  refine View.allAt_cons_unit _ _ _ _ _ (Chunks.tile _ (iblk m c 2 t) (iblk m c 3 t) _ _ _ _ (gated6 _ _ _) r f) ?_
  refine View.allAt_cons_unit _ _ _ _ _ (Chunks.tile _ (iblk m c 2 t) (iblk m c 3 t) _ _ _ _ (gated5 _ _ _ _) r f) ?_
  refine View.allAt_cons_unit _ _ _ _ _ (Chunks.tile _ (iblk m c 2 t) (iblk m c 3 t) _ _ _ _ (gated3 _ _ _ _) r f) ?_
  exact View.allAt_nil _ _

end Cert.FfnIdeal.Hand
-- ==== Proof.FfnValue.lean ====
/-
The array the first feed-forward kernel leaves: every row of the block, as a function of the arguments.
-/
module

public import proofs.«01_k».proof.Proof.FfnBlock
public import Idealize.ShloMosaic.Lib.Pipeline.ValueKit

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block's result, row by row, from the program's arguments. -/
def whole (x : S16384x1024.Idx → EReal) (g : S2x1024.Idx → EReal) (a b : S2x1024x2816.Idx → EReal) (d : S2x2816x1024.Idx → EReal)
    (i : S16384x1024.Idx) : EReal :=
  Rows.ffn (fun k => x (ix2 (i 0) k)) (fun k => g (ix2 0 k)) (fun k f => a (ix3 0 k f)) (fun k f => b (ix3 0 k f)) (fun f n => d (ix3 0 f n)) (i 1)

theorem V_gain (c : Dev nD) (u : Fin 2) (v : Fin 1) (k : Fin 1024) :
    V m c main_v0 (ix3 u v k) = m ((c : Thread nD τ).loc main_arg1) (ix2 u k) := by
  have e : V m c main_v0 = broadcastInDim S2x1x1024 ![0, 2] bcast_S2x1024_S2x1x1024_0_2 (m ((c : Thread nD τ).loc main_arg1)) := by
    unfold V
    simp only [hostOps0, List.flatten_cons, List.flatten_nil, List.append_nil, List.cons_append, List.nil_append]
    after_results_simp
  rw [e]
  pointwise

theorem V_gate (c : Dev nD) (i : S2x1024x2816.Idx) : V m c main_v1 i = m ((c : Thread nD τ).loc main_arg2) i := by
  have e : V m c main_v1 = truncf (F := Ideal) .bf16 (m ((c : Thread nD τ).loc main_arg2)) bitsLt_bf16_f32 := by
    unfold V
    simp only [hostOps0, List.flatten_cons, List.flatten_nil, List.append_nil, List.cons_append, List.nil_append]
    after_results_simp
  rw [e]; rfl

theorem V_up (c : Dev nD) (i : S2x1024x2816.Idx) : V m c main_v2 i = m ((c : Thread nD τ).loc main_arg3) i := by
  have e : V m c main_v2 = truncf (F := Ideal) .bf16 (m ((c : Thread nD τ).loc main_arg3)) bitsLt_bf16_f32 := by
    unfold V
    simp only [hostOps0, List.flatten_cons, List.flatten_nil, List.append_nil, List.cons_append, List.nil_append]
    after_results_simp
  rw [e]; rfl

theorem V_down (c : Dev nD) (i : S2x2816x1024.Idx) : V m c main_v3 i = m ((c : Thread nD τ).loc main_arg4) i := by
  have e : V m c main_v3 = truncf (F := Ideal) .bf16 (m ((c : Thread nD τ).loc main_arg4)) bitsLt_bf16_f32 := by
    unfold V
    simp only [hostOps0, List.flatten_cons, List.flatten_nil, List.append_nil, List.cons_append, List.nil_append]
    after_results_simp
  rw [e]; rfl

theorem e0 : ∀ t : Fin cfg0.N, win0_0.index t = ![t.val, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0, 0] := (by decide +kernel : ∀ t : Fin grid0.N, _)
theorem e3 : ∀ t : Fin cfg0.N, win0_3.index t = ![0, 0, 0] := (by decide +kernel : ∀ t : Fin grid0.N, _)
theorem e4 : ∀ t : Fin cfg0.N, win0_4.index t = ![0, 0, 0] := (by decide +kernel : ∀ t : Fin grid0.N, _)
theorem e6 : ∀ t : Fin cfg0.N, win0_6.index t = ![t.val, 0] := (by decide +kernel : ∀ t : Fin grid0.N, _)

theorem final (c : Dev nD) : (dats m 0 c).arrAt 6 cfg0.N = whole (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  obtain ⟨r, n, rfl⟩ : ∃ (r n : Fin 1024), y = ix2 r n := ⟨y 0, y 1, eq_ix2 y⟩
  rw [block]
  unfold whole
  have hn : (win0_6.blk t).view.emb (ix2 r n) 1 = n := Fin.ext (by blk_simp [e6])
  rw [hn]
  congr 1
  · funext k
    blk_simp [iblk]
    rw [V_main_arg0]
    congr 1
    blk_ext [e0, e6]
  · funext k
    blk_simp [iblk]
    refine (congrArg (V m c main_v0) ?_).trans (V_gain m c 0 0 k)
    blk_ext [e1]
  · funext k f
    blk_simp [iblk]
    rw [V_gate]
    congr 1
    blk_ext [e2]
  · funext k f
    blk_simp [iblk]
    rw [V_up]
    congr 1
    blk_ext [e3]
  · funext f k
    blk_simp [iblk]
    rw [V_down]
    congr 1
    blk_ext [e4]

end Cert.FfnIdeal.Hand
-- ==== Proof.FfnRefRow.lean ====
/-
The feed-forward reference read at a row and a column.
-/
module

public import proofs.«01_k».proof.Proof.Gen.FfnRefIdeal.Read
public import proofs.«01_k».proof.Proof.Rows
public import Idealize.ShloMosaic.Lib.Pointwise

@[expose] public section

set_option maxRecDepth 16384

noncomputable section

namespace Cert.FfnRefIdeal.Hand

open Cert.FfnRefIdeal Cert.FfnRefIdeal.Gen Cert.FfnRefIdeal.Read Idealize.ShloMosaic

variable (x : (⟨S16384x1024, .f32⟩ : BufTy).Contents (Elt Ideal)) (g : (⟨S2x1024, .f32⟩ : BufTy).Contents (Elt Ideal))
  (a b : (⟨S2x1024x2816, .f32⟩ : BufTy).Contents (Elt Ideal)) (d : (⟨S2x2816x1024, .f32⟩ : BufTy).Contents (Elt Ideal))

theorem normed (r : Fin 16384) (k : Fin 1024) :
    val_main_v14 (F := Ideal) x g (ix2 r k) = Rows.rms (fun j => x (ix2 r j)) (fun j => g (ix2 0 j)) k := by
  pointwise [val_main_v14, val_main_v13, val_main_v12, val_main_v11, val_main_v10, val_main_v9, val_main_v8, val_main_v7, val_main_cst_1,
    val_main_v6, val_main_v5, val_main_cst_0, val_main_v4, val_main_v3, val_main_cst, val_main_v2, val_main_v1, val_main_v0, Rows.rms]

theorem gated (r : Fin 16384) (f : Fin 2816) :
    val_main_v24 (F := Ideal) x g a b (ix2 r f)
      = Rows.unit (fun k => val_main_v14 (F := Ideal) x g (ix2 r k)) (fun k => a (ix3 0 k f)) (fun k => b (ix3 0 k f)) := by
  unfold val_main_v24 val_main_v23 val_main_v22 val_main_call0_v5 val_main_call0_v3 val_main_call0_v1 val_main_call0_v0 val_main_v21
  generalize val_main_v14 (F := Ideal) x g = h
  pointwise [val_main_call0_v4, val_main_call0_cst_0, val_main_call0_v2, val_main_call0_cst, val_main_v18, val_main_v17, val_main_v16, val_main_v15,
    Rows.unit, Ideal.logistic]

theorem row (r : Fin 16384) (n : Fin 1024) :
    val_main_v28 (F := Ideal) x g a b d (ix2 r n)
      = Rows.ffn (fun k => x (ix2 r k)) (fun k => g (ix2 0 k)) (fun k f => a (ix3 0 k f)) (fun k f => b (ix3 0 k f)) (fun f n => d (ix3 0 f n)) n := by
  have hn : (fun k => val_main_v14 (F := Ideal) x g (ix2 r k)) = Rows.rms (fun j => x (ix2 r j)) (fun j => g (ix2 0 j)) :=
    funext fun k => normed x g r k
  have hg : ∀ f, val_main_v24 (F := Ideal) x g a b (ix2 r f) = Rows.unit (Rows.rms (fun j => x (ix2 r j)) (fun j => g (ix2 0 j)))
      (fun k => a (ix3 0 k f)) (fun k => b (ix3 0 k f)) := fun f => (gated x g a b r f).trans (by rw [hn])
  unfold val_main_v28 val_main_v27 val_main_v26 val_main_cst_2 val_main_v25 Rows.ffn
  generalize val_main_v24 (F := Ideal) x g a b = w at hg
  simp only [← hg]
  pointwise [val_main_v20, val_main_v19]

end Cert.FfnRefIdeal.Hand
-- ==== Proof.FfnClaims.lean ====
/-
The claims about the first feed-forward block: its runs leave the arguments alone, and on the
extended reals the kernel's rows are the reference's rows.
-/
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.FfnValue
public import proofs.«01_k».proof.Proof.Gen.FfnRefIdeal
public import proofs.«01_k».proof.Proof.FfnRefRow
public import Idealize.ShloMosaic.Lib.Quiescent

@[expose] public section

noncomputable section

namespace Cert.Proof.FfnClaims

open Idealize.ShloMosaic Idealize.ShloMosaic.TcCoe Idealize.SL.Sem

theorem frame : Cert.quiescent_Ffn := fun m ρ _ => Cert.Ffn.Gen.frame m ρ
theorem frameIdeal : Cert.quiescent_FfnIdeal := fun m ρ _ => Cert.FfnIdeal.Gen.frame m ρ

theorem frameRef : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The kernel and the reference end at the same rows. -/
theorem algebraic : Cert.algebraic_FfnIdeal_FfnRefIdeal := by
  intro m ρ m' ρ' _ hagree
  refine ⟨fun c => (Cert.FfnIdeal.Gen.dats m 0 c).arrAt 6 Cert.FfnIdeal.cfg0.N, Cert.FfnIdeal.Value.run_blocks (F := Ideal) m ρ, ?_⟩
  refine (θ_run Cert.FfnRefIdeal.defs _ _).mono (fun r h c => ⟨(h c).1.trans ?_, (h c).2⟩) (Cert.FfnRefIdeal.Value.run (F := Ideal) m' ρ')
  show _ = (Cert.FfnIdeal.Gen.dats m 0 c).arrAt 6 Cert.FfnIdeal.cfg0.N
  rw [Cert.FfnRefIdeal.Read.val_main_v28_eq, Cert.FfnIdeal.Hand.final, (hagree c).1, (hagree c).2.1, (hagree c).2.2.1, (hagree c).2.2.2.1,
    (hagree c).2.2.2.2.1]
  funext i
  obtain ⟨r, n, rfl⟩ : ∃ (r : Fin 16384) (n : Fin 1024), i = ix2 r n := ⟨i 0, i 1, eq_ix2 i⟩
  exact Cert.FfnRefIdeal.Hand.row _ _ _ _ _ r n

end Cert.Proof.FfnClaims
-- ==== Proof.MlaFrames.lean ====
/-
The references of the attention call leave the arguments alone, over words and over the extended reals.
-/
module

public import proofs.«01_k».proof.Defs
public import proofs.«01_k».proof.Proof.Gen.MlaRef.Run
public import proofs.«01_k».proof.Proof.Gen.MlaRefIdeal.Run
public import Idealize.ShloMosaic.Lib.Quiescent

@[expose] public section

noncomputable section

namespace Cert.Proof.MlaFrames

open Idealize.ShloMosaic Idealize.ShloMosaic.TcCoe Idealize.SL.Sem

theorem frameRef : Cert.quiescent_MlaRefIdeal := fun m ρ _ =>
  (θ_run Cert.MlaRefIdeal.defs _ _).mono (fun r h => ⟨fun c => (h c).2, sem_eq_zero_of_no_sems (by decide) r.2⟩)
    (Cert.MlaRefIdeal.Value.run (F := Ideal) m ρ)

theorem frameRefWord : Cert.quiescent_MlaRef := fun m ρ _ =>
  (θ_run Cert.MlaRef.defs _ _).mono (fun r h => ⟨fun c => (h c).2, sem_eq_zero_of_no_sems (by decide) r.2⟩)
    (Cert.MlaRef.Value.run (F := Bits) m ρ)

end Cert.Proof.MlaFrames
-- ==== Proof.Softmax.lean ====
/-
  The softmax of one query row on the extended reals: the running form, which carries a shift and a
  sum of weighted values and rescales them when the shift moves, and the quotient form, which divides
  every weight by the sum of all of them. The scores are real or `-∞` (a masked key); the values are
  arbitrary extended reals.
-/
module

public import Idealize.ShloMosaic.PureOps.Ideal
public import Idealize.ShloMosaic.PureOps.Ideal.Laws

@[expose] public section

noncomputable section

namespace Attn

open Idealize.ShloMosaic

/-- A score: a real number, or `-∞` for a masked key. -/
def Score (x : EReal) : Prop := x = ⊥ ∨ ∃ r : ℝ, x = (r : EReal)

theorem Score.coe (r : ℝ) : Score (r : EReal) := .inr ⟨r, rfl⟩

theorem Score.bot : Score ⊥ := .inl rfl

theorem Score.sup_max {x y : EReal} (hx : Score x) (hy : Score y) : Score (max x y) := by
  rcases le_total x y with h | h
  · rwa [max_eq_right h]
  · rwa [max_eq_left h]

theorem Score.fold_max {ι : Type*} (s : Finset ι) (f : ι → EReal) (b : EReal) (hb : Score b)
    (hf : ∀ i ∈ s, Score (f i)) : Score (s.fold max b f) := by
  classical
  induction s using Finset.induction_on with
  | empty => simpa using hb
  | insert a s ha ih =>
    rw [Finset.fold_insert ha]
    exact (hf a (Finset.mem_insert_self _ _)).sup_max (ih fun i hi => hf i (Finset.mem_insert_of_mem hi))

/-- The larger of a real number and a score is real. -/
theorem Score.real_max {x : EReal} (hx : Score x) (r : ℝ) : ∃ t : ℝ, max (r : EReal) x = (t : EReal) := by
  rcases hx with rfl | ⟨y, rfl⟩
  · exact ⟨r, by simp⟩
  · rcases le_total r y with h | h
    · exact ⟨y, max_eq_right (by exact_mod_cast h)⟩
    · exact ⟨r, max_eq_left (by exact_mod_cast h)⟩

/-- A maximum over a finite set one of whose members is real is real, when all are scores. -/
theorem Score.real_fold_max {ι : Type*} (s : Finset ι) (f : ι → EReal) (b : EReal) (hb : Score b)
    (hf : ∀ i ∈ s, Score (f i)) {i : ι} (hi : i ∈ s) {r : ℝ} (hr : f i = (r : EReal)) :
    ∃ t : ℝ, s.fold max b f = (t : EReal) := by
  classical
  have hs := Finset.insert_erase hi
  rw [← hs, Finset.fold_insert (Finset.notMem_erase _ _), hr]
  exact (Score.fold_max _ f b hb fun j hj => hf j (Finset.mem_of_mem_erase hj)).real_max r

/-- A nonnegative real factor goes into a finite sum of extended reals. -/
theorem coe_mul_sum {ι : Type*} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top a) _ _

theorem coe_sum {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- Moving the shift of one weight. -/
theorem exp2_shift {x : EReal} (hx : Score x) (μ μ' : ℝ) :
    Ideal.exp2 ((μ : EReal) - μ') * Ideal.exp2 (x - μ) = Ideal.exp2 (x - μ') := by
  rcases hx with rfl | ⟨r, rfl⟩
  · simp
  · simp only [← EReal.coe_sub, Ideal.exp2_coe, ← EReal.coe_mul]
    congr 1
    show (2 : ℝ) ^ (μ - μ') * (2 : ℝ) ^ (r - μ) = (2 : ℝ) ^ (r - μ')
    rw [← Real.rpow_add two_pos]
    congr 1
    ring

/-- Rescaling a sum of weighted values moves the shift of every weight. -/
theorem rescale {ι : Type*} (s : Finset ι) (u v : ι → EReal) (hu : ∀ i, Score (u i)) (μ μ' : ℝ) :
    Ideal.exp2 ((μ : EReal) - μ') * ∑ i ∈ s, Ideal.exp2 (u i - μ) * v i
      = ∑ i ∈ s, Ideal.exp2 (u i - μ') * v i := by
  rw [← EReal.coe_sub, Ideal.exp2_coe, coe_mul_sum s _ (show 0 ≤ Real.rpow 2 (μ - μ') from Real.rpow_nonneg two_pos.le _), ← Ideal.exp2_coe, EReal.coe_sub]
  refine Finset.sum_congr rfl fun i _ => ?_
  rw [← mul_assoc, exp2_shift (hu i)]

/-- The running form, its weights of base two and its shift `μ`, normalised at the end, is the
    softmax of base `e` with shift `M`, for scores that differ by the factor `1 / log 2`. -/
theorem normalize {ι : Type*} [Fintype ι] (keep : ι → Prop) [DecidablePred keep] (τ : ι → ℝ) (v : ι → EReal)
    (μ M : ℝ) (k₀ : ι) (hk : keep k₀) :
    (∑ k, Ideal.exp2 ((if keep k then ((τ k * (Real.log 2)⁻¹ : ℝ) : EReal) else ⊥) - μ) * v k)
        * Ideal.div 1 (∑ k, Ideal.exp2 ((if keep k then ((τ k * (Real.log 2)⁻¹ : ℝ) : EReal) else ⊥) - μ) * 1)
      = ∑ k, v k * Ideal.div (Ideal.exp ((if keep k then (τ k : EReal) else ⊥) - M))
          (∑ j, Ideal.exp ((if keep j then (τ j : EReal) else ⊥) - M)) := by
  have hl : Real.log 2 ≠ 0 := (Real.log_pos one_lt_two).ne'
  let p : ι → ℝ := fun k => if keep k then (2 : ℝ) ^ (τ k * (Real.log 2)⁻¹ - μ) else 0
  let w : ι → ℝ := fun k => if keep k then Real.exp (τ k - M) else 0
  have hp : ∀ k, Ideal.exp2 ((if keep k then ((τ k * (Real.log 2)⁻¹ : ℝ) : EReal) else ⊥) - μ) = (p k : EReal) := by
    intro k
    by_cases h : keep k
    · simp only [p, if_pos h, ← EReal.coe_sub, Ideal.exp2_coe]; rfl
    · simp [p, if_neg h]
  have hw : ∀ k, Ideal.exp ((if keep k then (τ k : EReal) else ⊥) - M) = (w k : EReal) := by
    intro k
    by_cases h : keep k
    · simp only [w, if_pos h, ← EReal.coe_sub, Ideal.exp_coe]
    · simp [w, if_neg h]
  let a : ℝ := Real.exp (M - μ * Real.log 2)
  have hpw : ∀ k, p k = a * w k := by
    intro k
    by_cases h : keep k
    · simp only [p, w, a, if_pos h]
      rw [Real.rpow_def_of_pos two_pos, ← Real.exp_add]
      congr 1
      field_simp
      ring
    · simp [p, w, if_neg h]
  have hw0 : ∀ k, 0 ≤ w k := by
    intro k; by_cases h : keep k
    · simp only [w, if_pos h]; exact (Real.exp_pos _).le
    · simp [w, if_neg h]
  have hW : 0 < ∑ k, w k :=
    Finset.sum_pos' (fun k _ => hw0 k) ⟨k₀, Finset.mem_univ _, by simp only [w, if_pos hk]; exact Real.exp_pos _⟩
  have ha : 0 < a := Real.exp_pos _
  simp only [hp, hw, mul_one, coe_sum]
  have hP : (∑ k, p k) = a * ∑ k, w k := by rw [Finset.mul_sum]; exact Finset.sum_congr rfl fun k _ => hpw k
  have hPne : (∑ k, p k) ≠ 0 := by rw [hP]; exact (mul_pos ha hW).ne'
  have h1 : Ideal.div 1 ((∑ k, p k : ℝ) : EReal) = (((∑ k, p k)⁻¹ : ℝ) : EReal) := by
    unfold Ideal.div
    rw [if_neg (by exact_mod_cast hPne), one_mul, EReal.coe_inv]
  rw [h1, mul_comm, coe_mul_sum _ _ (inv_nonneg.mpr (by rw [hP]; exact (mul_pos ha hW).le))]
  refine Finset.sum_congr rfl fun k _ => ?_
  unfold Ideal.div
  rw [if_neg (by exact_mod_cast hW.ne'), ← EReal.coe_inv, ← EReal.coe_mul, ← mul_assoc, ← EReal.coe_mul, mul_comm (v k)]
  congr 2
  rw [hP, hpw]
  field_simp

end Attn

end
-- ==== Proof.Words.lean ====
/-
The numbers that a few float words stand for.
-/
module

public import Idealize.ShloMosaic.PureOps.Ideal
public import Idealize.ShloMosaic.PureOps.Ideal.Laws

@[expose] public section

noncomputable section

namespace Attn

open Idealize.ShloMosaic

theorem negInf : Ideal.ofBits .f32 0xFF800000#32 = ⊥ := by simp [Ideal.ofBits, Ideal.ieee]

theorem posInf : Ideal.ofBits .f32 0x7F800000#32 = ⊤ := by simp [Ideal.ofBits, Ideal.ieee]

theorem zeroWord : Ideal.ofBits .f32 0x00000000#32 = 0 := by simp [Ideal.ofBits, Ideal.ieee]

theorem start_real : ∃ μ : ℝ, Ideal.ofBits .f32 0xEFA18F08#32 = (μ : EReal) := by
  simp only [Ideal.ofBits, Ideal.ieee]
  rw [if_neg (by decide), if_neg (by decide)]
  exact ⟨_, rfl⟩

theorem word96 : Ideal.ofBits .f32 0x42C00000#32 = ((96 : ℝ) : EReal) := by
  simp [Ideal.ofBits, Ideal.ieee, -EReal.coe_mul]; norm_num

theorem word2 : Ideal.ofBits .f32 0x40000000#32 = ((2 : ℝ) : EReal) := by
  simp [Ideal.ofBits, Ideal.ieee, -EReal.coe_mul]; norm_num

end Attn

end
-- ==== Proof.MlaStep.lean ====
/-
  One step of the running softmax over a block of 512 keys, as the attention kernel computes it: the
  scores `st` of the block lie keys by queries, `m` is the running maximum of each query, `acc` the
  running sum of weighted values, and `v0`, `v1` are the values of the two halves of the block.
-/
module

public import proofs.«01_k».proof.Proof.Gen.MlaIdeal.Value
public import proofs.«01_k».proof.Proof.Softmax
public import proofs.«01_k».proof.Proof.Words
public import Idealize.ShloMosaic.Lib.Pointwise

@[expose] public section

set_option maxRecDepth 16384

noncomputable section

namespace Cert.MlaIdeal.Hand

open Cert.MlaIdeal Cert.MlaIdeal.Gen Idealize.ShloMosaic Idealize.ShloMosaic.TcCoe Idealize.SL.Sem

theorem peak_apply (m : FVec Ideal S1x512 .f32) (st : Vec Ideal S512x512 .f32) (n : Fin 512) :
    k0_pay1 m st (ix2 0 n) = max (m (ix2 0 n)) ((Finset.univ : Finset (Fin 512)).fold max ⊥ fun l => st (ix2 l n)) := by
  pointwise [k0_pay1]
  rw [Attn.negInf]

theorem fold_apply (m : FVec Ideal S1x512 .f32) (acc : FVec Ideal S80x512 .f32) (st : Vec Ideal S512x512 .f32)
    (v0 v1 : Vec Ideal S1x1x1x80x256 .bf16) (r : Fin 80) (n : Fin 512) :
    k0_pay2 m acc st (k0_pay7 v0) v1 (ix2 r n)
      = Ideal.exp2 (m (ix2 0 n) - k0_pay1 m st (ix2 0 n)) * acc (ix2 r n)
        + ((∑ d : Fin 256, v0 (ix5 0 0 0 r d) * Ideal.exp2 (st (ix2 (d.castAdd 256) n) - k0_pay1 m st (ix2 0 n)))
          + ∑ d : Fin 256, v1 (ix5 0 0 0 r d) * Ideal.exp2 (st (ix2 (d.natAdd 256) n) - k0_pay1 m st (ix2 0 n))) := by
  unfold k0_pay2 k0_pay7
  generalize k0_pay1 m st = p
  pointwise []
  rfl

theorem seam_apply (k q : Vec Ideal S1x1x512x128 .bf16) (l n : Fin 512) :
    k0_pay6 k q (ix2 l n) = ∑ d : Fin 128, k (ix4 0 0 l d) * q (ix4 0 0 n d) := by
  pointwise [k0_pay6]

/-- The value rows of a block, its two halves joined. -/
def vals (v0 v1 : Vec Ideal S1x1x1x80x256 .bf16) (r : Fin 80) (l : Fin 512) : EReal :=
  Fin.addCases (m := 256) (n := 256) (fun d => v0 (ix5 0 0 0 r d)) (fun d => v1 (ix5 0 0 0 r d)) l

/-- What a block of scores `u` adds to the running sum of row `r` of the values and query `n`, at the
    shift `μ`. -/
def block (u : Fin 512 → Fin 512 → EReal) (v : Fin 80 → Fin 512 → EReal) (r : Fin 80) (n : Fin 512) (μ : ℝ) : EReal :=
  ∑ l : Fin 512, Ideal.exp2 (u l n - μ) * v r l

/-- The running maxima and sums `m`, `acc` stand for the sum `S` over the keys seen so far: the
    maximum is real, the sum is `S` at that shift, and another shift only rescales `S`. -/
structure Holds (m : FVec Ideal S1x512 .f32) (acc : FVec Ideal S80x512 .f32)
    (S : Fin 80 → Fin 512 → ℝ → EReal) : Prop where
  sums : ∀ n : Fin 512, ∃ μ : ℝ, m (ix2 0 n) = (μ : EReal) ∧ ∀ r : Fin 80, acc (ix2 r n) = S r n μ
  shifts : ∀ (r : Fin 80) (n : Fin 512) (μ μ' : ℝ), Ideal.exp2 ((μ : EReal) - μ') * S r n μ = S r n μ'

theorem Holds.step {m : FVec Ideal S1x512 .f32} {acc : FVec Ideal S80x512 .f32} {S : Fin 80 → Fin 512 → ℝ → EReal}
    (h : Holds m acc S) (st : Vec Ideal S512x512 .f32) (v0 v1 : Vec Ideal S1x1x1x80x256 .bf16)
    (u : Fin 512 → Fin 512 → EReal) (v : Fin 80 → Fin 512 → EReal) (hu : ∀ l n, Attn.Score (u l n))
    (hst : ∀ l n, st (ix2 l n) = u l n) (hv : ∀ r l, vals v0 v1 r l = v r l) :
    Holds (k0_pay1 m st) (k0_pay2 m acc st (k0_pay7 v0) v1) fun r n μ => S r n μ + block u v r n μ := by
  refine ⟨fun n => ?_, fun r n μ μ' => ?_⟩
  · obtain ⟨μ, hm, ha⟩ := h.sums n
    obtain ⟨μ', hp⟩ : ∃ μ' : ℝ, k0_pay1 m st (ix2 0 n) = (μ' : EReal) := by
      rw [peak_apply, hm]
      exact (Attn.Score.fold_max _ _ _ .bot fun l _ => by rw [hst]; exact hu l n).real_max μ
    refine ⟨μ', hp, fun r => ?_⟩
    rw [fold_apply, hp, hm, ha r, h.shifts]
    congr 1
    unfold block
    rw [show (∑ l : Fin 512, Ideal.exp2 (u l n - μ') * v r l)
      = ∑ l : Fin (256 + 256), Ideal.exp2 (u l n - μ') * v r l from rfl, Fin.sum_univ_add]
    congr 1 <;> refine Finset.sum_congr rfl fun d _ => ?_
    · rw [← hv, ← hst, vals, Fin.addCases_left, mul_comm]
    · rw [← hv, ← hst, vals, Fin.addCases_right, mul_comm]
  · have e : Ideal.exp2 ((μ : EReal) - μ') = (((2 : ℝ) ^ (μ - μ') : ℝ) : EReal) := by
      rw [← EReal.coe_sub, Ideal.exp2_coe]; rfl
    have e0 : (0 : EReal) ≤ (((2 : ℝ) ^ (μ - μ') : ℝ) : EReal) := by
      exact_mod_cast Real.rpow_nonneg two_pos.le _
    rw [e, EReal.left_distrib_of_nonneg_of_ne_top e0 (EReal.coe_ne_top _), ← e, h.shifts]
    congr 1
    exact Attn.rescale Finset.univ (fun l => u l n) (fun l => v r l) (fun l => hu l n) μ μ'

end Cert.MlaIdeal.Hand

end
-- ==== Proof.MlaTick.lean ====
/-
  One turn of the attention loop, as an operation on what the kernel carries: for both heads of the
  pair the running maxima and sums, and the scores of the second head, computed one block ahead. A
  turn is stated over the offsets at which it loads, and `Inv` says what is carried after `J` blocks.
-/
module

public import proofs.«01_k».proof.Proof.MlaStep
public import Idealize.ShloMosaic.Lib.Pipeline.ValueKit.Tiles

@[expose] public section

set_option maxRecDepth 16384

noncomputable section

namespace Cert.MlaIdeal.Hand

open Cert.MlaIdeal Cert.MlaIdeal.Gen Idealize.ShloMosaic Idealize.ShloMosaic.TcCoe Idealize.SL.Sem

/-- Running maxima and sums of the first head, then of the second. -/
abbrev Carry : Type :=
  FVec Ideal S1x512 .f32 × FVec Ideal S80x512 .f32 × FVec Ideal S1x512 .f32 × FVec Ideal S80x512 .f32

section Tick

variable (arg3 : Memref sig .tc .vmem S1x2x512x128 .bf16) (arg4 : Memref sig .tc .vmem S1x2x8192x128 .bf16)
  (arg5 : Memref sig .tc .vmem S1x2x32x80x256 .bf16)
  (X3 : BufTy.Contents (Elt Ideal) arg3.view.ty) (X4 : BufTy.Contents (Elt Ideal) arg4.view.ty)
  (X5 : BufTy.Contents (Elt Ideal) arg5.view.ty)

/-- A load of 512 query rows. -/
def loadQ (o : Fin 4 → ℕ) (h : ∀ a, o a + S1x1x512x128.size a ≤ S1x2x512x128.size a) : Vec Ideal S1x1x512x128 .bf16 :=
  View.readAt (Elt Ideal) arg3.view (Rect.unit (s := S1x2x512x128) o S1x1x512x128.size h).toLoadRect X3

/-- A load of 512 key rows. -/
def loadK (o : Fin 4 → ℕ) (h : ∀ a, o a + S1x1x512x128.size a ≤ S1x2x8192x128.size a) : Vec Ideal S1x1x512x128 .bf16 :=
  View.readAt (Elt Ideal) arg4.view (Rect.unit (s := S1x2x8192x128) o S1x1x512x128.size h).toLoadRect X4

/-- A load of the values of 256 keys. -/
def loadV (o : Fin 5 → ℕ) (h : ∀ a, o a + S1x1x1x80x256.size a ≤ S1x2x32x80x256.size a) : Vec Ideal S1x1x1x80x256 .bf16 :=
  View.readAt (Elt Ideal) arg5.view (Rect.unit (s := S1x2x32x80x256) o S1x1x1x80x256.size h).toLoadRect X5

/-- One turn: the first head takes in its block, the second the block scored before, and the second
    head's next block is scored. -/
def tick (p : Carry × Vec Ideal S512x512 .f32) (kA qA kB qB : Vec Ideal S1x1x512x128 .bf16)
    (a0 a1 b0 b1 : Vec Ideal S1x1x1x80x256 .bf16) : Carry × Vec Ideal S512x512 .f32 :=
  ((k0_pay1 p.1.1 (k0_pay6 kA qA), k0_pay2 p.1.1 p.1.2.1 (k0_pay6 kA qA) (k0_pay7 b0) b1,
    k0_pay1 p.1.2.2.1 p.2, k0_pay2 p.1.2.2.1 p.1.2.2.2 p.2 (k0_pay7 a0) a1), k0_pay6 kB qB)

theorem loadQ_apply {Q : Fin 2 → Fin 512 → Fin 128 → EReal}
    (hQ : ∀ h n d, arg3.view.read (Elt Ideal) X3 (ix4 0 h n d) = Q h n d) (o : Fin 4 → ℕ) (ho) (h : Fin 2)
    (e : o = ![0, h.val, 0, 0]) (n : Fin 512) (d : Fin 128) : loadQ arg3 X3 o ho (ix4 0 0 n d) = Q h n d := by
  subst e
  rw [← hQ]
  unfold loadQ
  rw [View.readAt_eq_ld]
  refine View.ld_unit_apply_of _ _ _ _ _ (ix4 0 h n d) fun a => ?_
  fin_cases a
  · rfl
  · exact (Nat.add_zero _).symm
  · exact (Nat.zero_add _).symm
  · exact (Nat.zero_add _).symm

theorem loadK_apply {K : Fin 2 → ℕ → Fin 128 → EReal}
    (hK : ∀ h (t : Fin 8192) d, arg4.view.read (Elt Ideal) X4 (ix4 0 h t d) = K h t.val d) (o : Fin 4 → ℕ) (ho) (h : Fin 2)
    (T : ℕ) (e : o = ![0, h.val, T, 0]) (l : Fin 512) (d : Fin 128) :
    loadK arg4 X4 o ho (ix4 0 0 l d) = K h (T + l.val) d := by
  subst e
  have hT : T + 512 ≤ 8192 := ho 2
  rw [← hK h ⟨T + l.val, by omega⟩ d]
  unfold loadK
  rw [View.readAt_eq_ld]
  refine View.ld_unit_apply_of _ _ _ _ _ (ix4 0 h ⟨T + l.val, by omega⟩ d) fun a => ?_
  fin_cases a
  · rfl
  · exact (Nat.add_zero _).symm
  · rfl
  · exact (Nat.zero_add _).symm

theorem loadV_apply {V : Fin 2 → ℕ → Fin 80 → Fin 256 → EReal}
    (hV : ∀ h (c : Fin 32) r d, arg5.view.read (Elt Ideal) X5 (ix5 0 h c r d) = V h c.val r d) (o : Fin 5 → ℕ) (ho) (h : Fin 2)
    (c : ℕ) (e : o = ![0, h.val, c, 0, 0]) (r : Fin 80) (d : Fin 256) :
    loadV arg5 X5 o ho (ix5 0 0 0 r d) = V h c r d := by
  subst e
  have hc : c + 1 ≤ 32 := ho 2
  rw [← hV h ⟨c, by omega⟩ r d]
  unfold loadV
  rw [View.readAt_eq_ld]
  refine View.ld_unit_apply_of _ _ _ _ _ (ix5 0 h ⟨c, by omega⟩ r d) fun a => ?_
  fin_cases a
  · rfl
  · exact (Nat.add_zero _).symm
  · exact (Nat.add_zero _).symm
  · exact (Nat.zero_add _).symm
  · exact (Nat.zero_add _).symm

end Tick

section Meaning

variable (Q : Fin 2 → Fin 512 → Fin 128 → EReal) (K : Fin 2 → ℕ → Fin 128 → EReal)
  (V : Fin 2 → ℕ → Fin 80 → Fin 256 → EReal)

/-- The score of key `l` of block `j` for query `n`, head `h` of the pair. -/
def sc (h : Fin 2) (j : ℕ) (l n : Fin 512) : EReal := ∑ d : Fin 128, K h (512 * j + l.val) d * Q h n d

/-- The value of key `l` of block `j`. -/
def vl (h : Fin 2) (j : ℕ) (r : Fin 80) (l : Fin 512) : EReal :=
  Fin.addCases (m := 256) (n := 256) (fun d => V h (2 * j) r d) (fun d => V h (2 * j + 1) r d) l

/-- The sum over the diagonal block `D` and the first `J` blocks. -/
def seen (D : Fin 2 → Fin 80 → Fin 512 → ℝ → EReal) (h : Fin 2) (J : ℕ) (r : Fin 80) (n : Fin 512) (μ : ℝ) : EReal :=
  D h r n μ + ∑ j ∈ Finset.range J, block (sc Q K h j) (vl V h j) r n μ

/-- What is carried after `J` blocks. -/
structure Inv (D : Fin 2 → Fin 80 → Fin 512 → ℝ → EReal) (J : ℕ) (p : Carry × Vec Ideal S512x512 .f32) : Prop where
  fst : Holds p.1.1 p.1.2.1 (seen Q K V D 0 J)
  snd : Holds p.1.2.2.1 p.1.2.2.2 (seen Q K V D 1 J)
  ahead : ∀ l n : Fin 512, p.2 (ix2 l n) = sc Q K 1 J l n

theorem Inv.tick {D : Fin 2 → Fin 80 → Fin 512 → ℝ → EReal} {J : ℕ} {p : Carry × Vec Ideal S512x512 .f32}
    (hp : Inv Q K V D J p) (hs : ∀ h j l n, Attn.Score (sc Q K h j l n))
    (kA qA kB qB : Vec Ideal S1x1x512x128 .bf16) (a0 a1 b0 b1 : Vec Ideal S1x1x1x80x256 .bf16)
    (hkA : ∀ l d, kA (ix4 0 0 l d) = K 0 (512 * J + l.val) d) (hqA : ∀ n d, qA (ix4 0 0 n d) = Q 0 n d)
    (hkB : ∀ l d, kB (ix4 0 0 l d) = K 1 (512 * (J + 1) + l.val) d) (hqB : ∀ n d, qB (ix4 0 0 n d) = Q 1 n d)
    (ha0 : ∀ r d, a0 (ix5 0 0 0 r d) = V 1 (2 * J) r d) (ha1 : ∀ r d, a1 (ix5 0 0 0 r d) = V 1 (2 * J + 1) r d)
    (hb0 : ∀ r d, b0 (ix5 0 0 0 r d) = V 0 (2 * J) r d) (hb1 : ∀ r d, b1 (ix5 0 0 0 r d) = V 0 (2 * J + 1) r d) :
    Inv Q K V D (J + 1) (tick p kA qA kB qB a0 a1 b0 b1) := by
  have e : ∀ h, seen Q K V D h (J + 1) = fun r n μ => seen Q K V D h J r n μ + block (sc Q K h J) (vl V h J) r n μ := by
    intro h; funext r n μ
    rw [seen, Finset.sum_range_succ, ← add_assoc, seen]
  refine ⟨?_, ?_, ?_⟩
  · rw [e]
    refine hp.fst.step _ b0 b1 _ _ (hs 0 J) (fun l n => ?_) fun r l => ?_
    · rw [seam_apply]
      exact Finset.sum_congr rfl fun d _ => by rw [hkA, hqA]
    · unfold vals vl
      simp only [hb0, hb1]
  · rw [e]
    refine hp.snd.step _ a0 a1 _ _ (hs 1 J) hp.ahead fun r l => ?_
    unfold vals vl
    simp only [ha0, ha1]
  · intro l n
    show k0_pay6 kB qB (ix2 l n) = _
    rw [seam_apply]
    exact Finset.sum_congr rfl fun d _ => by rw [hkB, hqB]

end Meaning

end Cert.MlaIdeal.Hand

end
-- ==== Proof.MlaTrips.lean ====
/-
  The bodies of the attention loops as turns (`tick`): four turns a trip in the first loop, two in the
  third, one in the fifth.
-/
module

public import proofs.«01_k».proof.Proof.MlaTick
public import Idealize.ShloMosaic.Lib.VecWindow

@[expose] public section

set_option maxRecDepth 16384

noncomputable section

namespace Cert.MlaIdeal.Hand

open Cert.MlaIdeal Cert.MlaIdeal.Gen Idealize.ShloMosaic Idealize.ShloMosaic.TcCoe Idealize.SL.Sem

theorem whole_inb : ∀ a, (![0, 0] : Fin 2 → ℕ) a + S512x512.size a ≤ S512x512.size a := by
  intro a; fin_cases a <;> decide

/-- A load of a whole score buffer. -/
def look (b : Memref sig .tc .vmem S512x512 .f32) (f : BufTy.Contents (Elt Ideal) b.view.ty) : Vec Ideal S512x512 .f32 :=
  View.readAt (Elt Ideal) b.view (Rect.unit (s := S512x512) ![0, 0] S512x512.size whole_inb).toLoadRect f

theorem look_cons (b : Memref sig .tc .vmem S512x512 .f32) (f : BufTy.Contents (Elt Ideal) b.view.ty) (h)
    (w : Vec Ideal S512x512 .f32) (L : List (View.Piece (Elt Ideal) S512x512 .f32)) :
    look b (b.view.writes (Elt Ideal) f (⟨Rect.unit (s := S512x512) ![0, 0] S512x512.size h, w⟩ :: L)) = w :=
  View.readAt_writes_full b.view f whole_inb h w L

theorem cover_cons (b : Memref sig .tc .vmem S512x512 .f32) (h h')
    (w : Vec Ideal S512x512 .f32) (L : List (View.Piece (Elt Ideal) S512x512 .f32)) :
    b.view.readCov (⟨Rect.unit (s := S512x512) ![0, 0] S512x512.size h, w⟩ :: L)
      (Rect.unit (s := S512x512) ![0, 0] S512x512.size h').toLoadRect = w :=
  View.readCov_full b.view h' h w L

theorem q_inb (h : Fin 2) : ∀ a, (![0, h.val, 0, 0] : Fin 4 → ℕ) a + S1x1x512x128.size a ≤ S1x2x512x128.size a := by
  revert h; decide

section T1

variable (𝒱 : Variants) (c : Dev nD) (bd : Option 𝒱.V) (i : grid0.Coords) (arg3 : Memref sig .tc .vmem S1x2x512x128 .bf16) (harg3 : arg3.IsWhole) (arg4 : Memref sig .tc .vmem S1x2x8192x128 .bf16) (harg4 : arg4.IsWhole) (arg5 : Memref sig .tc .vmem S1x2x32x80x256 .bf16) (harg5 : arg5.IsWhole) (arg6 : Memref sig .tc .vmem S1x512x128 .bf16) (harg6 : arg6.IsWhole) (arg7 : Memref sig .tc .vmem S512x512 .f32) (harg7 : arg7.IsWhole) (arg8 : Memref sig .tc .vmem S512x512 .f32) (harg8 : arg8.IsWhole) (arg2 : BitVec 32) (v1 : FVec Ideal S80x512 .f32) (v44 : FVec Ideal S1x512 .f32) (v60 : FVec Ideal S80x512 .f32) (v87 : FVec Ideal S80x256 .bf16) (v90 : FVec Ideal S1x512 .f32) (v92 : FVec Ideal S1x512 .f32) (v96 : FVec Ideal S512x512 .bf16) (v98 : FVec Ideal S80x512 .f32) (cst_67 : Ideal .f32) (X_arg3 : BufTy.Contents (Elt Ideal) arg3.view.ty) (X_arg4 : BufTy.Contents (Elt Ideal) arg4.view.ty) (X_arg5 : BufTy.Contents (Elt Ideal) arg5.view.ty) (k : Fin (k0_t1_loop i).trips)
  (acc : Carry) (f_arg7 : BufTy.Contents (Elt Ideal) arg7.view.ty) (f_arg8 : BufTy.Contents (Elt Ideal) arg8.view.ty)

theorem stage1_0 :
    tick (acc, look arg8 f_arg8)
        (loadK arg4 X_arg4 (k0_off6 i k 0#32) (k0_off6_inb i k 0)) (loadQ arg3 X_arg3 ![0, 0, 0, 0] (q_inb 0)) (loadK arg4 X_arg4 (k0_off8 i k 0#32) (k0_off8_inb i k 0)) (loadQ arg3 X_arg3 ![0, 1, 0, 0] (q_inb 1)) (loadV arg5 X_arg5 (k0_off7 i k 0#32 0#32) (k0_off7_inb i k 0 0)) (loadV arg5 X_arg5 (k0_off7 i k 0#32 1#32) (k0_off7_inb i k 0 1)) (loadV arg5 X_arg5 (k0_off9 i k 0#32 0#32) (k0_off9_inb i k 0 0)) (loadV arg5 X_arg5 (k0_off9 i k 0#32 1#32) (k0_off9_inb i k 0 1))
      = (((trip_k0_t1.sl.v273 (F := Ideal) i arg3 arg4 arg7 X_arg3 X_arg4 k acc), (trip_k0_t1.sl.v289 (F := Ideal) i arg3 arg4 arg5 arg7 X_arg3 X_arg4 X_arg5 k acc), (trip_k0_t1.sl.v231 (F := Ideal) arg8 acc f_arg8), (trip_k0_t1.sl.v247 (F := Ideal) i arg5 arg8 X_arg5 k acc f_arg8)), (trip_k0_t1.sl.v304 (F := Ideal) i arg3 arg4 arg8 X_arg3 X_arg4 k)) := by
  have e : k0_pay6 (loadK arg4 X_arg4 (k0_off6 i k 0#32) (k0_off6_inb i k 0)) (loadQ arg3 X_arg3 ![0, 0, 0, 0] (q_inb 0)) = (trip_k0_t1.sl.v260 (F := Ideal) i arg3 arg4 arg7 X_arg3 X_arg4 k) :=
    (cover_cons arg7 _ _ _ _).symm
  have e' : (trip_k0_t1.sl.v304 (F := Ideal) i arg3 arg4 arg8 X_arg3 X_arg4 k) = (trip_k0_t1.sl.v259 (F := Ideal) i arg3 arg4 X_arg3 X_arg4 k) := cover_cons arg8 _ _ _ _
  unfold tick
  rw [e, e']
  rfl

theorem stage1_1 :
    tick (((trip_k0_t1.sl.v273 (F := Ideal) i arg3 arg4 arg7 X_arg3 X_arg4 k acc), (trip_k0_t1.sl.v289 (F := Ideal) i arg3 arg4 arg5 arg7 X_arg3 X_arg4 X_arg5 k acc), (trip_k0_t1.sl.v231 (F := Ideal) arg8 acc f_arg8), (trip_k0_t1.sl.v247 (F := Ideal) i arg5 arg8 X_arg5 k acc f_arg8)), (trip_k0_t1.sl.v304 (F := Ideal) i arg3 arg4 arg8 X_arg3 X_arg4 k))
        (loadK arg4 X_arg4 (k0_off6 i k 1#32) (k0_off6_inb i k 1)) (loadQ arg3 X_arg3 ![0, 0, 0, 0] (q_inb 0)) (loadK arg4 X_arg4 (k0_off8 i k 1#32) (k0_off8_inb i k 1)) (loadQ arg3 X_arg3 ![0, 1, 0, 0] (q_inb 1)) (loadV arg5 X_arg5 (k0_off7 i k 1#32 0#32) (k0_off7_inb i k 1 0)) (loadV arg5 X_arg5 (k0_off7 i k 1#32 1#32) (k0_off7_inb i k 1 1)) (loadV arg5 X_arg5 (k0_off9 i k 1#32 0#32) (k0_off9_inb i k 1 0)) (loadV arg5 X_arg5 (k0_off9 i k 1#32 1#32) (k0_off9_inb i k 1 1))
      = (((trip_k0_t1.sl.v359 (F := Ideal) i arg3 arg4 arg7 X_arg3 X_arg4 k acc), (trip_k0_t1.sl.v375 (F := Ideal) i arg3 arg4 arg5 arg7 X_arg3 X_arg4 X_arg5 k acc), (trip_k0_t1.sl.v317 (F := Ideal) i arg3 arg4 arg8 X_arg3 X_arg4 k acc f_arg8), (trip_k0_t1.sl.v333 (F := Ideal) i arg3 arg4 arg5 arg8 X_arg3 X_arg4 X_arg5 k acc f_arg8)), (trip_k0_t1.sl.v390 (F := Ideal) i arg3 arg4 arg8 X_arg3 X_arg4 k)) := by
  have e : k0_pay6 (loadK arg4 X_arg4 (k0_off6 i k 1#32) (k0_off6_inb i k 1)) (loadQ arg3 X_arg3 ![0, 0, 0, 0] (q_inb 0)) = (trip_k0_t1.sl.v346 (F := Ideal) i arg3 arg4 arg7 X_arg3 X_arg4 k) :=
    (cover_cons arg7 _ _ _ _).symm
  have e' : (trip_k0_t1.sl.v390 (F := Ideal) i arg3 arg4 arg8 X_arg3 X_arg4 k) = (trip_k0_t1.sl.v345 (F := Ideal) i arg3 arg4 X_arg3 X_arg4 k) := cover_cons arg8 _ _ _ _
  unfold tick
  rw [e, e']
  rfl

theorem stage1_2 :
    tick (((trip_k0_t1.sl.v359 (F := Ideal) i arg3 arg4 arg7 X_arg3 X_arg4 k acc), (trip_k0_t1.sl.v375 (F := Ideal) i arg3 arg4 arg5 arg7 X_arg3 X_arg4 X_arg5 k acc), (trip_k0_t1.sl.v317 (F := Ideal) i arg3 arg4 arg8 X_arg3 X_arg4 k acc f_arg8), (trip_k0_t1.sl.v333 (F := Ideal) i arg3 arg4 arg5 arg8 X_arg3 X_arg4 X_arg5 k acc f_arg8)), (trip_k0_t1.sl.v390 (F := Ideal) i arg3 arg4 arg8 X_arg3 X_arg4 k))
        (loadK arg4 X_arg4 (k0_off6 i k 2#32) (k0_off6_inb i k 2)) (loadQ arg3 X_arg3 ![0, 0, 0, 0] (q_inb 0)) (loadK arg4 X_arg4 (k0_off8 i k 2#32) (k0_off8_inb i k 2)) (loadQ arg3 X_arg3 ![0, 1, 0, 0] (q_inb 1)) (loadV arg5 X_arg5 (k0_off7 i k 2#32 0#32) (k0_off7_inb i k 2 0)) (loadV arg5 X_arg5 (k0_off7 i k 2#32 1#32) (k0_off7_inb i k 2 1)) (loadV arg5 X_arg5 (k0_off9 i k 2#32 0#32) (k0_off9_inb i k 2 0)) (loadV arg5 X_arg5 (k0_off9 i k 2#32 1#32) (k0_off9_inb i k 2 1))
      = (((trip_k0_t1.sl.v445 (F := Ideal) i arg3 arg4 arg7 X_arg3 X_arg4 k acc), (trip_k0_t1.sl.v461 (F := Ideal) i arg3 arg4 arg5 arg7 X_arg3 X_arg4 X_arg5 k acc), (trip_k0_t1.sl.v403 (F := Ideal) i arg3 arg4 arg8 X_arg3 X_arg4 k acc f_arg8), (trip_k0_t1.sl.v419 (F := Ideal) i arg3 arg4 arg5 arg8 X_arg3 X_arg4 X_arg5 k acc f_arg8)), (trip_k0_t1.sl.v476 (F := Ideal) i arg3 arg4 arg8 X_arg3 X_arg4 k)) := by
  have e : k0_pay6 (loadK arg4 X_arg4 (k0_off6 i k 2#32) (k0_off6_inb i k 2)) (loadQ arg3 X_arg3 ![0, 0, 0, 0] (q_inb 0)) = (trip_k0_t1.sl.v432 (F := Ideal) i arg3 arg4 arg7 X_arg3 X_arg4 k) :=
    (cover_cons arg7 _ _ _ _).symm
  have e' : (trip_k0_t1.sl.v476 (F := Ideal) i arg3 arg4 arg8 X_arg3 X_arg4 k) = (trip_k0_t1.sl.v431 (F := Ideal) i arg3 arg4 X_arg3 X_arg4 k) := cover_cons arg8 _ _ _ _
  unfold tick
  rw [e, e']
  rfl

theorem trip1 (g : BufTy.Contents (Elt Ideal) arg8.view.ty) (rest : List (View.Piece (Elt Ideal) S512x512 .f32)) :
    ((trip_k0_t1 (F := Ideal) 𝒱 c bd i arg3 harg3 arg4 harg4 arg5 harg5 arg6 harg6 arg7 harg7 arg8 harg8 arg2 v1 v44 v60 v87 v90 v92 v96 v98 cst_67 X_arg3 X_arg4 X_arg5 k).1 acc f_arg7 f_arg8,
      look arg8 (arg8.view.writes (Elt Ideal) g ((trip_k0_t1 (F := Ideal) 𝒱 c bd i arg3 harg3 arg4 harg4 arg5 harg5 arg6 harg6 arg7 harg7 arg8 harg8 arg2 v1 v44 v60 v87 v90 v92 v96 v98 cst_67 X_arg3 X_arg4 X_arg5 k).2.2.1 acc f_arg7 f_arg8 ++ rest)))
      = tick (tick (tick (tick (acc, look arg8 f_arg8)
        (loadK arg4 X_arg4 (k0_off6 i k 0#32) (k0_off6_inb i k 0)) (loadQ arg3 X_arg3 ![0, 0, 0, 0] (q_inb 0)) (loadK arg4 X_arg4 (k0_off8 i k 0#32) (k0_off8_inb i k 0)) (loadQ arg3 X_arg3 ![0, 1, 0, 0] (q_inb 1)) (loadV arg5 X_arg5 (k0_off7 i k 0#32 0#32) (k0_off7_inb i k 0 0)) (loadV arg5 X_arg5 (k0_off7 i k 0#32 1#32) (k0_off7_inb i k 0 1)) (loadV arg5 X_arg5 (k0_off9 i k 0#32 0#32) (k0_off9_inb i k 0 0)) (loadV arg5 X_arg5 (k0_off9 i k 0#32 1#32) (k0_off9_inb i k 0 1)))
        (loadK arg4 X_arg4 (k0_off6 i k 1#32) (k0_off6_inb i k 1)) (loadQ arg3 X_arg3 ![0, 0, 0, 0] (q_inb 0)) (loadK arg4 X_arg4 (k0_off8 i k 1#32) (k0_off8_inb i k 1)) (loadQ arg3 X_arg3 ![0, 1, 0, 0] (q_inb 1)) (loadV arg5 X_arg5 (k0_off7 i k 1#32 0#32) (k0_off7_inb i k 1 0)) (loadV arg5 X_arg5 (k0_off7 i k 1#32 1#32) (k0_off7_inb i k 1 1)) (loadV arg5 X_arg5 (k0_off9 i k 1#32 0#32) (k0_off9_inb i k 1 0)) (loadV arg5 X_arg5 (k0_off9 i k 1#32 1#32) (k0_off9_inb i k 1 1)))
        (loadK arg4 X_arg4 (k0_off6 i k 2#32) (k0_off6_inb i k 2)) (loadQ arg3 X_arg3 ![0, 0, 0, 0] (q_inb 0)) (loadK arg4 X_arg4 (k0_off8 i k 2#32) (k0_off8_inb i k 2)) (loadQ arg3 X_arg3 ![0, 1, 0, 0] (q_inb 1)) (loadV arg5 X_arg5 (k0_off7 i k 2#32 0#32) (k0_off7_inb i k 2 0)) (loadV arg5 X_arg5 (k0_off7 i k 2#32 1#32) (k0_off7_inb i k 2 1)) (loadV arg5 X_arg5 (k0_off9 i k 2#32 0#32) (k0_off9_inb i k 2 0)) (loadV arg5 X_arg5 (k0_off9 i k 2#32 1#32) (k0_off9_inb i k 2 1)))
        (loadK arg4 X_arg4 (k0_off6 i k 3#32) (k0_off6_inb i k 3)) (loadQ arg3 X_arg3 ![0, 0, 0, 0] (q_inb 0)) (loadK arg4 X_arg4 (k0_off8 i k 3#32) (k0_off8_inb i k 3)) (loadQ arg3 X_arg3 ![0, 1, 0, 0] (q_inb 1)) (loadV arg5 X_arg5 (k0_off7 i k 3#32 0#32) (k0_off7_inb i k 3 0)) (loadV arg5 X_arg5 (k0_off7 i k 3#32 1#32) (k0_off7_inb i k 3 1)) (loadV arg5 X_arg5 (k0_off9 i k 3#32 0#32) (k0_off9_inb i k 3 0)) (loadV arg5 X_arg5 (k0_off9 i k 3#32 1#32) (k0_off9_inb i k 3 1)) := by
  rw [stage1_0]
  rw [stage1_1]
  rw [stage1_2]
  have e : k0_pay6 (loadK arg4 X_arg4 (k0_off6 i k 3#32) (k0_off6_inb i k 3)) (loadQ arg3 X_arg3 ![0, 0, 0, 0] (q_inb 0)) = (trip_k0_t1.sl.v518 (F := Ideal) i arg3 arg4 arg7 X_arg3 X_arg4 k) :=
    (cover_cons arg7 _ _ _ _).symm
  unfold tick
  rw [e]
  refine Prod.ext ?_ ?_
  · unfold trip_k0_t1
    rfl
  · unfold trip_k0_t1
    exact look_cons arg8 _ _ _ _

end T1

section T3

variable (𝒱 : Variants) (c : Dev nD) (bd : Option 𝒱.V) (i : grid0.Coords) (arg3 : Memref sig .tc .vmem S1x2x512x128 .bf16) (harg3 : arg3.IsWhole) (arg4 : Memref sig .tc .vmem S1x2x8192x128 .bf16) (harg4 : arg4.IsWhole) (arg5 : Memref sig .tc .vmem S1x2x32x80x256 .bf16) (harg5 : arg5.IsWhole) (arg6 : Memref sig .tc .vmem S1x512x128 .bf16) (harg6 : arg6.IsWhole) (arg7 : Memref sig .tc .vmem S512x512 .f32) (harg7 : arg7.IsWhole) (arg8 : Memref sig .tc .vmem S512x512 .f32) (harg8 : arg8.IsWhole) (arg2 : BitVec 32) (v131_0 : FVec Ideal S1x512 .f32) (v131_1 : FVec Ideal S80x512 .f32) (v131_2 : FVec Ideal S1x512 .f32) (v131_3 : FVec Ideal S80x512 .f32) (v133 : BitVec 32) (v134 : BitVec 32) (c2_i32_83 : BitVec 32) (v135 : BitVec 32) (v137 : BitVec 32) (v139 : BitVec 32) (X_arg3 : BufTy.Contents (Elt Ideal) arg3.view.ty) (X_arg4 : BufTy.Contents (Elt Ideal) arg4.view.ty) (X_arg5 : BufTy.Contents (Elt Ideal) arg5.view.ty) (k : Fin (k0_t3_loop i).trips)
  (acc : Carry) (f_arg7 : BufTy.Contents (Elt Ideal) arg7.view.ty) (f_arg8 : BufTy.Contents (Elt Ideal) arg8.view.ty)

theorem stage3_0 :
    tick (acc, look arg8 f_arg8)
        (loadK arg4 X_arg4 (k0_off14 i k 0#32) (k0_off14_inb i k 0)) (loadQ arg3 X_arg3 ![0, 0, 0, 0] (q_inb 0)) (loadK arg4 X_arg4 (k0_off16 i k 0#32) (k0_off16_inb i k 0)) (loadQ arg3 X_arg3 ![0, 1, 0, 0] (q_inb 1)) (loadV arg5 X_arg5 (k0_off15 i k 0#32 0#32) (k0_off15_inb i k 0 0)) (loadV arg5 X_arg5 (k0_off15 i k 0#32 1#32) (k0_off15_inb i k 0 1)) (loadV arg5 X_arg5 (k0_off17 i k 0#32 0#32) (k0_off17_inb i k 0 0)) (loadV arg5 X_arg5 (k0_off17 i k 0#32 1#32) (k0_off17_inb i k 0 1))
      = (((trip_k0_t3.sl.v273 (F := Ideal) i arg3 arg4 arg7 X_arg3 X_arg4 k acc), (trip_k0_t3.sl.v289 (F := Ideal) i arg3 arg4 arg5 arg7 X_arg3 X_arg4 X_arg5 k acc), (trip_k0_t3.sl.v231 (F := Ideal) arg8 acc f_arg8), (trip_k0_t3.sl.v247 (F := Ideal) i arg5 arg8 X_arg5 k acc f_arg8)), (trip_k0_t3.sl.v304 (F := Ideal) i arg3 arg4 arg8 X_arg3 X_arg4 k)) := by
  have e : k0_pay6 (loadK arg4 X_arg4 (k0_off14 i k 0#32) (k0_off14_inb i k 0)) (loadQ arg3 X_arg3 ![0, 0, 0, 0] (q_inb 0)) = (trip_k0_t3.sl.v260 (F := Ideal) i arg3 arg4 arg7 X_arg3 X_arg4 k) :=
    (cover_cons arg7 _ _ _ _).symm
  have e' : (trip_k0_t3.sl.v304 (F := Ideal) i arg3 arg4 arg8 X_arg3 X_arg4 k) = (trip_k0_t3.sl.v259 (F := Ideal) i arg3 arg4 X_arg3 X_arg4 k) := cover_cons arg8 _ _ _ _
  unfold tick
  rw [e, e']
  rfl

theorem trip3 (g : BufTy.Contents (Elt Ideal) arg8.view.ty) (rest : List (View.Piece (Elt Ideal) S512x512 .f32)) :
    ((trip_k0_t3 (F := Ideal) 𝒱 c bd i arg3 harg3 arg4 harg4 arg5 harg5 arg6 harg6 arg7 harg7 arg8 harg8 arg2 v131_0 v131_1 v131_2 v131_3 v133 v134 c2_i32_83 v135 v137 v139 X_arg3 X_arg4 X_arg5 k).1 acc f_arg7 f_arg8,
      look arg8 (arg8.view.writes (Elt Ideal) g ((trip_k0_t3 (F := Ideal) 𝒱 c bd i arg3 harg3 arg4 harg4 arg5 harg5 arg6 harg6 arg7 harg7 arg8 harg8 arg2 v131_0 v131_1 v131_2 v131_3 v133 v134 c2_i32_83 v135 v137 v139 X_arg3 X_arg4 X_arg5 k).2.2.1 acc f_arg7 f_arg8 ++ rest)))
      = tick (tick (acc, look arg8 f_arg8)
        (loadK arg4 X_arg4 (k0_off14 i k 0#32) (k0_off14_inb i k 0)) (loadQ arg3 X_arg3 ![0, 0, 0, 0] (q_inb 0)) (loadK arg4 X_arg4 (k0_off16 i k 0#32) (k0_off16_inb i k 0)) (loadQ arg3 X_arg3 ![0, 1, 0, 0] (q_inb 1)) (loadV arg5 X_arg5 (k0_off15 i k 0#32 0#32) (k0_off15_inb i k 0 0)) (loadV arg5 X_arg5 (k0_off15 i k 0#32 1#32) (k0_off15_inb i k 0 1)) (loadV arg5 X_arg5 (k0_off17 i k 0#32 0#32) (k0_off17_inb i k 0 0)) (loadV arg5 X_arg5 (k0_off17 i k 0#32 1#32) (k0_off17_inb i k 0 1)))
        (loadK arg4 X_arg4 (k0_off14 i k 1#32) (k0_off14_inb i k 1)) (loadQ arg3 X_arg3 ![0, 0, 0, 0] (q_inb 0)) (loadK arg4 X_arg4 (k0_off16 i k 1#32) (k0_off16_inb i k 1)) (loadQ arg3 X_arg3 ![0, 1, 0, 0] (q_inb 1)) (loadV arg5 X_arg5 (k0_off15 i k 1#32 0#32) (k0_off15_inb i k 1 0)) (loadV arg5 X_arg5 (k0_off15 i k 1#32 1#32) (k0_off15_inb i k 1 1)) (loadV arg5 X_arg5 (k0_off17 i k 1#32 0#32) (k0_off17_inb i k 1 0)) (loadV arg5 X_arg5 (k0_off17 i k 1#32 1#32) (k0_off17_inb i k 1 1)) := by
  rw [stage3_0]
  have e : k0_pay6 (loadK arg4 X_arg4 (k0_off14 i k 1#32) (k0_off14_inb i k 1)) (loadQ arg3 X_arg3 ![0, 0, 0, 0] (q_inb 0)) = (trip_k0_t3.sl.v346 (F := Ideal) i arg3 arg4 arg7 X_arg3 X_arg4 k) :=
    (cover_cons arg7 _ _ _ _).symm
  unfold tick
  rw [e]
  refine Prod.ext ?_ ?_
  · unfold trip_k0_t3
    rfl
  · unfold trip_k0_t3
    exact look_cons arg8 _ _ _ _

end T3

section T5

variable (𝒱 : Variants) (c : Dev nD) (bd : Option 𝒱.V) (i : grid0.Coords) (arg3 : Memref sig .tc .vmem S1x2x512x128 .bf16) (harg3 : arg3.IsWhole) (arg4 : Memref sig .tc .vmem S1x2x8192x128 .bf16) (harg4 : arg4.IsWhole) (arg5 : Memref sig .tc .vmem S1x2x32x80x256 .bf16) (harg5 : arg5.IsWhole) (arg6 : Memref sig .tc .vmem S1x512x128 .bf16) (harg6 : arg6.IsWhole) (arg7 : Memref sig .tc .vmem S512x512 .f32) (harg7 : arg7.IsWhole) (arg8 : Memref sig .tc .vmem S512x512 .f32) (harg8 : arg8.IsWhole) (v160 : BitVec 32) (c0_i32_102 : BitVec 32) (X_arg3 : BufTy.Contents (Elt Ideal) arg3.view.ty) (X_arg4 : BufTy.Contents (Elt Ideal) arg4.view.ty) (X_arg5 : BufTy.Contents (Elt Ideal) arg5.view.ty) (k : Fin (k0_t5_loop i).trips)
  (acc : Carry) (f_arg7 : BufTy.Contents (Elt Ideal) arg7.view.ty) (f_arg8 : BufTy.Contents (Elt Ideal) arg8.view.ty)

theorem trip5 (g : BufTy.Contents (Elt Ideal) arg8.view.ty) (rest : List (View.Piece (Elt Ideal) S512x512 .f32)) :
    ((trip_k0_t5 (F := Ideal) 𝒱 c bd i arg3 harg3 arg4 harg4 arg5 harg5 arg6 harg6 arg7 harg7 arg8 harg8 v160 c0_i32_102 X_arg3 X_arg4 X_arg5 k).1 acc f_arg7 f_arg8,
      look arg8 (arg8.view.writes (Elt Ideal) g ((trip_k0_t5 (F := Ideal) 𝒱 c bd i arg3 harg3 arg4 harg4 arg5 harg5 arg6 harg6 arg7 harg7 arg8 harg8 v160 c0_i32_102 X_arg3 X_arg4 X_arg5 k).2.2.1 acc f_arg7 f_arg8 ++ rest)))
      = tick (acc, look arg8 f_arg8)
        (loadK arg4 X_arg4 (k0_off22 i k) (k0_off22_inb i k)) (loadQ arg3 X_arg3 ![0, 0, 0, 0] (q_inb 0)) (loadK arg4 X_arg4 (k0_off24 i k) (k0_off24_inb i k)) (loadQ arg3 X_arg3 ![0, 1, 0, 0] (q_inb 1)) (loadV arg5 X_arg5 (k0_off23 i k 0#32) (k0_off23_inb i k 0)) (loadV arg5 X_arg5 (k0_off23 i k 1#32) (k0_off23_inb i k 1)) (loadV arg5 X_arg5 (k0_off25 i k 0#32) (k0_off25_inb i k 0)) (loadV arg5 X_arg5 (k0_off25 i k 1#32) (k0_off25_inb i k 1)) := by
  have e : k0_pay6 (loadK arg4 X_arg4 (k0_off22 i k) (k0_off22_inb i k)) (loadQ arg3 X_arg3 ![0, 0, 0, 0] (q_inb 0)) = (trip_k0_t5.sl.v260 (F := Ideal) i arg3 arg4 arg7 X_arg3 X_arg4 k) :=
    (cover_cons arg7 _ _ _ _).symm
  unfold tick
  rw [e]
  refine Prod.ext ?_ ?_
  · unfold trip_k0_t5
    rfl
  · unfold trip_k0_t5
    exact look_cons arg8 _ _ _ _

end T5

end Cert.MlaIdeal.Hand

end
-- ==== Proof.MlaOffsets.lean ====
/-
  How often the attention loops turn, and where they load: in query block `q` the first loop takes the
  blocks below `4 * (q / 4)`, the third the next ones below `2 * (q / 2)`, the fifth the last one when
  `q` is odd; the loops between take none.
-/
module

public import proofs.«01_k».proof.Proof.Gen.MlaIdeal.Value

@[expose] public section

set_option maxRecDepth 16384

noncomputable section

namespace Cert.MlaIdeal.Hand

open Cert.MlaIdeal Cert.MlaIdeal.Gen Idealize.ShloMosaic

theorem trips1 : ∀ i : grid0.Coords, (k0_t1_loop i).trips = (i 2).val / 4 := by decide +kernel
theorem trips2 : ∀ i : grid0.Coords, (k0_t2_loop i).trips = 0 := by decide +kernel
theorem trips3 : ∀ i : grid0.Coords, (k0_t3_loop i).trips = (i 2).val % 4 / 2 := by decide +kernel
theorem trips4 : ∀ i : grid0.Coords, (k0_t4_loop i).trips = 0 := by decide +kernel
theorem trips5 : ∀ i : grid0.Coords, (k0_t5_loop i).trips = (i 2).val % 2 := by decide +kernel
theorem trips6 : ∀ i : grid0.Coords, (k0_t6_loop i).trips = 0 := by decide +kernel

theorem off6 : ∀ (i : grid0.Coords) (k : Fin (k0_t1_loop i).trips) (w : Fin 4),
    k0_off6 i k (BitVec.ofNat 32 w.val) = ![0, 0, 512 * (4 * k.val + w.val), 0] := by decide +kernel
theorem off7 : ∀ (i : grid0.Coords) (k : Fin (k0_t1_loop i).trips) (w : Fin 4) (c : Fin 2),
    k0_off7 i k (BitVec.ofNat 32 w.val) (BitVec.ofNat 32 c.val) = ![0, 1, 2 * (4 * k.val + w.val) + c.val, 0, 0] := by
  decide +kernel
theorem off8 : ∀ (i : grid0.Coords) (k : Fin (k0_t1_loop i).trips) (w : Fin 4),
    k0_off8 i k (BitVec.ofNat 32 w.val) = ![0, 1, 512 * (4 * k.val + w.val + 1), 0] := by decide +kernel
theorem off9 : ∀ (i : grid0.Coords) (k : Fin (k0_t1_loop i).trips) (w : Fin 4) (c : Fin 2),
    k0_off9 i k (BitVec.ofNat 32 w.val) (BitVec.ofNat 32 c.val) = ![0, 0, 2 * (4 * k.val + w.val) + c.val, 0, 0] := by
  decide +kernel

theorem off14 : ∀ (i : grid0.Coords) (k : Fin (k0_t3_loop i).trips) (w : Fin 2),
    k0_off14 i k (BitVec.ofNat 32 w.val) = ![0, 0, 512 * (4 * ((i 2).val / 4) + 2 * k.val + w.val), 0] := by decide +kernel
theorem off15 : ∀ (i : grid0.Coords) (k : Fin (k0_t3_loop i).trips) (w : Fin 2) (c : Fin 2),
    k0_off15 i k (BitVec.ofNat 32 w.val) (BitVec.ofNat 32 c.val)
      = ![0, 1, 2 * (4 * ((i 2).val / 4) + 2 * k.val + w.val) + c.val, 0, 0] := by decide +kernel
theorem off16 : ∀ (i : grid0.Coords) (k : Fin (k0_t3_loop i).trips) (w : Fin 2),
    k0_off16 i k (BitVec.ofNat 32 w.val) = ![0, 1, 512 * (4 * ((i 2).val / 4) + 2 * k.val + w.val + 1), 0] := by decide +kernel
theorem off17 : ∀ (i : grid0.Coords) (k : Fin (k0_t3_loop i).trips) (w : Fin 2) (c : Fin 2),
    k0_off17 i k (BitVec.ofNat 32 w.val) (BitVec.ofNat 32 c.val)
      = ![0, 0, 2 * (4 * ((i 2).val / 4) + 2 * k.val + w.val) + c.val, 0, 0] := by decide +kernel

theorem off22 : ∀ (i : grid0.Coords) (k : Fin (k0_t5_loop i).trips),
    k0_off22 i k = ![0, 0, 512 * (2 * ((i 2).val / 2) + k.val), 0] := by decide +kernel
theorem off23 : ∀ (i : grid0.Coords) (k : Fin (k0_t5_loop i).trips) (c : Fin 2),
    k0_off23 i k (BitVec.ofNat 32 c.val) = ![0, 1, 2 * (2 * ((i 2).val / 2) + k.val) + c.val, 0, 0] := by decide +kernel
theorem off24 : ∀ (i : grid0.Coords) (k : Fin (k0_t5_loop i).trips),
    k0_off24 i k = ![0, 1, 512 * (2 * ((i 2).val / 2) + k.val + 1), 0] := by decide +kernel
theorem off25 : ∀ (i : grid0.Coords) (k : Fin (k0_t5_loop i).trips) (c : Fin 2),
    k0_off25 i k (BitVec.ofNat 32 c.val) = ![0, 0, 2 * (2 * ((i 2).val / 2) + k.val) + c.val, 0, 0] := by decide +kernel

theorem off1 : ∀ i : grid0.Coords, k0_off1 i = ![0, 1, 512 * (i 2).val, 0] := by decide +kernel
theorem off2 : ∀ i : grid0.Coords, k0_off2 i = ![0, 0, 512 * (i 2).val, 0] := by decide +kernel
theorem off3 : ∀ (i : grid0.Coords) (c : Fin 2),
    k0_off3 i (BitVec.ofNat 32 c.val) = ![0, 1, 2 * (i 2).val + c.val, 0, 0] := by decide +kernel
theorem off4 : k0_off4 = ![0, 1, 0, 0] := by decide +kernel
theorem off5 : ∀ (i : grid0.Coords) (c : Fin 2),
    k0_off5 i (BitVec.ofNat 32 c.val) = ![0, 0, 2 * (i 2).val + c.val, 0, 0] := by decide +kernel

end Cert.MlaIdeal.Hand

end
-- ==== Proof.MlaLoops.lean ====
/-
  The attention loops keep the invariant: after each trip the running maxima and sums stand for the
  blocks taken in so far.
-/
module

public import proofs.«01_k».proof.Proof.MlaTrips
public import proofs.«01_k».proof.Proof.MlaOffsets

@[expose] public section

set_option maxRecDepth 16384

noncomputable section

namespace Cert.MlaIdeal.Hand

open Cert.MlaIdeal Cert.MlaIdeal.Gen Idealize.ShloMosaic Idealize.ShloMosaic.TcCoe Idealize.SL.Sem

/-- What lies in the query, key and value windows. -/
structure Mem (Q : Fin 2 → Fin 512 → Fin 128 → EReal) (K : Fin 2 → ℕ → Fin 128 → EReal) (V : Fin 2 → ℕ → Fin 80 → Fin 256 → EReal)
    (arg3 : Memref sig .tc .vmem S1x2x512x128 .bf16) (arg4 : Memref sig .tc .vmem S1x2x8192x128 .bf16)
    (arg5 : Memref sig .tc .vmem S1x2x32x80x256 .bf16) (X3 : BufTy.Contents (Elt Ideal) arg3.view.ty)
    (X4 : BufTy.Contents (Elt Ideal) arg4.view.ty) (X5 : BufTy.Contents (Elt Ideal) arg5.view.ty) : Prop where
  q : ∀ h n d, arg3.view.read (Elt Ideal) X3 (ix4 0 h n d) = Q h n d
  k : ∀ h (t : Fin 8192) d, arg4.view.read (Elt Ideal) X4 (ix4 0 h t d) = K h t.val d
  v : ∀ h (c : Fin 32) r d, arg5.view.read (Elt Ideal) X5 (ix5 0 h c r d) = V h c.val r d
  score : ∀ h j l n, Attn.Score (sc Q K h j l n)

section T1

variable (𝒱 : Variants) (c : Dev nD) (bd : Option 𝒱.V) (i : grid0.Coords) (arg3 : Memref sig .tc .vmem S1x2x512x128 .bf16) (harg3 : arg3.IsWhole) (arg4 : Memref sig .tc .vmem S1x2x8192x128 .bf16) (harg4 : arg4.IsWhole) (arg5 : Memref sig .tc .vmem S1x2x32x80x256 .bf16) (harg5 : arg5.IsWhole) (arg6 : Memref sig .tc .vmem S1x512x128 .bf16) (harg6 : arg6.IsWhole) (arg7 : Memref sig .tc .vmem S512x512 .f32) (harg7 : arg7.IsWhole) (arg8 : Memref sig .tc .vmem S512x512 .f32) (harg8 : arg8.IsWhole) (arg2 : BitVec 32) (v1 : FVec Ideal S80x512 .f32) (v44 : FVec Ideal S1x512 .f32) (v60 : FVec Ideal S80x512 .f32) (v87 : FVec Ideal S80x256 .bf16) (v90 : FVec Ideal S1x512 .f32) (v92 : FVec Ideal S1x512 .f32) (v96 : FVec Ideal S512x512 .bf16) (v98 : FVec Ideal S80x512 .f32) (cst_67 : Ideal .f32) (X_arg3 : BufTy.Contents (Elt Ideal) arg3.view.ty) (X_arg4 : BufTy.Contents (Elt Ideal) arg4.view.ty) (X_arg5 : BufTy.Contents (Elt Ideal) arg5.view.ty)
  {Q : Fin 2 → Fin 512 → Fin 128 → EReal} {K : Fin 2 → ℕ → Fin 128 → EReal} {V : Fin 2 → ℕ → Fin 80 → Fin 256 → EReal}
  {D : Fin 2 → Fin 80 → Fin 512 → ℝ → EReal}

theorem body1 (hm : Mem Q K V arg3 arg4 arg5 X_arg3 X_arg4 X_arg5) (k : Fin (k0_t1_loop i).trips) (acc : Carry)
    (f_arg7 : BufTy.Contents (Elt Ideal) arg7.view.ty) (f_arg8 g : BufTy.Contents (Elt Ideal) arg8.view.ty)
    (rest : List (View.Piece (Elt Ideal) S512x512 .f32)) (h : Inv Q K V D (4 * k.val) (acc, look arg8 f_arg8)) :
    Inv Q K V D (4 * (k.val + 1))
      ((trip_k0_t1 (F := Ideal) 𝒱 c bd i arg3 harg3 arg4 harg4 arg5 harg5 arg6 harg6 arg7 harg7 arg8 harg8 arg2 v1 v44 v60 v87 v90 v92 v96 v98 cst_67 X_arg3 X_arg4 X_arg5 k).1 acc f_arg7 f_arg8,
        look arg8 (arg8.view.writes (Elt Ideal) g ((trip_k0_t1 (F := Ideal) 𝒱 c bd i arg3 harg3 arg4 harg4 arg5 harg5 arg6 harg6 arg7 harg7 arg8 harg8 arg2 v1 v44 v60 v87 v90 v92 v96 v98 cst_67 X_arg3 X_arg4 X_arg5 k).2.2.1 acc f_arg7 f_arg8 ++ rest))) := by
  rw [trip1]
  refine Inv.tick Q K V ?_ hm.score _ _ _ _ _ _ _ _
    (loadK_apply arg4 X_arg4 hm.k _ _ 0 _ (off6 i k 3))
    (loadQ_apply arg3 X_arg3 hm.q _ _ 0 rfl)
    (loadK_apply arg4 X_arg4 hm.k _ _ 1 _ (off8 i k 3))
    (loadQ_apply arg3 X_arg3 hm.q _ _ 1 rfl)
    (loadV_apply arg5 X_arg5 hm.v _ _ 1 _ (off7 i k 3 0))
    (loadV_apply arg5 X_arg5 hm.v _ _ 1 _ (off7 i k 3 1))
    (loadV_apply arg5 X_arg5 hm.v _ _ 0 _ (off9 i k 3 0))
    (loadV_apply arg5 X_arg5 hm.v _ _ 0 _ (off9 i k 3 1))
  refine Inv.tick Q K V ?_ hm.score _ _ _ _ _ _ _ _
    (loadK_apply arg4 X_arg4 hm.k _ _ 0 _ (off6 i k 2))
    (loadQ_apply arg3 X_arg3 hm.q _ _ 0 rfl)
    (loadK_apply arg4 X_arg4 hm.k _ _ 1 _ (off8 i k 2))
    (loadQ_apply arg3 X_arg3 hm.q _ _ 1 rfl)
    (loadV_apply arg5 X_arg5 hm.v _ _ 1 _ (off7 i k 2 0))
    (loadV_apply arg5 X_arg5 hm.v _ _ 1 _ (off7 i k 2 1))
    (loadV_apply arg5 X_arg5 hm.v _ _ 0 _ (off9 i k 2 0))
    (loadV_apply arg5 X_arg5 hm.v _ _ 0 _ (off9 i k 2 1))
  refine Inv.tick Q K V ?_ hm.score _ _ _ _ _ _ _ _
    (loadK_apply arg4 X_arg4 hm.k _ _ 0 _ (off6 i k 1))
    (loadQ_apply arg3 X_arg3 hm.q _ _ 0 rfl)
    (loadK_apply arg4 X_arg4 hm.k _ _ 1 _ (off8 i k 1))
    (loadQ_apply arg3 X_arg3 hm.q _ _ 1 rfl)
    (loadV_apply arg5 X_arg5 hm.v _ _ 1 _ (off7 i k 1 0))
    (loadV_apply arg5 X_arg5 hm.v _ _ 1 _ (off7 i k 1 1))
    (loadV_apply arg5 X_arg5 hm.v _ _ 0 _ (off9 i k 1 0))
    (loadV_apply arg5 X_arg5 hm.v _ _ 0 _ (off9 i k 1 1))
  refine Inv.tick Q K V ?_ hm.score _ _ _ _ _ _ _ _
    (loadK_apply arg4 X_arg4 hm.k _ _ 0 _ (off6 i k 0))
    (loadQ_apply arg3 X_arg3 hm.q _ _ 0 rfl)
    (loadK_apply arg4 X_arg4 hm.k _ _ 1 _ (off8 i k 0))
    (loadQ_apply arg3 X_arg3 hm.q _ _ 1 rfl)
    (loadV_apply arg5 X_arg5 hm.v _ _ 1 _ (off7 i k 0 0))
    (loadV_apply arg5 X_arg5 hm.v _ _ 1 _ (off7 i k 0 1))
    (loadV_apply arg5 X_arg5 hm.v _ _ 0 _ (off9 i k 0 0))
    (loadV_apply arg5 X_arg5 hm.v _ _ 0 _ (off9 i k 0 1))
  exact h

theorem loop1 (hm : Mem Q K V arg3 arg4 arg5 X_arg3 X_arg4 X_arg5)
    (G_arg7 : BufTy.Contents (Elt Ideal) arg7.view.ty) (G_arg8 : BufTy.Contents (Elt Ideal) arg8.view.ty) (init : Carry)
    (h : Inv Q K V D (4 * 0) (init, look arg8 G_arg8)) (n : ℕ) (hn : n ≤ (k0_t1_loop i).trips) :
    Inv Q K V D (4 * n) ((st_k0_t1 (F := Ideal) 𝒱 c bd i arg3 harg3 arg4 harg4 arg5 harg5 arg6 harg6 arg7 harg7 arg8 harg8 arg2 v1 v44 v60 v87 v90 v92 v96 v98 cst_67 X_arg3 X_arg4 X_arg5 G_arg7 G_arg8 init n).1, look arg8 (arg8.view.writes (Elt Ideal) G_arg8 (st_k0_t1 (F := Ideal) 𝒱 c bd i arg3 harg3 arg4 harg4 arg5 harg5 arg6 harg6 arg7 harg7 arg8 harg8 arg2 v1 v44 v60 v87 v90 v92 v96 v98 cst_67 X_arg3 X_arg4 X_arg5 G_arg7 G_arg8 init n).2.2)) := by
  induction n with
  | zero => exact h
  | succ n ih =>
    rw [show n + 1 = (⟨n, hn⟩ : Fin (k0_t1_loop i).trips).val + 1 from rfl, st_k0_t1_succ]
    exact body1 _ _ _ _ _ _ _ _ _ _ _ _ _ _ _ _ _ _ _ _ _ _ _ _ _ _ _ _ _ hm ⟨n, hn⟩ _ _ _ _ _ (ih (Nat.le_of_succ_le hn))

end T1

section T2

variable (𝒱 : Variants) (c : Dev nD) (bd : Option 𝒱.V) (i : grid0.Coords) (arg3 : Memref sig .tc .vmem S1x2x512x128 .bf16) (harg3 : arg3.IsWhole) (arg4 : Memref sig .tc .vmem S1x2x8192x128 .bf16) (harg4 : arg4.IsWhole) (arg5 : Memref sig .tc .vmem S1x2x32x80x256 .bf16) (harg5 : arg5.IsWhole) (arg6 : Memref sig .tc .vmem S1x512x128 .bf16) (harg6 : arg6.IsWhole) (arg7 : Memref sig .tc .vmem S512x512 .f32) (harg7 : arg7.IsWhole) (arg8 : Memref sig .tc .vmem S512x512 .f32) (harg8 : arg8.IsWhole) (arg2 : BitVec 32) (v1 : FVec Ideal S80x512 .f32) (v44 : FVec Ideal S1x512 .f32) (v60 : FVec Ideal S80x512 .f32) (v87 : FVec Ideal S80x256 .bf16) (v90 : FVec Ideal S1x512 .f32) (v92 : FVec Ideal S1x512 .f32) (v96 : FVec Ideal S512x512 .bf16) (v98 : FVec Ideal S80x512 .f32) (cst_67 : Ideal .f32) (v129 : BitVec 32) (X_arg3 : BufTy.Contents (Elt Ideal) arg3.view.ty) (X_arg4 : BufTy.Contents (Elt Ideal) arg4.view.ty) (X_arg5 : BufTy.Contents (Elt Ideal) arg5.view.ty)
  {Q : Fin 2 → Fin 512 → Fin 128 → EReal} {K : Fin 2 → ℕ → Fin 128 → EReal} {V : Fin 2 → ℕ → Fin 80 → Fin 256 → EReal}
  {D : Fin 2 → Fin 80 → Fin 512 → ℝ → EReal}

theorem loop2 (G_arg7 : BufTy.Contents (Elt Ideal) arg7.view.ty) (G_arg8 : BufTy.Contents (Elt Ideal) arg8.view.ty) (init : Carry) :
    ((st_k0_t2 (F := Ideal) 𝒱 c bd i arg3 harg3 arg4 harg4 arg5 harg5 arg6 harg6 arg7 harg7 arg8 harg8 arg2 v1 v44 v60 v87 v90 v92 v96 v98 cst_67 v129 X_arg3 X_arg4 X_arg5 G_arg7 G_arg8 init (k0_t2_loop i).trips).1,
      look arg8 (arg8.view.writes (Elt Ideal) G_arg8 (st_k0_t2 (F := Ideal) 𝒱 c bd i arg3 harg3 arg4 harg4 arg5 harg5 arg6 harg6 arg7 harg7 arg8 harg8 arg2 v1 v44 v60 v87 v90 v92 v96 v98 cst_67 v129 X_arg3 X_arg4 X_arg5 G_arg7 G_arg8 init (k0_t2_loop i).trips).2.2)) = (init, look arg8 G_arg8) := by
  rw [trips2]
  rfl

end T2

section T3

variable (𝒱 : Variants) (c : Dev nD) (bd : Option 𝒱.V) (i : grid0.Coords) (arg3 : Memref sig .tc .vmem S1x2x512x128 .bf16) (harg3 : arg3.IsWhole) (arg4 : Memref sig .tc .vmem S1x2x8192x128 .bf16) (harg4 : arg4.IsWhole) (arg5 : Memref sig .tc .vmem S1x2x32x80x256 .bf16) (harg5 : arg5.IsWhole) (arg6 : Memref sig .tc .vmem S1x512x128 .bf16) (harg6 : arg6.IsWhole) (arg7 : Memref sig .tc .vmem S512x512 .f32) (harg7 : arg7.IsWhole) (arg8 : Memref sig .tc .vmem S512x512 .f32) (harg8 : arg8.IsWhole) (arg2 : BitVec 32) (v131_0 : FVec Ideal S1x512 .f32) (v131_1 : FVec Ideal S80x512 .f32) (v131_2 : FVec Ideal S1x512 .f32) (v131_3 : FVec Ideal S80x512 .f32) (v133 : BitVec 32) (v134 : BitVec 32) (c2_i32_83 : BitVec 32) (v135 : BitVec 32) (v137 : BitVec 32) (v139 : BitVec 32) (X_arg3 : BufTy.Contents (Elt Ideal) arg3.view.ty) (X_arg4 : BufTy.Contents (Elt Ideal) arg4.view.ty) (X_arg5 : BufTy.Contents (Elt Ideal) arg5.view.ty)
  {Q : Fin 2 → Fin 512 → Fin 128 → EReal} {K : Fin 2 → ℕ → Fin 128 → EReal} {V : Fin 2 → ℕ → Fin 80 → Fin 256 → EReal}
  {D : Fin 2 → Fin 80 → Fin 512 → ℝ → EReal}

theorem body3 (hm : Mem Q K V arg3 arg4 arg5 X_arg3 X_arg4 X_arg5) (k : Fin (k0_t3_loop i).trips) (acc : Carry)
    (f_arg7 : BufTy.Contents (Elt Ideal) arg7.view.ty) (f_arg8 g : BufTy.Contents (Elt Ideal) arg8.view.ty)
    (rest : List (View.Piece (Elt Ideal) S512x512 .f32)) (h : Inv Q K V D (4 * ((i 2).val / 4) + 2 * k.val) (acc, look arg8 f_arg8)) :
    Inv Q K V D (4 * ((i 2).val / 4) + 2 * (k.val + 1))
      ((trip_k0_t3 (F := Ideal) 𝒱 c bd i arg3 harg3 arg4 harg4 arg5 harg5 arg6 harg6 arg7 harg7 arg8 harg8 arg2 v131_0 v131_1 v131_2 v131_3 v133 v134 c2_i32_83 v135 v137 v139 X_arg3 X_arg4 X_arg5 k).1 acc f_arg7 f_arg8,
        look arg8 (arg8.view.writes (Elt Ideal) g ((trip_k0_t3 (F := Ideal) 𝒱 c bd i arg3 harg3 arg4 harg4 arg5 harg5 arg6 harg6 arg7 harg7 arg8 harg8 arg2 v131_0 v131_1 v131_2 v131_3 v133 v134 c2_i32_83 v135 v137 v139 X_arg3 X_arg4 X_arg5 k).2.2.1 acc f_arg7 f_arg8 ++ rest))) := by
  rw [trip3]
  refine Inv.tick Q K V ?_ hm.score _ _ _ _ _ _ _ _
    (loadK_apply arg4 X_arg4 hm.k _ _ 0 _ (off14 i k 1))
    (loadQ_apply arg3 X_arg3 hm.q _ _ 0 rfl)
    (loadK_apply arg4 X_arg4 hm.k _ _ 1 _ (off16 i k 1))
    (loadQ_apply arg3 X_arg3 hm.q _ _ 1 rfl)
    (loadV_apply arg5 X_arg5 hm.v _ _ 1 _ (off15 i k 1 0))
    (loadV_apply arg5 X_arg5 hm.v _ _ 1 _ (off15 i k 1 1))
    (loadV_apply arg5 X_arg5 hm.v _ _ 0 _ (off17 i k 1 0))
    (loadV_apply arg5 X_arg5 hm.v _ _ 0 _ (off17 i k 1 1))
  refine Inv.tick Q K V ?_ hm.score _ _ _ _ _ _ _ _
    (loadK_apply arg4 X_arg4 hm.k _ _ 0 _ (off14 i k 0))
    (loadQ_apply arg3 X_arg3 hm.q _ _ 0 rfl)
    (loadK_apply arg4 X_arg4 hm.k _ _ 1 _ (off16 i k 0))
    (loadQ_apply arg3 X_arg3 hm.q _ _ 1 rfl)
    (loadV_apply arg5 X_arg5 hm.v _ _ 1 _ (off15 i k 0 0))
    (loadV_apply arg5 X_arg5 hm.v _ _ 1 _ (off15 i k 0 1))
    (loadV_apply arg5 X_arg5 hm.v _ _ 0 _ (off17 i k 0 0))
    (loadV_apply arg5 X_arg5 hm.v _ _ 0 _ (off17 i k 0 1))
  exact h

theorem loop3 (hm : Mem Q K V arg3 arg4 arg5 X_arg3 X_arg4 X_arg5)
    (G_arg7 : BufTy.Contents (Elt Ideal) arg7.view.ty) (G_arg8 : BufTy.Contents (Elt Ideal) arg8.view.ty) (init : Carry)
    (h : Inv Q K V D (4 * ((i 2).val / 4) + 2 * 0) (init, look arg8 G_arg8)) (n : ℕ) (hn : n ≤ (k0_t3_loop i).trips) :
    Inv Q K V D (4 * ((i 2).val / 4) + 2 * n) ((st_k0_t3 (F := Ideal) 𝒱 c bd i arg3 harg3 arg4 harg4 arg5 harg5 arg6 harg6 arg7 harg7 arg8 harg8 arg2 v131_0 v131_1 v131_2 v131_3 v133 v134 c2_i32_83 v135 v137 v139 X_arg3 X_arg4 X_arg5 G_arg7 G_arg8 init n).1, look arg8 (arg8.view.writes (Elt Ideal) G_arg8 (st_k0_t3 (F := Ideal) 𝒱 c bd i arg3 harg3 arg4 harg4 arg5 harg5 arg6 harg6 arg7 harg7 arg8 harg8 arg2 v131_0 v131_1 v131_2 v131_3 v133 v134 c2_i32_83 v135 v137 v139 X_arg3 X_arg4 X_arg5 G_arg7 G_arg8 init n).2.2)) := by
  induction n with
  | zero => exact h
  | succ n ih =>
    rw [show n + 1 = (⟨n, hn⟩ : Fin (k0_t3_loop i).trips).val + 1 from rfl, st_k0_t3_succ]
    exact body3 _ _ _ _ _ _ _ _ _ _ _ _ _ _ _ _ _ _ _ _ _ _ _ _ _ _ _ _ _ _ hm ⟨n, hn⟩ _ _ _ _ _ (ih (Nat.le_of_succ_le hn))

end T3

section T4

variable (𝒱 : Variants) (c : Dev nD) (bd : Option 𝒱.V) (i : grid0.Coords) (arg3 : Memref sig .tc .vmem S1x2x512x128 .bf16) (harg3 : arg3.IsWhole) (arg4 : Memref sig .tc .vmem S1x2x8192x128 .bf16) (harg4 : arg4.IsWhole) (arg5 : Memref sig .tc .vmem S1x2x32x80x256 .bf16) (harg5 : arg5.IsWhole) (arg6 : Memref sig .tc .vmem S1x512x128 .bf16) (harg6 : arg6.IsWhole) (arg7 : Memref sig .tc .vmem S512x512 .f32) (harg7 : arg7.IsWhole) (arg8 : Memref sig .tc .vmem S512x512 .f32) (harg8 : arg8.IsWhole) (arg2 : BitVec 32) (v131_0 : FVec Ideal S1x512 .f32) (v131_1 : FVec Ideal S80x512 .f32) (v131_2 : FVec Ideal S1x512 .f32) (v131_3 : FVec Ideal S80x512 .f32) (v133 : BitVec 32) (v134 : BitVec 32) (c2_i32_83 : BitVec 32) (v135 : BitVec 32) (v137 : BitVec 32) (v139 : BitVec 32) (v156 : BitVec 32) (X_arg3 : BufTy.Contents (Elt Ideal) arg3.view.ty) (X_arg4 : BufTy.Contents (Elt Ideal) arg4.view.ty) (X_arg5 : BufTy.Contents (Elt Ideal) arg5.view.ty)
  {Q : Fin 2 → Fin 512 → Fin 128 → EReal} {K : Fin 2 → ℕ → Fin 128 → EReal} {V : Fin 2 → ℕ → Fin 80 → Fin 256 → EReal}
  {D : Fin 2 → Fin 80 → Fin 512 → ℝ → EReal}

theorem loop4 (G_arg7 : BufTy.Contents (Elt Ideal) arg7.view.ty) (G_arg8 : BufTy.Contents (Elt Ideal) arg8.view.ty) (init : Carry) :
    ((st_k0_t4 (F := Ideal) 𝒱 c bd i arg3 harg3 arg4 harg4 arg5 harg5 arg6 harg6 arg7 harg7 arg8 harg8 arg2 v131_0 v131_1 v131_2 v131_3 v133 v134 c2_i32_83 v135 v137 v139 v156 X_arg3 X_arg4 X_arg5 G_arg7 G_arg8 init (k0_t4_loop i).trips).1,
      look arg8 (arg8.view.writes (Elt Ideal) G_arg8 (st_k0_t4 (F := Ideal) 𝒱 c bd i arg3 harg3 arg4 harg4 arg5 harg5 arg6 harg6 arg7 harg7 arg8 harg8 arg2 v131_0 v131_1 v131_2 v131_3 v133 v134 c2_i32_83 v135 v137 v139 v156 X_arg3 X_arg4 X_arg5 G_arg7 G_arg8 init (k0_t4_loop i).trips).2.2)) = (init, look arg8 G_arg8) := by
  rw [trips4]
  rfl

end T4

section T5

variable (𝒱 : Variants) (c : Dev nD) (bd : Option 𝒱.V) (i : grid0.Coords) (arg3 : Memref sig .tc .vmem S1x2x512x128 .bf16) (harg3 : arg3.IsWhole) (arg4 : Memref sig .tc .vmem S1x2x8192x128 .bf16) (harg4 : arg4.IsWhole) (arg5 : Memref sig .tc .vmem S1x2x32x80x256 .bf16) (harg5 : arg5.IsWhole) (arg6 : Memref sig .tc .vmem S1x512x128 .bf16) (harg6 : arg6.IsWhole) (arg7 : Memref sig .tc .vmem S512x512 .f32) (harg7 : arg7.IsWhole) (arg8 : Memref sig .tc .vmem S512x512 .f32) (harg8 : arg8.IsWhole) (v160 : BitVec 32) (c0_i32_102 : BitVec 32) (X_arg3 : BufTy.Contents (Elt Ideal) arg3.view.ty) (X_arg4 : BufTy.Contents (Elt Ideal) arg4.view.ty) (X_arg5 : BufTy.Contents (Elt Ideal) arg5.view.ty)
  {Q : Fin 2 → Fin 512 → Fin 128 → EReal} {K : Fin 2 → ℕ → Fin 128 → EReal} {V : Fin 2 → ℕ → Fin 80 → Fin 256 → EReal}
  {D : Fin 2 → Fin 80 → Fin 512 → ℝ → EReal}

theorem body5 (hm : Mem Q K V arg3 arg4 arg5 X_arg3 X_arg4 X_arg5) (k : Fin (k0_t5_loop i).trips) (acc : Carry)
    (f_arg7 : BufTy.Contents (Elt Ideal) arg7.view.ty) (f_arg8 g : BufTy.Contents (Elt Ideal) arg8.view.ty)
    (rest : List (View.Piece (Elt Ideal) S512x512 .f32)) (h : Inv Q K V D (2 * ((i 2).val / 2) + k.val) (acc, look arg8 f_arg8)) :
    Inv Q K V D (2 * ((i 2).val / 2) + (k.val + 1))
      ((trip_k0_t5 (F := Ideal) 𝒱 c bd i arg3 harg3 arg4 harg4 arg5 harg5 arg6 harg6 arg7 harg7 arg8 harg8 v160 c0_i32_102 X_arg3 X_arg4 X_arg5 k).1 acc f_arg7 f_arg8,
        look arg8 (arg8.view.writes (Elt Ideal) g ((trip_k0_t5 (F := Ideal) 𝒱 c bd i arg3 harg3 arg4 harg4 arg5 harg5 arg6 harg6 arg7 harg7 arg8 harg8 v160 c0_i32_102 X_arg3 X_arg4 X_arg5 k).2.2.1 acc f_arg7 f_arg8 ++ rest))) := by
  rw [trip5]
  refine Inv.tick Q K V ?_ hm.score _ _ _ _ _ _ _ _
    (loadK_apply arg4 X_arg4 hm.k _ _ 0 _ (off22 i k))
    (loadQ_apply arg3 X_arg3 hm.q _ _ 0 rfl)
    (loadK_apply arg4 X_arg4 hm.k _ _ 1 _ (off24 i k))
    (loadQ_apply arg3 X_arg3 hm.q _ _ 1 rfl)
    (loadV_apply arg5 X_arg5 hm.v _ _ 1 _ (off23 i k 0))
    (loadV_apply arg5 X_arg5 hm.v _ _ 1 _ (off23 i k 1))
    (loadV_apply arg5 X_arg5 hm.v _ _ 0 _ (off25 i k 0))
    (loadV_apply arg5 X_arg5 hm.v _ _ 0 _ (off25 i k 1))
  exact h

theorem loop5 (hm : Mem Q K V arg3 arg4 arg5 X_arg3 X_arg4 X_arg5)
    (G_arg7 : BufTy.Contents (Elt Ideal) arg7.view.ty) (G_arg8 : BufTy.Contents (Elt Ideal) arg8.view.ty) (init : Carry)
    (h : Inv Q K V D (2 * ((i 2).val / 2) + 0) (init, look arg8 G_arg8)) (n : ℕ) (hn : n ≤ (k0_t5_loop i).trips) :
    Inv Q K V D (2 * ((i 2).val / 2) + n) ((st_k0_t5 (F := Ideal) 𝒱 c bd i arg3 harg3 arg4 harg4 arg5 harg5 arg6 harg6 arg7 harg7 arg8 harg8 v160 c0_i32_102 X_arg3 X_arg4 X_arg5 G_arg7 G_arg8 init n).1, look arg8 (arg8.view.writes (Elt Ideal) G_arg8 (st_k0_t5 (F := Ideal) 𝒱 c bd i arg3 harg3 arg4 harg4 arg5 harg5 arg6 harg6 arg7 harg7 arg8 harg8 v160 c0_i32_102 X_arg3 X_arg4 X_arg5 G_arg7 G_arg8 init n).2.2)) := by
  induction n with
  | zero => exact h
  | succ n ih =>
    rw [show n + 1 = (⟨n, hn⟩ : Fin (k0_t5_loop i).trips).val + 1 from rfl, st_k0_t5_succ]
    exact body5 _ _ _ _ _ _ _ _ _ _ _ _ _ _ _ _ _ _ _ _ _ hm ⟨n, hn⟩ _ _ _ _ _ (ih (Nat.le_of_succ_le hn))

end T5

section T6

variable (𝒱 : Variants) (c : Dev nD) (bd : Option 𝒱.V) (i : grid0.Coords) (arg3 : Memref sig .tc .vmem S1x2x512x128 .bf16) (harg3 : arg3.IsWhole) (arg4 : Memref sig .tc .vmem S1x2x8192x128 .bf16) (harg4 : arg4.IsWhole) (arg5 : Memref sig .tc .vmem S1x2x32x80x256 .bf16) (harg5 : arg5.IsWhole) (arg6 : Memref sig .tc .vmem S1x512x128 .bf16) (harg6 : arg6.IsWhole) (arg7 : Memref sig .tc .vmem S512x512 .f32) (harg7 : arg7.IsWhole) (arg8 : Memref sig .tc .vmem S512x512 .f32) (harg8 : arg8.IsWhole) (v160 : BitVec 32) (v183 : BitVec 32) (X_arg3 : BufTy.Contents (Elt Ideal) arg3.view.ty) (X_arg4 : BufTy.Contents (Elt Ideal) arg4.view.ty) (X_arg5 : BufTy.Contents (Elt Ideal) arg5.view.ty)
  {Q : Fin 2 → Fin 512 → Fin 128 → EReal} {K : Fin 2 → ℕ → Fin 128 → EReal} {V : Fin 2 → ℕ → Fin 80 → Fin 256 → EReal}
  {D : Fin 2 → Fin 80 → Fin 512 → ℝ → EReal}

theorem loop6 (G_arg7 : BufTy.Contents (Elt Ideal) arg7.view.ty) (G_arg8 : BufTy.Contents (Elt Ideal) arg8.view.ty) (init : Carry) :
    ((st_k0_t6 (F := Ideal) 𝒱 c bd i arg3 harg3 arg4 harg4 arg5 harg5 arg6 harg6 arg7 harg7 arg8 harg8 v160 v183 X_arg3 X_arg4 X_arg5 G_arg7 G_arg8 init (k0_t6_loop i).trips).1,
      look arg8 (arg8.view.writes (Elt Ideal) G_arg8 (st_k0_t6 (F := Ideal) 𝒱 c bd i arg3 harg3 arg4 harg4 arg5 harg5 arg6 harg6 arg7 harg7 arg8 harg8 v160 v183 X_arg3 X_arg4 X_arg5 G_arg7 G_arg8 init (k0_t6_loop i).trips).2.2)) = (init, look arg8 G_arg8) := by
  rw [trips6]
  rfl

end T6

end Cert.MlaIdeal.Hand

end
-- ==== Proof.MlaStart.lean ====
/-
  Before its loops the attention kernel takes in the block on the diagonal, where key `l` counts for
  query `n` only if `l ≤ n`, and scores the second head's first block.
-/
module

public import proofs.«01_k».proof.Proof.MlaLoops

@[expose] public section

set_option maxRecDepth 16384

noncomputable section

namespace Cert.MlaIdeal.Hand

open Cert.MlaIdeal Cert.MlaIdeal.Gen Idealize.ShloMosaic Idealize.ShloMosaic.TcCoe Idealize.SL.Sem

theorem sieve_apply (st : Vec Ideal S512x512 .f32) (l n : Fin 512) :
    k0_pay142 st (ix2 l n) = if l ≤ n then st (ix2 l n) else ⊥ := by
  have e : Named.named (F := Ideal) κ "mask" (φ := .f32) 0xF149F2CA#32 = (⊥ : EReal) :=
    IdealRules.named_const.ideal_named_scalar _ _ _ _ rfl
  have h : ∀ l n : Fin 512, (BitVec.sle (BitVec.ofNat 32 l.val) (BitVec.ofNat 32 n.val)) = decide (l ≤ n) := by
    intro l n
    have e1 : ∀ m : Fin 512, (BitVec.ofNat 32 m.val).toInt = m.val := by
      intro m
      rw [BitVec.toInt_eq_toNat_of_lt (by rw [BitVec.toNat_ofNat, Nat.mod_eq_of_lt (by omega)]; omega), BitVec.toNat_ofNat,
        Nat.mod_eq_of_lt (by omega)]
    rw [BitVec.sle, e1, e1]
    simp only [Fin.le_def, Int.ofNat_le]
  pointwise [k0_pay142]
  rw [e]
  show Scalar.select (BitVec.ofBool (BitVec.sle (BitVec.ofNat 32 l.val) (BitVec.ofNat 32 n.val))) _ _ = _
  rw [h]
  by_cases hl : l ≤ n
  · rw [decide_eq_true hl, if_pos hl]; rfl
  · rw [decide_eq_false hl, if_neg hl]; rfl

theorem Holds.start : Holds k0_pay136 k0_pay137 fun _ _ _ => 0 := by
  refine ⟨fun n => ?_, fun _ _ _ _ => mul_zero _⟩
  obtain ⟨μ, h⟩ := Attn.start_real
  refine ⟨μ, ?_, fun r => ?_⟩
  · rw [← h]; rfl
  · pointwise [k0_pay137]

/-- What the diagonal block adds, `q` being the number of the query block. -/
def diag (Q : Fin 2 → Fin 512 → Fin 128 → EReal) (K : Fin 2 → ℕ → Fin 128 → EReal) (V : Fin 2 → ℕ → Fin 80 → Fin 256 → EReal)
    (q : ℕ) (h : Fin 2) (r : Fin 80) (n : Fin 512) (μ : ℝ) : EReal :=
  block (fun l n => if l ≤ n then sc Q K h q l n else ⊥) (vl V h q) r n μ

theorem Holds.first {Q : Fin 2 → Fin 512 → Fin 128 → EReal} {K : Fin 2 → ℕ → Fin 128 → EReal} {V : Fin 2 → ℕ → Fin 80 → Fin 256 → EReal}
    (hs : ∀ h j l n, Attn.Score (sc Q K h j l n)) (q : ℕ) (h : Fin 2) (k' q' : Vec Ideal S1x1x512x128 .bf16)
    (v0 v1 : Vec Ideal S1x1x1x80x256 .bf16)
    (hk : ∀ l d, k' (ix4 0 0 l d) = K h (512 * q + l.val) d) (hq : ∀ n d, q' (ix4 0 0 n d) = Q h n d)
    (h0 : ∀ r d, v0 (ix5 0 0 0 r d) = V h (2 * q) r d) (h1 : ∀ r d, v1 (ix5 0 0 0 r d) = V h (2 * q + 1) r d) :
    Holds (k0_pay1 k0_pay136 (k0_pay142 (k0_pay6 k' q')))
      (k0_pay2 k0_pay136 k0_pay137 (k0_pay142 (k0_pay6 k' q')) (k0_pay7 v0) v1) (seen Q K V (diag Q K V q) h 0) := by
  have e : seen Q K V (diag Q K V q) h 0
      = fun r n μ => 0 + block (fun l n => if l ≤ n then sc Q K h q l n else ⊥) (vl V h q) r n μ := by
    funext r n μ
    rw [seen, Finset.range_zero, Finset.sum_empty, add_zero, zero_add, diag]
  rw [e]
  refine Holds.start.step _ v0 v1 _ _ (fun l n => ?_) (fun l n => ?_) fun r l => ?_
  · show Attn.Score (if l ≤ n then _ else _)
    split
    · exact hs h q l n
    · exact .bot
  · rw [sieve_apply]
    refine if_congr Iff.rfl ?_ rfl
    rw [seam_apply]
    exact Finset.sum_congr rfl fun d _ => by rw [hk, hq]
  · unfold vals vl
    simp only [h0, h1]

section

variable (c : Dev nD) (i : grid0.Coords) (arg3 : Memref sig .tc .vmem S1x2x512x128 .bf16) (harg3 : arg3.IsWhole) (arg4 : Memref sig .tc .vmem S1x2x8192x128 .bf16) (harg4 : arg4.IsWhole) (arg5 : Memref sig .tc .vmem S1x2x32x80x256 .bf16) (harg5 : arg5.IsWhole) (arg6 : Memref sig .tc .vmem S1x512x128 .bf16) (harg6 : arg6.IsWhole) (arg7 : Memref sig .tc .vmem S512x512 .f32) (harg7 : arg7.IsWhole) (arg8 : Memref sig .tc .vmem S512x512 .f32) (harg8 : arg8.IsWhole)
  (x0 : Vec Ideal S1x2x512x128 .bf16) (x1 : Vec Ideal S1x2x8192x128 .bf16) (x2 : Vec Ideal S1x2x32x80x256 .bf16)
  {Q : Fin 2 → Fin 512 → Fin 128 → EReal} {K : Fin 2 → ℕ → Fin 128 → EReal} {V : Fin 2 → ℕ → Fin 80 → Fin 256 → EReal}

theorem head0 :
    (kernelRun0_A.sl.v72 (F := Ideal) c i arg3 harg3 arg4 harg4 arg7 x0 x1) = k0_pay6 (loadK arg4 (harg4.unread x1) (k0_off2 i) (k0_off2_inb i)) (loadQ arg3 (harg3.unread x0) ![0, 0, 0, 0] (q_inb 0)) :=
  cover_cons arg7 _ _ _ _

theorem head1 :
    (kernelRun0_A.sl.v26 (F := Ideal) c i arg3 harg3 arg4 harg4 arg8 x0 x1) = k0_pay6 (loadK arg4 (harg4.unread x1) (k0_off1 i) (k0_off1_inb i)) (loadQ arg3 (harg3.unread x0) ![0, 1, 0, 0] (q_inb 1)) :=
  cover_cons arg8 _ _ _ _

theorem ahead0 :
    look arg8 (arg8.view.writes (Elt Ideal) arg8.view.junk (kernelRun0_A.sl.HS1_2 (F := Ideal) c i arg3 harg3 arg4 harg4 x0 x1)) = k0_pay6 (loadK arg4 (harg4.unread x1) k0_off4 k0_off4_inb) (loadQ arg3 (harg3.unread x0) ![0, 1, 0, 0] (q_inb 1)) :=
  look_cons arg8 _ _ _ _

theorem max0 : (kernelRun0_A.sl.r_4 (F := Ideal) c i arg3 harg3 arg4 harg4 arg7 x0 x1) = k0_pay1 k0_pay136 (k0_pay142 (kernelRun0_A.sl.v72 (F := Ideal) c i arg3 harg3 arg4 harg4 arg7 x0 x1)) := rfl

theorem max1 : (kernelRun0_A.sl.r (F := Ideal) c i arg3 harg3 arg4 harg4 arg8 x0 x1) = k0_pay1 k0_pay136 (k0_pay142 (kernelRun0_A.sl.v26 (F := Ideal) c i arg3 harg3 arg4 harg4 arg8 x0 x1)) := rfl

theorem sum0 : k0_pay152 k0_pay137 (kernelRun0_A.sl.r_3 (F := Ideal) c i arg5 harg5 x2) (kernelRun0_A.sl.r_5 (F := Ideal) c i arg3 harg3 arg4 harg4 arg7 x0 x1) (kernelRun0_A.sl.r_6 (F := Ideal) c i arg3 harg3 arg4 harg4 arg7 x0 x1) (kernelRun0_A.sl.r_7 (F := Ideal) c i arg3 harg3 arg4 harg4 arg5 harg5 arg7 x0 x1 x2) (kernelRun0_A.sl.cst_67 (F := Ideal))
    = k0_pay2 k0_pay136 k0_pay137 (k0_pay142 (kernelRun0_A.sl.v72 (F := Ideal) c i arg3 harg3 arg4 harg4 arg7 x0 x1)) (k0_pay7 (loadV arg5 (harg5.unread x2) (k0_off5 i 0#32) (k0_off5_inb i 0))) (loadV arg5 (harg5.unread x2) (k0_off5 i 1#32) (k0_off5_inb i 1)) := rfl

theorem sum1 : (kernelRun0_A.sl.r_1 (F := Ideal) c i arg3 harg3 arg4 harg4 arg5 harg5 arg8 x0 x1 x2)
    = k0_pay2 k0_pay136 k0_pay137 (k0_pay142 (kernelRun0_A.sl.v26 (F := Ideal) c i arg3 harg3 arg4 harg4 arg8 x0 x1)) (k0_pay7 (loadV arg5 (harg5.unread x2) (k0_off3 i 0#32) (k0_off3_inb i 0))) (loadV arg5 (harg5.unread x2) (k0_off3 i 1#32) (k0_off3_inb i 1)) := rfl

theorem begin_inv (hm : Mem Q K V arg3 arg4 arg5 (harg3.unread x0) (harg4.unread x1) (harg5.unread x2)) :
    Inv Q K V (diag Q K V (i 2).val) 0 (((kernelRun0_A.sl.r_4 (F := Ideal) c i arg3 harg3 arg4 harg4 arg7 x0 x1), k0_pay152 k0_pay137 (kernelRun0_A.sl.r_3 (F := Ideal) c i arg5 harg5 x2) (kernelRun0_A.sl.r_5 (F := Ideal) c i arg3 harg3 arg4 harg4 arg7 x0 x1) (kernelRun0_A.sl.r_6 (F := Ideal) c i arg3 harg3 arg4 harg4 arg7 x0 x1) (kernelRun0_A.sl.r_7 (F := Ideal) c i arg3 harg3 arg4 harg4 arg5 harg5 arg7 x0 x1 x2) (kernelRun0_A.sl.cst_67 (F := Ideal)), (kernelRun0_A.sl.r (F := Ideal) c i arg3 harg3 arg4 harg4 arg8 x0 x1), (kernelRun0_A.sl.r_1 (F := Ideal) c i arg3 harg3 arg4 harg4 arg5 harg5 arg8 x0 x1 x2)),
      look arg8 (arg8.view.writes (Elt Ideal) arg8.view.junk (kernelRun0_A.sl.HS1_2 (F := Ideal) c i arg3 harg3 arg4 harg4 x0 x1))) := by
  refine ⟨?_, ?_, ?_⟩
  · show Holds (kernelRun0_A.sl.r_4 (F := Ideal) c i arg3 harg3 arg4 harg4 arg7 x0 x1) (k0_pay152 k0_pay137 (kernelRun0_A.sl.r_3 (F := Ideal) c i arg5 harg5 x2) (kernelRun0_A.sl.r_5 (F := Ideal) c i arg3 harg3 arg4 harg4 arg7 x0 x1) (kernelRun0_A.sl.r_6 (F := Ideal) c i arg3 harg3 arg4 harg4 arg7 x0 x1) (kernelRun0_A.sl.r_7 (F := Ideal) c i arg3 harg3 arg4 harg4 arg5 harg5 arg7 x0 x1 x2) (kernelRun0_A.sl.cst_67 (F := Ideal))) _
    rw [max0, sum0, head0]
    exact Holds.first hm.score _ 0 _ _ _ _ (loadK_apply arg4 _ hm.k _ _ 0 _ (off2 i)) (loadQ_apply arg3 _ hm.q _ _ 0 rfl)
      (loadV_apply arg5 _ hm.v _ _ 0 _ (off5 i 0)) (loadV_apply arg5 _ hm.v _ _ 0 _ (off5 i 1))
  · show Holds (kernelRun0_A.sl.r (F := Ideal) c i arg3 harg3 arg4 harg4 arg8 x0 x1) (kernelRun0_A.sl.r_1 (F := Ideal) c i arg3 harg3 arg4 harg4 arg5 harg5 arg8 x0 x1 x2) _
    rw [max1, sum1, head1]
    exact Holds.first hm.score _ 1 _ _ _ _ (loadK_apply arg4 _ hm.k _ _ 1 _ (off1 i)) (loadQ_apply arg3 _ hm.q _ _ 1 rfl)
      (loadV_apply arg5 _ hm.v _ _ 1 _ (off3 i 0)) (loadV_apply arg5 _ hm.v _ _ 1 _ (off3 i 1))
  · intro l n
    show look arg8 (arg8.view.writes (Elt Ideal) arg8.view.junk (kernelRun0_A.sl.HS1_2 (F := Ideal) c i arg3 harg3 arg4 harg4 x0 x1)) (ix2 l n) = _
    rw [ahead0, seam_apply]
    refine Finset.sum_congr rfl fun d _ => ?_
    rw [loadK_apply arg4 _ hm.k _ _ 1 0 off4, Nat.mul_zero]
    exact congrArg _ (loadQ_apply arg3 _ hm.q _ _ 1 rfl n d)

end

end Cert.MlaIdeal.Hand

end
-- ==== Proof.MlaChain.lean ====
/-
  The six loops of the attention kernel one after the other: what is carried at the end stands for the
  diagonal block and all blocks before it.
-/
module

public import proofs.«01_k».proof.Proof.MlaStart

@[expose] public section

set_option maxRecDepth 16384

noncomputable section

namespace Cert.MlaIdeal.Hand

open Cert.MlaIdeal Cert.MlaIdeal.Gen Idealize.ShloMosaic Idealize.ShloMosaic.TcCoe Idealize.SL.Sem

section

variable (c : Dev nD) (i : grid0.Coords) (arg3 : Memref sig .tc .vmem S1x2x512x128 .bf16) (harg3 : arg3.IsWhole) (arg4 : Memref sig .tc .vmem S1x2x8192x128 .bf16) (harg4 : arg4.IsWhole) (arg5 : Memref sig .tc .vmem S1x2x32x80x256 .bf16) (harg5 : arg5.IsWhole) (arg6 : Memref sig .tc .vmem S1x512x128 .bf16) (harg6 : arg6.IsWhole) (arg7 : Memref sig .tc .vmem S512x512 .f32) (harg7 : arg7.IsWhole) (arg8 : Memref sig .tc .vmem S512x512 .f32) (harg8 : arg8.IsWhole)
  (x0 : Vec Ideal S1x2x512x128 .bf16) (x1 : Vec Ideal S1x2x8192x128 .bf16) (x2 : Vec Ideal S1x2x32x80x256 .bf16)
  {Q : Fin 2 → Fin 512 → Fin 128 → EReal} {K : Fin 2 → ℕ → Fin 128 → EReal} {V : Fin 2 → ℕ → Fin 80 → Fin 256 → EReal}

/-- What loop 1 leaves. -/
def state1 : (Carry × List (View.Piece (Elt Ideal) S512x512 .f32) × List (View.Piece (Elt Ideal) S512x512 .f32)) :=
  st_k0_t1 (F := Ideal) Variants.none c none i arg3 harg3 arg4 harg4 arg5 harg5 arg6 harg6 arg7 harg7 arg8 harg8 (BitVec.ofNat 32 (i 2).val) k0_pay137 (kernelRun0_A.sl.r (F := Ideal) c i arg3 harg3 arg4 harg4 arg8 x0 x1) (kernelRun0_A.sl.r_1 (F := Ideal) c i arg3 harg3 arg4 harg4 arg5 harg5 arg8 x0 x1 x2) (kernelRun0_A.sl.r_3 (F := Ideal) c i arg5 harg5 x2) (kernelRun0_A.sl.r_4 (F := Ideal) c i arg3 harg3 arg4 harg4 arg7 x0 x1) (kernelRun0_A.sl.r_5 (F := Ideal) c i arg3 harg3 arg4 harg4 arg7 x0 x1) (kernelRun0_A.sl.r_6 (F := Ideal) c i arg3 harg3 arg4 harg4 arg7 x0 x1) (kernelRun0_A.sl.r_7 (F := Ideal) c i arg3 harg3 arg4 harg4 arg5 harg5 arg7 x0 x1 x2) (kernelRun0_A.sl.cst_67 (F := Ideal)) (harg3.unread x0) (harg4.unread x1) (harg5.unread x2) (arg7.view.writes (Elt Ideal) arg7.view.junk (kernelRun0_A.sl.HS0_1 (F := Ideal) c i arg3 harg3 arg4 harg4 x0 x1)) (arg8.view.writes (Elt Ideal) arg8.view.junk (kernelRun0_A.sl.HS1_2 (F := Ideal) c i arg3 harg3 arg4 harg4 x0 x1)) ((kernelRun0_A.sl.r_4 (F := Ideal) c i arg3 harg3 arg4 harg4 arg7 x0 x1), k0_pay152 k0_pay137 (kernelRun0_A.sl.r_3 (F := Ideal) c i arg5 harg5 x2) (kernelRun0_A.sl.r_5 (F := Ideal) c i arg3 harg3 arg4 harg4 arg7 x0 x1) (kernelRun0_A.sl.r_6 (F := Ideal) c i arg3 harg3 arg4 harg4 arg7 x0 x1) (kernelRun0_A.sl.r_7 (F := Ideal) c i arg3 harg3 arg4 harg4 arg5 harg5 arg7 x0 x1 x2) (kernelRun0_A.sl.cst_67 (F := Ideal)), (kernelRun0_A.sl.r (F := Ideal) c i arg3 harg3 arg4 harg4 arg8 x0 x1), (kernelRun0_A.sl.r_1 (F := Ideal) c i arg3 harg3 arg4 harg4 arg5 harg5 arg8 x0 x1 x2)) (k0_t1_loop i).trips

/-- What has been stored in score buffer 0 after loop 1. -/
def laid1_7 : List (View.Piece (Elt Ideal) S512x512 .f32) := (state1 c i arg3 harg3 arg4 harg4 arg5 harg5 arg6 harg6 arg7 harg7 arg8 harg8 x0 x1 x2).2.1 ++ (kernelRun0_A.sl.HS0_1 (F := Ideal) c i arg3 harg3 arg4 harg4 x0 x1)

/-- What has been stored in score buffer 1 after loop 1. -/
def laid1_8 : List (View.Piece (Elt Ideal) S512x512 .f32) := (state1 c i arg3 harg3 arg4 harg4 arg5 harg5 arg6 harg6 arg7 harg7 arg8 harg8 x0 x1 x2).2.2 ++ (kernelRun0_A.sl.HS1_2 (F := Ideal) c i arg3 harg3 arg4 harg4 x0 x1)

/-- What loop 2 leaves. -/
def state2 : (Carry × List (View.Piece (Elt Ideal) S512x512 .f32) × List (View.Piece (Elt Ideal) S512x512 .f32)) :=
  st_k0_t2 (F := Ideal) Variants.none c none i arg3 harg3 arg4 harg4 arg5 harg5 arg6 harg6 arg7 harg7 arg8 harg8 (BitVec.ofNat 32 (i 2).val) k0_pay137 (kernelRun0_A.sl.r (F := Ideal) c i arg3 harg3 arg4 harg4 arg8 x0 x1) (kernelRun0_A.sl.r_1 (F := Ideal) c i arg3 harg3 arg4 harg4 arg5 harg5 arg8 x0 x1 x2) (kernelRun0_A.sl.r_3 (F := Ideal) c i arg5 harg5 x2) (kernelRun0_A.sl.r_4 (F := Ideal) c i arg3 harg3 arg4 harg4 arg7 x0 x1) (kernelRun0_A.sl.r_5 (F := Ideal) c i arg3 harg3 arg4 harg4 arg7 x0 x1) (kernelRun0_A.sl.r_6 (F := Ideal) c i arg3 harg3 arg4 harg4 arg7 x0 x1) (kernelRun0_A.sl.r_7 (F := Ideal) c i arg3 harg3 arg4 harg4 arg5 harg5 arg7 x0 x1 x2) (kernelRun0_A.sl.cst_67 (F := Ideal)) (kernelRun0_A.sl.v129 i) (harg3.unread x0) (harg4.unread x1) (harg5.unread x2) (arg7.view.writes (Elt Ideal) arg7.view.junk (laid1_7 c i arg3 harg3 arg4 harg4 arg5 harg5 arg6 harg6 arg7 harg7 arg8 harg8 x0 x1 x2)) (arg8.view.writes (Elt Ideal) arg8.view.junk (laid1_8 c i arg3 harg3 arg4 harg4 arg5 harg5 arg6 harg6 arg7 harg7 arg8 harg8 x0 x1 x2)) ((state1 c i arg3 harg3 arg4 harg4 arg5 harg5 arg6 harg6 arg7 harg7 arg8 harg8 x0 x1 x2).1.1, (state1 c i arg3 harg3 arg4 harg4 arg5 harg5 arg6 harg6 arg7 harg7 arg8 harg8 x0 x1 x2).1.2.1, (state1 c i arg3 harg3 arg4 harg4 arg5 harg5 arg6 harg6 arg7 harg7 arg8 harg8 x0 x1 x2).1.2.2.1, (state1 c i arg3 harg3 arg4 harg4 arg5 harg5 arg6 harg6 arg7 harg7 arg8 harg8 x0 x1 x2).1.2.2.2) (k0_t2_loop i).trips

/-- What has been stored in score buffer 0 after loop 2. -/
def laid2_7 : List (View.Piece (Elt Ideal) S512x512 .f32) := (state2 c i arg3 harg3 arg4 harg4 arg5 harg5 arg6 harg6 arg7 harg7 arg8 harg8 x0 x1 x2).2.1 ++ laid1_7 c i arg3 harg3 arg4 harg4 arg5 harg5 arg6 harg6 arg7 harg7 arg8 harg8 x0 x1 x2

/-- What has been stored in score buffer 1 after loop 2. -/
def laid2_8 : List (View.Piece (Elt Ideal) S512x512 .f32) := (state2 c i arg3 harg3 arg4 harg4 arg5 harg5 arg6 harg6 arg7 harg7 arg8 harg8 x0 x1 x2).2.2 ++ laid1_8 c i arg3 harg3 arg4 harg4 arg5 harg5 arg6 harg6 arg7 harg7 arg8 harg8 x0 x1 x2

/-- What loop 3 leaves. -/
def state3 : (Carry × List (View.Piece (Elt Ideal) S512x512 .f32) × List (View.Piece (Elt Ideal) S512x512 .f32)) :=
  st_k0_t3 (F := Ideal) Variants.none c none i arg3 harg3 arg4 harg4 arg5 harg5 arg6 harg6 arg7 harg7 arg8 harg8 (BitVec.ofNat 32 (i 2).val) (state2 c i arg3 harg3 arg4 harg4 arg5 harg5 arg6 harg6 arg7 harg7 arg8 harg8 x0 x1 x2).1.1 (state2 c i arg3 harg3 arg4 harg4 arg5 harg5 arg6 harg6 arg7 harg7 arg8 harg8 x0 x1 x2).1.2.1 (state2 c i arg3 harg3 arg4 harg4 arg5 harg5 arg6 harg6 arg7 harg7 arg8 harg8 x0 x1 x2).1.2.2.1 (state2 c i arg3 harg3 arg4 harg4 arg5 harg5 arg6 harg6 arg7 harg7 arg8 harg8 x0 x1 x2).1.2.2.2 (kernelRun0_A.sl.v133 i) (kernelRun0_A.sl.v134 i) 2#32 (kernelRun0_A.sl.v135 i) (kernelRun0_A.sl.v137 i) (kernelRun0_A.sl.v139 i) (harg3.unread x0) (harg4.unread x1) (harg5.unread x2) (arg7.view.writes (Elt Ideal) arg7.view.junk (laid2_7 c i arg3 harg3 arg4 harg4 arg5 harg5 arg6 harg6 arg7 harg7 arg8 harg8 x0 x1 x2)) (arg8.view.writes (Elt Ideal) arg8.view.junk (laid2_8 c i arg3 harg3 arg4 harg4 arg5 harg5 arg6 harg6 arg7 harg7 arg8 harg8 x0 x1 x2)) ((state2 c i arg3 harg3 arg4 harg4 arg5 harg5 arg6 harg6 arg7 harg7 arg8 harg8 x0 x1 x2).1.1, (state2 c i arg3 harg3 arg4 harg4 arg5 harg5 arg6 harg6 arg7 harg7 arg8 harg8 x0 x1 x2).1.2.1, (state2 c i arg3 harg3 arg4 harg4 arg5 harg5 arg6 harg6 arg7 harg7 arg8 harg8 x0 x1 x2).1.2.2.1, (state2 c i arg3 harg3 arg4 harg4 arg5 harg5 arg6 harg6 arg7 harg7 arg8 harg8 x0 x1 x2).1.2.2.2) (k0_t3_loop i).trips

/-- What has been stored in score buffer 0 after loop 3. -/
def laid3_7 : List (View.Piece (Elt Ideal) S512x512 .f32) := (state3 c i arg3 harg3 arg4 harg4 arg5 harg5 arg6 harg6 arg7 harg7 arg8 harg8 x0 x1 x2).2.1 ++ laid2_7 c i arg3 harg3 arg4 harg4 arg5 harg5 arg6 harg6 arg7 harg7 arg8 harg8 x0 x1 x2

/-- What has been stored in score buffer 1 after loop 3. -/
def laid3_8 : List (View.Piece (Elt Ideal) S512x512 .f32) := (state3 c i arg3 harg3 arg4 harg4 arg5 harg5 arg6 harg6 arg7 harg7 arg8 harg8 x0 x1 x2).2.2 ++ laid2_8 c i arg3 harg3 arg4 harg4 arg5 harg5 arg6 harg6 arg7 harg7 arg8 harg8 x0 x1 x2

/-- What loop 4 leaves. -/
def state4 : (Carry × List (View.Piece (Elt Ideal) S512x512 .f32) × List (View.Piece (Elt Ideal) S512x512 .f32)) :=
  st_k0_t4 (F := Ideal) Variants.none c none i arg3 harg3 arg4 harg4 arg5 harg5 arg6 harg6 arg7 harg7 arg8 harg8 (BitVec.ofNat 32 (i 2).val) (state2 c i arg3 harg3 arg4 harg4 arg5 harg5 arg6 harg6 arg7 harg7 arg8 harg8 x0 x1 x2).1.1 (state2 c i arg3 harg3 arg4 harg4 arg5 harg5 arg6 harg6 arg7 harg7 arg8 harg8 x0 x1 x2).1.2.1 (state2 c i arg3 harg3 arg4 harg4 arg5 harg5 arg6 harg6 arg7 harg7 arg8 harg8 x0 x1 x2).1.2.2.1 (state2 c i arg3 harg3 arg4 harg4 arg5 harg5 arg6 harg6 arg7 harg7 arg8 harg8 x0 x1 x2).1.2.2.2 (kernelRun0_A.sl.v133 i) (kernelRun0_A.sl.v134 i) 2#32 (kernelRun0_A.sl.v135 i) (kernelRun0_A.sl.v137 i) (kernelRun0_A.sl.v139 i) (kernelRun0_A.sl.v156 i) (harg3.unread x0) (harg4.unread x1) (harg5.unread x2) (arg7.view.writes (Elt Ideal) arg7.view.junk (laid3_7 c i arg3 harg3 arg4 harg4 arg5 harg5 arg6 harg6 arg7 harg7 arg8 harg8 x0 x1 x2)) (arg8.view.writes (Elt Ideal) arg8.view.junk (laid3_8 c i arg3 harg3 arg4 harg4 arg5 harg5 arg6 harg6 arg7 harg7 arg8 harg8 x0 x1 x2)) ((state3 c i arg3 harg3 arg4 harg4 arg5 harg5 arg6 harg6 arg7 harg7 arg8 harg8 x0 x1 x2).1.1, (state3 c i arg3 harg3 arg4 harg4 arg5 harg5 arg6 harg6 arg7 harg7 arg8 harg8 x0 x1 x2).1.2.1, (state3 c i arg3 harg3 arg4 harg4 arg5 harg5 arg6 harg6 arg7 harg7 arg8 harg8 x0 x1 x2).1.2.2.1, (state3 c i arg3 harg3 arg4 harg4 arg5 harg5 arg6 harg6 arg7 harg7 arg8 harg8 x0 x1 x2).1.2.2.2) (k0_t4_loop i).trips

/-- What has been stored in score buffer 0 after loop 4. -/
def laid4_7 : List (View.Piece (Elt Ideal) S512x512 .f32) := (state4 c i arg3 harg3 arg4 harg4 arg5 harg5 arg6 harg6 arg7 harg7 arg8 harg8 x0 x1 x2).2.1 ++ laid3_7 c i arg3 harg3 arg4 harg4 arg5 harg5 arg6 harg6 arg7 harg7 arg8 harg8 x0 x1 x2

/-- What has been stored in score buffer 1 after loop 4. -/
def laid4_8 : List (View.Piece (Elt Ideal) S512x512 .f32) := (state4 c i arg3 harg3 arg4 harg4 arg5 harg5 arg6 harg6 arg7 harg7 arg8 harg8 x0 x1 x2).2.2 ++ laid3_8 c i arg3 harg3 arg4 harg4 arg5 harg5 arg6 harg6 arg7 harg7 arg8 harg8 x0 x1 x2

/-- What loop 5 leaves. -/
def state5 : (Carry × List (View.Piece (Elt Ideal) S512x512 .f32) × List (View.Piece (Elt Ideal) S512x512 .f32)) :=
  st_k0_t5 (F := Ideal) Variants.none c none i arg3 harg3 arg4 harg4 arg5 harg5 arg6 harg6 arg7 harg7 arg8 harg8 (kernelRun0_A.sl.v160 i) 0#32 (harg3.unread x0) (harg4.unread x1) (harg5.unread x2) (arg7.view.writes (Elt Ideal) arg7.view.junk (laid4_7 c i arg3 harg3 arg4 harg4 arg5 harg5 arg6 harg6 arg7 harg7 arg8 harg8 x0 x1 x2)) (arg8.view.writes (Elt Ideal) arg8.view.junk (laid4_8 c i arg3 harg3 arg4 harg4 arg5 harg5 arg6 harg6 arg7 harg7 arg8 harg8 x0 x1 x2)) ((state4 c i arg3 harg3 arg4 harg4 arg5 harg5 arg6 harg6 arg7 harg7 arg8 harg8 x0 x1 x2).1.1, (state4 c i arg3 harg3 arg4 harg4 arg5 harg5 arg6 harg6 arg7 harg7 arg8 harg8 x0 x1 x2).1.2.1, (state4 c i arg3 harg3 arg4 harg4 arg5 harg5 arg6 harg6 arg7 harg7 arg8 harg8 x0 x1 x2).1.2.2.1, (state4 c i arg3 harg3 arg4 harg4 arg5 harg5 arg6 harg6 arg7 harg7 arg8 harg8 x0 x1 x2).1.2.2.2) (k0_t5_loop i).trips

/-- What has been stored in score buffer 0 after loop 5. -/
def laid5_7 : List (View.Piece (Elt Ideal) S512x512 .f32) := (state5 c i arg3 harg3 arg4 harg4 arg5 harg5 arg6 harg6 arg7 harg7 arg8 harg8 x0 x1 x2).2.1 ++ laid4_7 c i arg3 harg3 arg4 harg4 arg5 harg5 arg6 harg6 arg7 harg7 arg8 harg8 x0 x1 x2

/-- What has been stored in score buffer 1 after loop 5. -/
def laid5_8 : List (View.Piece (Elt Ideal) S512x512 .f32) := (state5 c i arg3 harg3 arg4 harg4 arg5 harg5 arg6 harg6 arg7 harg7 arg8 harg8 x0 x1 x2).2.2 ++ laid4_8 c i arg3 harg3 arg4 harg4 arg5 harg5 arg6 harg6 arg7 harg7 arg8 harg8 x0 x1 x2

/-- What loop 6 leaves. -/
def state6 (lim : BitVec 32) : (Carry × List (View.Piece (Elt Ideal) S512x512 .f32) × List (View.Piece (Elt Ideal) S512x512 .f32)) :=
  st_k0_t6 (F := Ideal) Variants.none c none i arg3 harg3 arg4 harg4 arg5 harg5 arg6 harg6 arg7 harg7 arg8 harg8 (kernelRun0_A.sl.v160 i) lim (harg3.unread x0) (harg4.unread x1) (harg5.unread x2) (arg7.view.writes (Elt Ideal) arg7.view.junk (laid5_7 c i arg3 harg3 arg4 harg4 arg5 harg5 arg6 harg6 arg7 harg7 arg8 harg8 x0 x1 x2)) (arg8.view.writes (Elt Ideal) arg8.view.junk (laid5_8 c i arg3 harg3 arg4 harg4 arg5 harg5 arg6 harg6 arg7 harg7 arg8 harg8 x0 x1 x2)) ((state5 c i arg3 harg3 arg4 harg4 arg5 harg5 arg6 harg6 arg7 harg7 arg8 harg8 x0 x1 x2).1.1, (state5 c i arg3 harg3 arg4 harg4 arg5 harg5 arg6 harg6 arg7 harg7 arg8 harg8 x0 x1 x2).1.2.1, (state5 c i arg3 harg3 arg4 harg4 arg5 harg5 arg6 harg6 arg7 harg7 arg8 harg8 x0 x1 x2).1.2.2.1, (state5 c i arg3 harg3 arg4 harg4 arg5 harg5 arg6 harg6 arg7 harg7 arg8 harg8 x0 x1 x2).1.2.2.2) (k0_t6_loop i).trips

theorem after1 (hm : Mem Q K V arg3 arg4 arg5 (harg3.unread x0) (harg4.unread x1) (harg5.unread x2)) :
    Inv Q K V (diag Q K V (i 2).val) (4 * ((i 2).val / 4))
      ((state1 c i arg3 harg3 arg4 harg4 arg5 harg5 arg6 harg6 arg7 harg7 arg8 harg8 x0 x1 x2).1, look arg8 (arg8.view.writes (Elt Ideal) arg8.view.junk (laid1_8 c i arg3 harg3 arg4 harg4 arg5 harg5 arg6 harg6 arg7 harg7 arg8 harg8 x0 x1 x2))) := by
  unfold laid1_8
  rw [View.writes_append]
  have h := loop1 Variants.none c none i arg3 harg3 arg4 harg4 arg5 harg5 arg6 harg6 arg7 harg7 arg8 harg8 (BitVec.ofNat 32 (i 2).val) k0_pay137 (kernelRun0_A.sl.r (F := Ideal) c i arg3 harg3 arg4 harg4 arg8 x0 x1) (kernelRun0_A.sl.r_1 (F := Ideal) c i arg3 harg3 arg4 harg4 arg5 harg5 arg8 x0 x1 x2) (kernelRun0_A.sl.r_3 (F := Ideal) c i arg5 harg5 x2) (kernelRun0_A.sl.r_4 (F := Ideal) c i arg3 harg3 arg4 harg4 arg7 x0 x1) (kernelRun0_A.sl.r_5 (F := Ideal) c i arg3 harg3 arg4 harg4 arg7 x0 x1) (kernelRun0_A.sl.r_6 (F := Ideal) c i arg3 harg3 arg4 harg4 arg7 x0 x1) (kernelRun0_A.sl.r_7 (F := Ideal) c i arg3 harg3 arg4 harg4 arg5 harg5 arg7 x0 x1 x2) (kernelRun0_A.sl.cst_67 (F := Ideal)) (harg3.unread x0) (harg4.unread x1) (harg5.unread x2) hm (arg7.view.writes (Elt Ideal) arg7.view.junk (kernelRun0_A.sl.HS0_1 (F := Ideal) c i arg3 harg3 arg4 harg4 x0 x1)) (arg8.view.writes (Elt Ideal) arg8.view.junk (kernelRun0_A.sl.HS1_2 (F := Ideal) c i arg3 harg3 arg4 harg4 x0 x1)) _ (begin_inv c i arg3 harg3 arg4 harg4 arg5 harg5 arg7 arg8 x0 x1 x2 hm) _ (le_refl _)
  rw [show 4 * (k0_t1_loop i).trips = 4 * ((i 2).val / 4) by rw [trips1]] at h
  exact h

theorem after2 (hm : Mem Q K V arg3 arg4 arg5 (harg3.unread x0) (harg4.unread x1) (harg5.unread x2)) :
    Inv Q K V (diag Q K V (i 2).val) (4 * ((i 2).val / 4))
      ((state2 c i arg3 harg3 arg4 harg4 arg5 harg5 arg6 harg6 arg7 harg7 arg8 harg8 x0 x1 x2).1, look arg8 (arg8.view.writes (Elt Ideal) arg8.view.junk (laid2_8 c i arg3 harg3 arg4 harg4 arg5 harg5 arg6 harg6 arg7 harg7 arg8 harg8 x0 x1 x2))) := by
  unfold laid2_8
  rw [View.writes_append]
  have h := loop2 Variants.none c none i arg3 harg3 arg4 harg4 arg5 harg5 arg6 harg6 arg7 harg7 arg8 harg8 (BitVec.ofNat 32 (i 2).val) k0_pay137 (kernelRun0_A.sl.r (F := Ideal) c i arg3 harg3 arg4 harg4 arg8 x0 x1) (kernelRun0_A.sl.r_1 (F := Ideal) c i arg3 harg3 arg4 harg4 arg5 harg5 arg8 x0 x1 x2) (kernelRun0_A.sl.r_3 (F := Ideal) c i arg5 harg5 x2) (kernelRun0_A.sl.r_4 (F := Ideal) c i arg3 harg3 arg4 harg4 arg7 x0 x1) (kernelRun0_A.sl.r_5 (F := Ideal) c i arg3 harg3 arg4 harg4 arg7 x0 x1) (kernelRun0_A.sl.r_6 (F := Ideal) c i arg3 harg3 arg4 harg4 arg7 x0 x1) (kernelRun0_A.sl.r_7 (F := Ideal) c i arg3 harg3 arg4 harg4 arg5 harg5 arg7 x0 x1 x2) (kernelRun0_A.sl.cst_67 (F := Ideal)) (kernelRun0_A.sl.v129 i) (harg3.unread x0) (harg4.unread x1) (harg5.unread x2) (arg7.view.writes (Elt Ideal) arg7.view.junk (laid1_7 c i arg3 harg3 arg4 harg4 arg5 harg5 arg6 harg6 arg7 harg7 arg8 harg8 x0 x1 x2)) (arg8.view.writes (Elt Ideal) arg8.view.junk (laid1_8 c i arg3 harg3 arg4 harg4 arg5 harg5 arg6 harg6 arg7 harg7 arg8 harg8 x0 x1 x2)) (state1 c i arg3 harg3 arg4 harg4 arg5 harg5 arg6 harg6 arg7 harg7 arg8 harg8 x0 x1 x2).1
  unfold state2
  erw [h]
  exact after1 c i arg3 harg3 arg4 harg4 arg5 harg5 arg6 harg6 arg7 harg7 arg8 harg8 x0 x1 x2 hm

theorem after3 (hm : Mem Q K V arg3 arg4 arg5 (harg3.unread x0) (harg4.unread x1) (harg5.unread x2)) :
    Inv Q K V (diag Q K V (i 2).val) (2 * ((i 2).val / 2))
      ((state3 c i arg3 harg3 arg4 harg4 arg5 harg5 arg6 harg6 arg7 harg7 arg8 harg8 x0 x1 x2).1, look arg8 (arg8.view.writes (Elt Ideal) arg8.view.junk (laid3_8 c i arg3 harg3 arg4 harg4 arg5 harg5 arg6 harg6 arg7 harg7 arg8 harg8 x0 x1 x2))) := by
  unfold laid3_8
  rw [View.writes_append]
  have h := loop3 Variants.none c none i arg3 harg3 arg4 harg4 arg5 harg5 arg6 harg6 arg7 harg7 arg8 harg8 (BitVec.ofNat 32 (i 2).val) (state2 c i arg3 harg3 arg4 harg4 arg5 harg5 arg6 harg6 arg7 harg7 arg8 harg8 x0 x1 x2).1.1 (state2 c i arg3 harg3 arg4 harg4 arg5 harg5 arg6 harg6 arg7 harg7 arg8 harg8 x0 x1 x2).1.2.1 (state2 c i arg3 harg3 arg4 harg4 arg5 harg5 arg6 harg6 arg7 harg7 arg8 harg8 x0 x1 x2).1.2.2.1 (state2 c i arg3 harg3 arg4 harg4 arg5 harg5 arg6 harg6 arg7 harg7 arg8 harg8 x0 x1 x2).1.2.2.2 (kernelRun0_A.sl.v133 i) (kernelRun0_A.sl.v134 i) 2#32 (kernelRun0_A.sl.v135 i) (kernelRun0_A.sl.v137 i) (kernelRun0_A.sl.v139 i) (harg3.unread x0) (harg4.unread x1) (harg5.unread x2) hm (arg7.view.writes (Elt Ideal) arg7.view.junk (laid2_7 c i arg3 harg3 arg4 harg4 arg5 harg5 arg6 harg6 arg7 harg7 arg8 harg8 x0 x1 x2)) (arg8.view.writes (Elt Ideal) arg8.view.junk (laid2_8 c i arg3 harg3 arg4 harg4 arg5 harg5 arg6 harg6 arg7 harg7 arg8 harg8 x0 x1 x2)) _ (after2 c i arg3 harg3 arg4 harg4 arg5 harg5 arg6 harg6 arg7 harg7 arg8 harg8 x0 x1 x2 hm) _ (le_refl _)
  rw [show 4 * ((i 2).val / 4) + 2 * (k0_t3_loop i).trips = 2 * ((i 2).val / 2) by rw [trips3]; omega] at h
  exact h

theorem after4 (hm : Mem Q K V arg3 arg4 arg5 (harg3.unread x0) (harg4.unread x1) (harg5.unread x2)) :
    Inv Q K V (diag Q K V (i 2).val) (2 * ((i 2).val / 2))
      ((state4 c i arg3 harg3 arg4 harg4 arg5 harg5 arg6 harg6 arg7 harg7 arg8 harg8 x0 x1 x2).1, look arg8 (arg8.view.writes (Elt Ideal) arg8.view.junk (laid4_8 c i arg3 harg3 arg4 harg4 arg5 harg5 arg6 harg6 arg7 harg7 arg8 harg8 x0 x1 x2))) := by
  unfold laid4_8
  rw [View.writes_append]
  have h := loop4 Variants.none c none i arg3 harg3 arg4 harg4 arg5 harg5 arg6 harg6 arg7 harg7 arg8 harg8 (BitVec.ofNat 32 (i 2).val) (state2 c i arg3 harg3 arg4 harg4 arg5 harg5 arg6 harg6 arg7 harg7 arg8 harg8 x0 x1 x2).1.1 (state2 c i arg3 harg3 arg4 harg4 arg5 harg5 arg6 harg6 arg7 harg7 arg8 harg8 x0 x1 x2).1.2.1 (state2 c i arg3 harg3 arg4 harg4 arg5 harg5 arg6 harg6 arg7 harg7 arg8 harg8 x0 x1 x2).1.2.2.1 (state2 c i arg3 harg3 arg4 harg4 arg5 harg5 arg6 harg6 arg7 harg7 arg8 harg8 x0 x1 x2).1.2.2.2 (kernelRun0_A.sl.v133 i) (kernelRun0_A.sl.v134 i) 2#32 (kernelRun0_A.sl.v135 i) (kernelRun0_A.sl.v137 i) (kernelRun0_A.sl.v139 i) (kernelRun0_A.sl.v156 i) (harg3.unread x0) (harg4.unread x1) (harg5.unread x2) (arg7.view.writes (Elt Ideal) arg7.view.junk (laid3_7 c i arg3 harg3 arg4 harg4 arg5 harg5 arg6 harg6 arg7 harg7 arg8 harg8 x0 x1 x2)) (arg8.view.writes (Elt Ideal) arg8.view.junk (laid3_8 c i arg3 harg3 arg4 harg4 arg5 harg5 arg6 harg6 arg7 harg7 arg8 harg8 x0 x1 x2)) (state3 c i arg3 harg3 arg4 harg4 arg5 harg5 arg6 harg6 arg7 harg7 arg8 harg8 x0 x1 x2).1
  unfold state4
  erw [h]
  exact after3 c i arg3 harg3 arg4 harg4 arg5 harg5 arg6 harg6 arg7 harg7 arg8 harg8 x0 x1 x2 hm

theorem after5 (hm : Mem Q K V arg3 arg4 arg5 (harg3.unread x0) (harg4.unread x1) (harg5.unread x2)) :
    Inv Q K V (diag Q K V (i 2).val) ((i 2).val)
      ((state5 c i arg3 harg3 arg4 harg4 arg5 harg5 arg6 harg6 arg7 harg7 arg8 harg8 x0 x1 x2).1, look arg8 (arg8.view.writes (Elt Ideal) arg8.view.junk (laid5_8 c i arg3 harg3 arg4 harg4 arg5 harg5 arg6 harg6 arg7 harg7 arg8 harg8 x0 x1 x2))) := by
  unfold laid5_8
  rw [View.writes_append]
  have h := loop5 Variants.none c none i arg3 harg3 arg4 harg4 arg5 harg5 arg6 harg6 arg7 harg7 arg8 harg8 (kernelRun0_A.sl.v160 i) 0#32 (harg3.unread x0) (harg4.unread x1) (harg5.unread x2) hm (arg7.view.writes (Elt Ideal) arg7.view.junk (laid4_7 c i arg3 harg3 arg4 harg4 arg5 harg5 arg6 harg6 arg7 harg7 arg8 harg8 x0 x1 x2)) (arg8.view.writes (Elt Ideal) arg8.view.junk (laid4_8 c i arg3 harg3 arg4 harg4 arg5 harg5 arg6 harg6 arg7 harg7 arg8 harg8 x0 x1 x2)) _ (after4 c i arg3 harg3 arg4 harg4 arg5 harg5 arg6 harg6 arg7 harg7 arg8 harg8 x0 x1 x2 hm) _ (le_refl _)
  rw [show 2 * ((i 2).val / 2) + (k0_t5_loop i).trips = (i 2).val by rw [trips5]; omega] at h
  exact h

theorem last_state (lim : BitVec 32) : (state6 c i arg3 harg3 arg4 harg4 arg5 harg5 arg6 harg6 arg7 harg7 arg8 harg8 x0 x1 x2 lim).1 = (state5 c i arg3 harg3 arg4 harg4 arg5 harg5 arg6 harg6 arg7 harg7 arg8 harg8 x0 x1 x2).1 := by
  unfold state6
  rw [trips6]
  rfl

end

end Cert.MlaIdeal.Hand

end
-- ==== Proof.MlaOut.lean ====
/-
  What the attention kernel leaves in its output window at one grid point, in terms of what its loops
  carry at the end.
-/
module

public import proofs.«01_k».proof.Proof.MlaChain

@[expose] public section

set_option maxRecDepth 16384

noncomputable section

namespace Cert.MlaIdeal.Hand

open Cert.MlaIdeal Cert.MlaIdeal.Gen Idealize.ShloMosaic Idealize.ShloMosaic.TcCoe Idealize.SL.Sem

section

variable (c : Dev nD) (i : grid0.Coords) (arg3 : Memref sig .tc .vmem S1x2x512x128 .bf16) (harg3 : arg3.IsWhole) (arg4 : Memref sig .tc .vmem S1x2x8192x128 .bf16) (harg4 : arg4.IsWhole) (arg5 : Memref sig .tc .vmem S1x2x32x80x256 .bf16) (harg5 : arg5.IsWhole) (arg6 : Memref sig .tc .vmem S1x512x128 .bf16) (harg6 : arg6.IsWhole) (arg7 : Memref sig .tc .vmem S512x512 .f32) (harg7 : arg7.IsWhole) (arg8 : Memref sig .tc .vmem S512x512 .f32) (harg8 : arg8.IsWhole)
  (x0 : Vec Ideal S1x2x512x128 .bf16) (x1 : Vec Ideal S1x2x8192x128 .bf16) (x2 : Vec Ideal S1x2x32x80x256 .bf16)
  {Q : Fin 2 → Fin 512 → Fin 128 → EReal} {K : Fin 2 → ℕ → Fin 128 → EReal} {V : Fin 2 → ℕ → Fin 80 → Fin 256 → EReal}

theorem fold1 : st_k0_t1 (F := Ideal) Variants.none c none i arg3 harg3 arg4 harg4 arg5 harg5 arg6 harg6 arg7 harg7 arg8 harg8 (BitVec.ofNat 32 (i 2).val) k0_pay137 (kernelRun0_A.sl.r (F := Ideal) c i arg3 harg3 arg4 harg4 arg8 x0 x1) (kernelRun0_A.sl.r_1 (F := Ideal) c i arg3 harg3 arg4 harg4 arg5 harg5 arg8 x0 x1 x2) (kernelRun0_A.sl.r_3 (F := Ideal) c i arg5 harg5 x2) (kernelRun0_A.sl.r_4 (F := Ideal) c i arg3 harg3 arg4 harg4 arg7 x0 x1) (kernelRun0_A.sl.r_5 (F := Ideal) c i arg3 harg3 arg4 harg4 arg7 x0 x1) (kernelRun0_A.sl.r_6 (F := Ideal) c i arg3 harg3 arg4 harg4 arg7 x0 x1) (kernelRun0_A.sl.r_7 (F := Ideal) c i arg3 harg3 arg4 harg4 arg5 harg5 arg7 x0 x1 x2) (kernelRun0_A.sl.cst_67 (F := Ideal)) (harg3.unread x0) (harg4.unread x1) (harg5.unread x2) (arg7.view.writes (Elt Ideal) arg7.view.junk (kernelRun0_A.sl.HS0_1 (F := Ideal) c i arg3 harg3 arg4 harg4 x0 x1)) (arg8.view.writes (Elt Ideal) arg8.view.junk (kernelRun0_A.sl.HS1_2 (F := Ideal) c i arg3 harg3 arg4 harg4 x0 x1)) ((kernelRun0_A.sl.r_4 (F := Ideal) c i arg3 harg3 arg4 harg4 arg7 x0 x1), k0_pay152 k0_pay137 (kernelRun0_A.sl.r_3 (F := Ideal) c i arg5 harg5 x2) (kernelRun0_A.sl.r_5 (F := Ideal) c i arg3 harg3 arg4 harg4 arg7 x0 x1) (kernelRun0_A.sl.r_6 (F := Ideal) c i arg3 harg3 arg4 harg4 arg7 x0 x1) (kernelRun0_A.sl.r_7 (F := Ideal) c i arg3 harg3 arg4 harg4 arg5 harg5 arg7 x0 x1 x2) (kernelRun0_A.sl.cst_67 (F := Ideal)), (kernelRun0_A.sl.r (F := Ideal) c i arg3 harg3 arg4 harg4 arg8 x0 x1), (kernelRun0_A.sl.r_1 (F := Ideal) c i arg3 harg3 arg4 harg4 arg5 harg5 arg8 x0 x1 x2)) (Scf.trips (k0_t1_loop i).lb (k0_t1_loop i).ub (k0_t1_loop i).st) = state1 c i arg3 harg3 arg4 harg4 arg5 harg5 arg6 harg6 arg7 harg7 arg8 harg8 x0 x1 x2 := rfl

theorem join1_7 : (state1 c i arg3 harg3 arg4 harg4 arg5 harg5 arg6 harg6 arg7 harg7 arg8 harg8 x0 x1 x2).2.1 ++ (kernelRun0_A.sl.HS0_1 (F := Ideal) c i arg3 harg3 arg4 harg4 x0 x1) = laid1_7 c i arg3 harg3 arg4 harg4 arg5 harg5 arg6 harg6 arg7 harg7 arg8 harg8 x0 x1 x2 := rfl

theorem join1_8 : (state1 c i arg3 harg3 arg4 harg4 arg5 harg5 arg6 harg6 arg7 harg7 arg8 harg8 x0 x1 x2).2.2 ++ (kernelRun0_A.sl.HS1_2 (F := Ideal) c i arg3 harg3 arg4 harg4 x0 x1) = laid1_8 c i arg3 harg3 arg4 harg4 arg5 harg5 arg6 harg6 arg7 harg7 arg8 harg8 x0 x1 x2 := rfl

theorem fold2 : st_k0_t2 (F := Ideal) Variants.none c none i arg3 harg3 arg4 harg4 arg5 harg5 arg6 harg6 arg7 harg7 arg8 harg8 (BitVec.ofNat 32 (i 2).val) k0_pay137 (kernelRun0_A.sl.r (F := Ideal) c i arg3 harg3 arg4 harg4 arg8 x0 x1) (kernelRun0_A.sl.r_1 (F := Ideal) c i arg3 harg3 arg4 harg4 arg5 harg5 arg8 x0 x1 x2) (kernelRun0_A.sl.r_3 (F := Ideal) c i arg5 harg5 x2) (kernelRun0_A.sl.r_4 (F := Ideal) c i arg3 harg3 arg4 harg4 arg7 x0 x1) (kernelRun0_A.sl.r_5 (F := Ideal) c i arg3 harg3 arg4 harg4 arg7 x0 x1) (kernelRun0_A.sl.r_6 (F := Ideal) c i arg3 harg3 arg4 harg4 arg7 x0 x1) (kernelRun0_A.sl.r_7 (F := Ideal) c i arg3 harg3 arg4 harg4 arg5 harg5 arg7 x0 x1 x2) (kernelRun0_A.sl.cst_67 (F := Ideal)) (kernelRun0_A.sl.v129 i) (harg3.unread x0) (harg4.unread x1) (harg5.unread x2) (arg7.view.writes (Elt Ideal) arg7.view.junk (laid1_7 c i arg3 harg3 arg4 harg4 arg5 harg5 arg6 harg6 arg7 harg7 arg8 harg8 x0 x1 x2)) (arg8.view.writes (Elt Ideal) arg8.view.junk (laid1_8 c i arg3 harg3 arg4 harg4 arg5 harg5 arg6 harg6 arg7 harg7 arg8 harg8 x0 x1 x2)) ((state1 c i arg3 harg3 arg4 harg4 arg5 harg5 arg6 harg6 arg7 harg7 arg8 harg8 x0 x1 x2).1.1, (state1 c i arg3 harg3 arg4 harg4 arg5 harg5 arg6 harg6 arg7 harg7 arg8 harg8 x0 x1 x2).1.2.1, (state1 c i arg3 harg3 arg4 harg4 arg5 harg5 arg6 harg6 arg7 harg7 arg8 harg8 x0 x1 x2).1.2.2.1, (state1 c i arg3 harg3 arg4 harg4 arg5 harg5 arg6 harg6 arg7 harg7 arg8 harg8 x0 x1 x2).1.2.2.2) (Scf.trips (k0_t2_loop i).lb (k0_t2_loop i).ub (k0_t2_loop i).st) = state2 c i arg3 harg3 arg4 harg4 arg5 harg5 arg6 harg6 arg7 harg7 arg8 harg8 x0 x1 x2 := rfl

theorem join2_7 : (state2 c i arg3 harg3 arg4 harg4 arg5 harg5 arg6 harg6 arg7 harg7 arg8 harg8 x0 x1 x2).2.1 ++ laid1_7 c i arg3 harg3 arg4 harg4 arg5 harg5 arg6 harg6 arg7 harg7 arg8 harg8 x0 x1 x2 = laid2_7 c i arg3 harg3 arg4 harg4 arg5 harg5 arg6 harg6 arg7 harg7 arg8 harg8 x0 x1 x2 := rfl

theorem join2_8 : (state2 c i arg3 harg3 arg4 harg4 arg5 harg5 arg6 harg6 arg7 harg7 arg8 harg8 x0 x1 x2).2.2 ++ laid1_8 c i arg3 harg3 arg4 harg4 arg5 harg5 arg6 harg6 arg7 harg7 arg8 harg8 x0 x1 x2 = laid2_8 c i arg3 harg3 arg4 harg4 arg5 harg5 arg6 harg6 arg7 harg7 arg8 harg8 x0 x1 x2 := rfl

theorem part8 : kernelRun0_A.sl.r_8 (F := Ideal) c i arg3 harg3 arg4 harg4 arg5 harg5 arg6 harg6 arg7 harg7 arg8 harg8 x0 x1 x2 = (state2 c i arg3 harg3 arg4 harg4 arg5 harg5 arg6 harg6 arg7 harg7 arg8 harg8 x0 x1 x2).1.1 := by
  unfold kernelRun0_A.sl.r_8
  rw [fold1, join1_7, join1_8, fold2]

theorem part9 : kernelRun0_A.sl.r_9 (F := Ideal) c i arg3 harg3 arg4 harg4 arg5 harg5 arg6 harg6 arg7 harg7 arg8 harg8 x0 x1 x2 = (state2 c i arg3 harg3 arg4 harg4 arg5 harg5 arg6 harg6 arg7 harg7 arg8 harg8 x0 x1 x2).1.2.1 := by
  unfold kernelRun0_A.sl.r_9
  rw [fold1, join1_7, join1_8, fold2]

theorem part10 : kernelRun0_A.sl.r_10 (F := Ideal) c i arg3 harg3 arg4 harg4 arg5 harg5 arg6 harg6 arg7 harg7 arg8 harg8 x0 x1 x2 = (state2 c i arg3 harg3 arg4 harg4 arg5 harg5 arg6 harg6 arg7 harg7 arg8 harg8 x0 x1 x2).1.2.2.1 := by
  unfold kernelRun0_A.sl.r_10
  rw [fold1, join1_7, join1_8, fold2]

theorem part11 : kernelRun0_A.sl.r_11 (F := Ideal) c i arg3 harg3 arg4 harg4 arg5 harg5 arg6 harg6 arg7 harg7 arg8 harg8 x0 x1 x2 = (state2 c i arg3 harg3 arg4 harg4 arg5 harg5 arg6 harg6 arg7 harg7 arg8 harg8 x0 x1 x2).1.2.2.2 := by
  unfold kernelRun0_A.sl.r_11
  rw [fold1, join1_7, join1_8, fold2]

theorem fold3 : st_k0_t3 (F := Ideal) Variants.none c none i arg3 harg3 arg4 harg4 arg5 harg5 arg6 harg6 arg7 harg7 arg8 harg8 (BitVec.ofNat 32 (i 2).val) (state2 c i arg3 harg3 arg4 harg4 arg5 harg5 arg6 harg6 arg7 harg7 arg8 harg8 x0 x1 x2).1.1 (state2 c i arg3 harg3 arg4 harg4 arg5 harg5 arg6 harg6 arg7 harg7 arg8 harg8 x0 x1 x2).1.2.1 (state2 c i arg3 harg3 arg4 harg4 arg5 harg5 arg6 harg6 arg7 harg7 arg8 harg8 x0 x1 x2).1.2.2.1 (state2 c i arg3 harg3 arg4 harg4 arg5 harg5 arg6 harg6 arg7 harg7 arg8 harg8 x0 x1 x2).1.2.2.2 (kernelRun0_A.sl.v133 i) (kernelRun0_A.sl.v134 i) 2#32 (kernelRun0_A.sl.v135 i) (kernelRun0_A.sl.v137 i) (kernelRun0_A.sl.v139 i) (harg3.unread x0) (harg4.unread x1) (harg5.unread x2) (arg7.view.writes (Elt Ideal) arg7.view.junk (laid2_7 c i arg3 harg3 arg4 harg4 arg5 harg5 arg6 harg6 arg7 harg7 arg8 harg8 x0 x1 x2)) (arg8.view.writes (Elt Ideal) arg8.view.junk (laid2_8 c i arg3 harg3 arg4 harg4 arg5 harg5 arg6 harg6 arg7 harg7 arg8 harg8 x0 x1 x2)) ((state2 c i arg3 harg3 arg4 harg4 arg5 harg5 arg6 harg6 arg7 harg7 arg8 harg8 x0 x1 x2).1.1, (state2 c i arg3 harg3 arg4 harg4 arg5 harg5 arg6 harg6 arg7 harg7 arg8 harg8 x0 x1 x2).1.2.1, (state2 c i arg3 harg3 arg4 harg4 arg5 harg5 arg6 harg6 arg7 harg7 arg8 harg8 x0 x1 x2).1.2.2.1, (state2 c i arg3 harg3 arg4 harg4 arg5 harg5 arg6 harg6 arg7 harg7 arg8 harg8 x0 x1 x2).1.2.2.2) (Scf.trips (k0_t3_loop i).lb (k0_t3_loop i).ub (k0_t3_loop i).st) = state3 c i arg3 harg3 arg4 harg4 arg5 harg5 arg6 harg6 arg7 harg7 arg8 harg8 x0 x1 x2 := rfl

theorem join3_7 : (state3 c i arg3 harg3 arg4 harg4 arg5 harg5 arg6 harg6 arg7 harg7 arg8 harg8 x0 x1 x2).2.1 ++ laid2_7 c i arg3 harg3 arg4 harg4 arg5 harg5 arg6 harg6 arg7 harg7 arg8 harg8 x0 x1 x2 = laid3_7 c i arg3 harg3 arg4 harg4 arg5 harg5 arg6 harg6 arg7 harg7 arg8 harg8 x0 x1 x2 := rfl

theorem join3_8 : (state3 c i arg3 harg3 arg4 harg4 arg5 harg5 arg6 harg6 arg7 harg7 arg8 harg8 x0 x1 x2).2.2 ++ laid2_8 c i arg3 harg3 arg4 harg4 arg5 harg5 arg6 harg6 arg7 harg7 arg8 harg8 x0 x1 x2 = laid3_8 c i arg3 harg3 arg4 harg4 arg5 harg5 arg6 harg6 arg7 harg7 arg8 harg8 x0 x1 x2 := rfl

theorem fold4 : st_k0_t4 (F := Ideal) Variants.none c none i arg3 harg3 arg4 harg4 arg5 harg5 arg6 harg6 arg7 harg7 arg8 harg8 (BitVec.ofNat 32 (i 2).val) (state2 c i arg3 harg3 arg4 harg4 arg5 harg5 arg6 harg6 arg7 harg7 arg8 harg8 x0 x1 x2).1.1 (state2 c i arg3 harg3 arg4 harg4 arg5 harg5 arg6 harg6 arg7 harg7 arg8 harg8 x0 x1 x2).1.2.1 (state2 c i arg3 harg3 arg4 harg4 arg5 harg5 arg6 harg6 arg7 harg7 arg8 harg8 x0 x1 x2).1.2.2.1 (state2 c i arg3 harg3 arg4 harg4 arg5 harg5 arg6 harg6 arg7 harg7 arg8 harg8 x0 x1 x2).1.2.2.2 (kernelRun0_A.sl.v133 i) (kernelRun0_A.sl.v134 i) 2#32 (kernelRun0_A.sl.v135 i) (kernelRun0_A.sl.v137 i) (kernelRun0_A.sl.v139 i) (kernelRun0_A.sl.v156 i) (harg3.unread x0) (harg4.unread x1) (harg5.unread x2) (arg7.view.writes (Elt Ideal) arg7.view.junk (laid3_7 c i arg3 harg3 arg4 harg4 arg5 harg5 arg6 harg6 arg7 harg7 arg8 harg8 x0 x1 x2)) (arg8.view.writes (Elt Ideal) arg8.view.junk (laid3_8 c i arg3 harg3 arg4 harg4 arg5 harg5 arg6 harg6 arg7 harg7 arg8 harg8 x0 x1 x2)) ((state3 c i arg3 harg3 arg4 harg4 arg5 harg5 arg6 harg6 arg7 harg7 arg8 harg8 x0 x1 x2).1.1, (state3 c i arg3 harg3 arg4 harg4 arg5 harg5 arg6 harg6 arg7 harg7 arg8 harg8 x0 x1 x2).1.2.1, (state3 c i arg3 harg3 arg4 harg4 arg5 harg5 arg6 harg6 arg7 harg7 arg8 harg8 x0 x1 x2).1.2.2.1, (state3 c i arg3 harg3 arg4 harg4 arg5 harg5 arg6 harg6 arg7 harg7 arg8 harg8 x0 x1 x2).1.2.2.2) (Scf.trips (k0_t4_loop i).lb (k0_t4_loop i).ub (k0_t4_loop i).st) = state4 c i arg3 harg3 arg4 harg4 arg5 harg5 arg6 harg6 arg7 harg7 arg8 harg8 x0 x1 x2 := rfl

theorem join4_7 : (state4 c i arg3 harg3 arg4 harg4 arg5 harg5 arg6 harg6 arg7 harg7 arg8 harg8 x0 x1 x2).2.1 ++ laid3_7 c i arg3 harg3 arg4 harg4 arg5 harg5 arg6 harg6 arg7 harg7 arg8 harg8 x0 x1 x2 = laid4_7 c i arg3 harg3 arg4 harg4 arg5 harg5 arg6 harg6 arg7 harg7 arg8 harg8 x0 x1 x2 := rfl

theorem join4_8 : (state4 c i arg3 harg3 arg4 harg4 arg5 harg5 arg6 harg6 arg7 harg7 arg8 harg8 x0 x1 x2).2.2 ++ laid3_8 c i arg3 harg3 arg4 harg4 arg5 harg5 arg6 harg6 arg7 harg7 arg8 harg8 x0 x1 x2 = laid4_8 c i arg3 harg3 arg4 harg4 arg5 harg5 arg6 harg6 arg7 harg7 arg8 harg8 x0 x1 x2 := rfl

theorem part12 : kernelRun0_A.sl.r_12 (F := Ideal) c i arg3 harg3 arg4 harg4 arg5 harg5 arg6 harg6 arg7 harg7 arg8 harg8 x0 x1 x2 = (state4 c i arg3 harg3 arg4 harg4 arg5 harg5 arg6 harg6 arg7 harg7 arg8 harg8 x0 x1 x2).1.1 := by
  unfold kernelRun0_A.sl.r_12
  rw [fold1, join1_7, join1_8, fold2, join2_7, join2_8, part8, part9, part10, part11, fold3, join3_7, join3_8, fold4]

theorem part13 : kernelRun0_A.sl.r_13 (F := Ideal) c i arg3 harg3 arg4 harg4 arg5 harg5 arg6 harg6 arg7 harg7 arg8 harg8 x0 x1 x2 = (state4 c i arg3 harg3 arg4 harg4 arg5 harg5 arg6 harg6 arg7 harg7 arg8 harg8 x0 x1 x2).1.2.1 := by
  unfold kernelRun0_A.sl.r_13
  rw [fold1, join1_7, join1_8, fold2, join2_7, join2_8, part8, part9, part10, part11, fold3, join3_7, join3_8, fold4]

theorem part14 : kernelRun0_A.sl.r_14 (F := Ideal) c i arg3 harg3 arg4 harg4 arg5 harg5 arg6 harg6 arg7 harg7 arg8 harg8 x0 x1 x2 = (state4 c i arg3 harg3 arg4 harg4 arg5 harg5 arg6 harg6 arg7 harg7 arg8 harg8 x0 x1 x2).1.2.2.1 := by
  unfold kernelRun0_A.sl.r_14
  rw [fold1, join1_7, join1_8, fold2, join2_7, join2_8, part8, part9, part10, part11, fold3, join3_7, join3_8, fold4]

theorem part15 : kernelRun0_A.sl.r_15 (F := Ideal) c i arg3 harg3 arg4 harg4 arg5 harg5 arg6 harg6 arg7 harg7 arg8 harg8 x0 x1 x2 = (state4 c i arg3 harg3 arg4 harg4 arg5 harg5 arg6 harg6 arg7 harg7 arg8 harg8 x0 x1 x2).1.2.2.2 := by
  unfold kernelRun0_A.sl.r_15
  rw [fold1, join1_7, join1_8, fold2, join2_7, join2_8, part8, part9, part10, part11, fold3, join3_7, join3_8, fold4]

theorem fold5 : st_k0_t5 (F := Ideal) Variants.none c none i arg3 harg3 arg4 harg4 arg5 harg5 arg6 harg6 arg7 harg7 arg8 harg8 (kernelRun0_A.sl.v160 i) 0#32 (harg3.unread x0) (harg4.unread x1) (harg5.unread x2) (arg7.view.writes (Elt Ideal) arg7.view.junk (laid4_7 c i arg3 harg3 arg4 harg4 arg5 harg5 arg6 harg6 arg7 harg7 arg8 harg8 x0 x1 x2)) (arg8.view.writes (Elt Ideal) arg8.view.junk (laid4_8 c i arg3 harg3 arg4 harg4 arg5 harg5 arg6 harg6 arg7 harg7 arg8 harg8 x0 x1 x2)) ((state4 c i arg3 harg3 arg4 harg4 arg5 harg5 arg6 harg6 arg7 harg7 arg8 harg8 x0 x1 x2).1.1, (state4 c i arg3 harg3 arg4 harg4 arg5 harg5 arg6 harg6 arg7 harg7 arg8 harg8 x0 x1 x2).1.2.1, (state4 c i arg3 harg3 arg4 harg4 arg5 harg5 arg6 harg6 arg7 harg7 arg8 harg8 x0 x1 x2).1.2.2.1, (state4 c i arg3 harg3 arg4 harg4 arg5 harg5 arg6 harg6 arg7 harg7 arg8 harg8 x0 x1 x2).1.2.2.2) (Scf.trips (k0_t5_loop i).lb (k0_t5_loop i).ub (k0_t5_loop i).st) = state5 c i arg3 harg3 arg4 harg4 arg5 harg5 arg6 harg6 arg7 harg7 arg8 harg8 x0 x1 x2 := rfl

theorem join5_7 : (state5 c i arg3 harg3 arg4 harg4 arg5 harg5 arg6 harg6 arg7 harg7 arg8 harg8 x0 x1 x2).2.1 ++ laid4_7 c i arg3 harg3 arg4 harg4 arg5 harg5 arg6 harg6 arg7 harg7 arg8 harg8 x0 x1 x2 = laid5_7 c i arg3 harg3 arg4 harg4 arg5 harg5 arg6 harg6 arg7 harg7 arg8 harg8 x0 x1 x2 := rfl

theorem join5_8 : (state5 c i arg3 harg3 arg4 harg4 arg5 harg5 arg6 harg6 arg7 harg7 arg8 harg8 x0 x1 x2).2.2 ++ laid4_8 c i arg3 harg3 arg4 harg4 arg5 harg5 arg6 harg6 arg7 harg7 arg8 harg8 x0 x1 x2 = laid5_8 c i arg3 harg3 arg4 harg4 arg5 harg5 arg6 harg6 arg7 harg7 arg8 harg8 x0 x1 x2 := rfl

theorem fold6 (lim : BitVec 32) : st_k0_t6 (F := Ideal) Variants.none c none i arg3 harg3 arg4 harg4 arg5 harg5 arg6 harg6 arg7 harg7 arg8 harg8 (kernelRun0_A.sl.v160 i) lim (harg3.unread x0) (harg4.unread x1) (harg5.unread x2) (arg7.view.writes (Elt Ideal) arg7.view.junk (laid5_7 c i arg3 harg3 arg4 harg4 arg5 harg5 arg6 harg6 arg7 harg7 arg8 harg8 x0 x1 x2)) (arg8.view.writes (Elt Ideal) arg8.view.junk (laid5_8 c i arg3 harg3 arg4 harg4 arg5 harg5 arg6 harg6 arg7 harg7 arg8 harg8 x0 x1 x2)) ((state5 c i arg3 harg3 arg4 harg4 arg5 harg5 arg6 harg6 arg7 harg7 arg8 harg8 x0 x1 x2).1.1, (state5 c i arg3 harg3 arg4 harg4 arg5 harg5 arg6 harg6 arg7 harg7 arg8 harg8 x0 x1 x2).1.2.1, (state5 c i arg3 harg3 arg4 harg4 arg5 harg5 arg6 harg6 arg7 harg7 arg8 harg8 x0 x1 x2).1.2.2.1, (state5 c i arg3 harg3 arg4 harg4 arg5 harg5 arg6 harg6 arg7 harg7 arg8 harg8 x0 x1 x2).1.2.2.2) (Scf.trips (k0_t6_loop i).lb (k0_t6_loop i).ub (k0_t6_loop i).st) = state6 c i arg3 harg3 arg4 harg4 arg5 harg5 arg6 harg6 arg7 harg7 arg8 harg8 x0 x1 x2 lim := rfl

theorem out_eq : out0_A_3 (F := Ideal) c i arg3 harg3 arg4 harg4 arg5 harg5 arg6 harg6 arg7 harg7 arg8 harg8 x0 x1 x2 = k0_pay5 (state5 c i arg3 harg3 arg4 harg4 arg5 harg5 arg6 harg6 arg7 harg7 arg8 harg8 x0 x1 x2).1.2.1 (state5 c i arg3 harg3 arg4 harg4 arg5 harg5 arg6 harg6 arg7 harg7 arg8 harg8 x0 x1 x2).1.2.2.2 := by
  unfold out0_A_3 kernelRun0_A
  refine (View.read_writes_full VO0_3 _ _ _ _).trans ?_
  refine congrArg₂ k0_pay5 ?_ ?_
  · rw [fold1, join1_7, join1_8, fold2, join2_7, join2_8, part8, part9, part10, part11, fold3, join3_7, join3_8, fold4, join4_7, join4_8, part12, part13, part14, part15, fold5, join5_7, join5_8, fold6, last_state]
  · rw [fold1, join1_7, join1_8, fold2, join2_7, join2_8, part8, part9, part10, part11, fold3, join3_7, join3_8, fold4, join4_7, join4_8, part12, part13, part14, part15, fold5, join5_7, join5_8, fold6, last_state]

end

end Cert.MlaIdeal.Hand

end
-- ==== Proof.MlaSum.lean ====
/-
  The diagonal block and the blocks before it, put together: one sum over all 8192 keys, in which a
  key after the query counts nothing.
-/
module

public import proofs.«01_k».proof.Proof.MlaStart

@[expose] public section

set_option maxRecDepth 16384

noncomputable section

namespace Cert.MlaIdeal.Hand

open Cert.MlaIdeal Cert.MlaIdeal.Gen Idealize.ShloMosaic Idealize.ShloMosaic.TcCoe Idealize.SL.Sem

variable (Q : Fin 2 → Fin 512 → Fin 128 → EReal) (K : Fin 2 → ℕ → Fin 128 → EReal)
  (V : Fin 2 → ℕ → Fin 80 → Fin 256 → EReal)

/-- What key `t` adds to the running sum, `q` being the number of the query block. -/
def share (q : ℕ) (h : Fin 2) (r : Fin 80) (n : Fin 512) (μ : ℝ) (t : ℕ) : EReal :=
  Ideal.exp2 ((if t ≤ 512 * q + n.val then ∑ d : Fin 128, K h t d * Q h n d else ⊥) - μ)
    * V h (t / 256) r ⟨t % 256, Nat.mod_lt _ (by norm_num)⟩

theorem vl_eq (h : Fin 2) (j : ℕ) (r : Fin 80) (l : Fin 512) :
    vl V h j r l = V h ((512 * j + l.val) / 256) r ⟨(512 * j + l.val) % 256, Nat.mod_lt _ (by norm_num)⟩ := by
  unfold vl
  by_cases hl : l.val < 256
  · obtain ⟨d, rfl⟩ : ∃ d : Fin 256, l = Fin.castAdd (n := 256) (m := 256) d := ⟨⟨l.val, hl⟩, rfl⟩
    rw [Fin.addCases_left]
    have e1 : (512 * j + (Fin.castAdd 256 d).val) / 256 = 2 * j := by
      rw [Fin.val_castAdd]; omega
    have e2 : (512 * j + (Fin.castAdd 256 d).val) % 256 = d.val := by
      rw [Fin.val_castAdd]; omega
    rw [e1]
    exact congrArg _ (Fin.ext e2.symm)
  · obtain ⟨d, rfl⟩ : ∃ d : Fin 256, l = Fin.natAdd (n := 256) (m := 256) d :=
      ⟨⟨l.val - 256, by omega⟩, Fin.ext (by show l.val = 256 + (l.val - 256); omega)⟩
    rw [Fin.addCases_right]
    have e1 : (512 * j + (Fin.natAdd 256 d).val) / 256 = 2 * j + 1 := by
      rw [Fin.val_natAdd]; omega
    have e2 : (512 * j + (Fin.natAdd 256 d).val) % 256 = d.val := by
      rw [Fin.val_natAdd]; omega
    rw [e1]
    exact congrArg _ (Fin.ext e2.symm)

theorem sum_blocks (f : ℕ → EReal) : ∑ t : Fin 8192, f t.val = ∑ j ∈ Finset.range 16, ∑ l : Fin 512, f (512 * j + l.val) := by
  rw [Finset.sum_range fun j => ∑ l : Fin 512, f (512 * j + l.val), ← Fintype.sum_prod_type']
  refine (Fintype.sum_equiv (finProdFinEquiv (m := 16) (n := 512)) _ _ fun p => ?_).symm
  show f (512 * p.1.val + p.2.val) = f (p.2.val + 512 * p.1.val)
  rw [Nat.add_comm]

theorem whole_sum (q : ℕ) (hq : q < 16) (h : Fin 2) (r : Fin 80) (n : Fin 512) (μ : ℝ) :
    seen Q K V (diag Q K V q) h q r n μ = ∑ t : Fin 8192, share Q K V q h r n μ t.val := by
  have hn := n.isLt
  rw [sum_blocks]
  have e : ∑ j ∈ Finset.range 16, ∑ l : Fin 512, share Q K V q h r n μ (512 * j + l.val)
      = ∑ j ∈ Finset.range (q + 1), ∑ l : Fin 512, share Q K V q h r n μ (512 * j + l.val) := by
    refine (Finset.sum_subset (fun j hj => ?_) fun j _ hj => ?_).symm
    · rw [Finset.mem_range] at hj ⊢; omega
    · rw [Finset.mem_range] at hj
      refine Finset.sum_eq_zero fun l _ => ?_
      unfold share
      rw [if_neg (by omega)]
      simp
  rw [e, Finset.sum_range_succ, add_comm]
  unfold seen
  congr 1
  · unfold diag block
    refine Finset.sum_congr rfl fun l _ => ?_
    unfold share
    rw [vl_eq]
    congr 3
    refine if_congr ?_ rfl rfl
    rw [Fin.le_def]; omega
  · refine Finset.sum_congr rfl fun j hj => ?_
    rw [Finset.mem_range] at hj
    unfold block
    refine Finset.sum_congr rfl fun l _ => ?_
    unfold share
    rw [vl_eq, if_pos (by have := l.isLt; omega)]
    rfl

end Cert.MlaIdeal.Hand

end
-- ==== Proof.Attend.lean ====
/-
One row of causal softmax attention over 8192 keys, the scores being real.
-/
module

public import proofs.«01_k».proof.Proof.Softmax
public import Idealize.ShloMosaic.Lib.Pointwise

@[expose] public section

noncomputable section

namespace Attn

open Idealize.ShloMosaic

/-- The row of query `s`: its scores `τ`, the values `v`, and the keys after `s` left out. -/
def attend (τ : Fin 8192 → ℝ) (v : Fin 8192 → EReal) (s : ℕ) : EReal :=
  ∑ t : Fin 8192, v t * Ideal.div (Ideal.exp ((if t.val ≤ s then (τ t : EReal) else ⊥) - ((0 : ℝ) : EReal)))
    (∑ j : Fin 8192, Ideal.exp ((if j.val ≤ s then (τ j : EReal) else ⊥) - ((0 : ℝ) : EReal)))

/-- Every entry is a real. -/
def Reals {s : Shape} (x : s.Idx → EReal) : Prop := ∀ i, x i = ((x i).toReal : EReal)

/-- The score of query `s` and key `t`, from queries and keys that hold reals. -/
def tau (q k : (⟨4, ![2, 6, 8192, 128]⟩ : Shape).Idx → EReal) (b : Fin 2) (h : Fin 6) (s t : Fin 8192) : ℝ :=
  (∑ d : Fin 128, (q (ix4 b h s d)).toReal * (k (ix4 b h t d)).toReal) * (Real.sqrt 96)⁻¹

/-- The running form is that row, whatever its shift. -/
theorem attend_running (τ : Fin 8192 → ℝ) (v : Fin 8192 → EReal) (s : ℕ) (μ : ℝ) :
    (∑ t : Fin 8192, Ideal.exp2 ((if t.val ≤ s then ((τ t * (Real.log 2)⁻¹ : ℝ) : EReal) else ⊥) - μ) * v t)
        * Ideal.div 1 (∑ t : Fin 8192, Ideal.exp2 ((if t.val ≤ s then ((τ t * (Real.log 2)⁻¹ : ℝ) : EReal) else ⊥) - μ) * 1)
      = attend τ v s :=
  normalize (fun t : Fin 8192 => t.val ≤ s) τ v μ 0 0 (Nat.zero_le _)

/-- The softmax shifted by any real is that row. -/
theorem attend_shift (τ : Fin 8192 → ℝ) (v : Fin 8192 → EReal) (s : ℕ) (M : ℝ) :
    (∑ t : Fin 8192, v t * Ideal.div (Ideal.exp ((if t.val ≤ s then (τ t : EReal) else ⊥) - M))
      (∑ j : Fin 8192, Ideal.exp ((if j.val ≤ s then (τ j : EReal) else ⊥) - M))) = attend τ v s :=
  (normalize (fun t : Fin 8192 => t.val ≤ s) τ v 0 M 0 (Nat.zero_le _)).symm.trans (attend_running τ v s 0)

end Attn

end
-- ==== Proof.MlaBlock.lean ====
/-
The block one grid point of the attention leaves: two heads of 512 queries, each a row of attention.
-/
module

public import proofs.«01_k».proof.Proof.MlaOut
public import proofs.«01_k».proof.Proof.MlaSum
public import proofs.«01_k».proof.Proof.Attend

@[expose] public section

set_option maxRecDepth 16384

noncomputable section

namespace Cert.MlaIdeal.Hand

open Cert.MlaIdeal Cert.MlaIdeal.Gen Idealize.ShloMosaic Idealize.ShloMosaic.TcCoe Idealize.SL.Sem

theorem finish_fst (a b : FVec Ideal S80x512 .f32) (n : Fin 512) (e : Fin 64) :
    k0_pay5 a b (ix3 0 n (Fin.castAdd 64 e)) = a (ix2 (Fin.castAdd 16 e) n) * Ideal.div 1 (a (ix2 64 n)) := by
  pointwise [k0_pay5]
  exact dif_pos e.isLt

theorem finish_snd (a b : FVec Ideal S80x512 .f32) (n : Fin 512) (e : Fin 64) :
    k0_pay5 a b (ix3 0 n (Fin.natAdd 64 e)) = b (ix2 (Fin.castAdd 16 e) n) * Ideal.div 1 (b (ix2 64 n)) := by
  pointwise [k0_pay5]
  refine (dif_neg (show ¬(64 + e.val < 64) by omega)).trans ?_
  refine congrArg (fun k => b (ix2 k n) * Ideal.div 1 (b (ix2 64 n))) (Fin.ext ?_)
  show 64 + e.val - 64 = e.val
  omega

section

variable (x0 : Vec Ideal S1x2x512x128 .bf16) (x1 : Vec Ideal S1x2x8192x128 .bf16) (x2 : Vec Ideal S1x2x32x80x256 .bf16)

/-- The queries of the block. -/
def queries (h : Fin 2) (n : Fin 512) (d : Fin 128) : EReal := x0 (ix4 0 h n d)

/-- The keys, by their position. -/
def keys (h : Fin 2) (t : ℕ) (d : Fin 128) : EReal := x1 (ix4 0 h ⟨t % 8192, Nat.mod_lt _ (by norm_num)⟩ d)

/-- The values, by their chunk. -/
def values (h : Fin 2) (c : ℕ) (r : Fin 80) (d : Fin 256) : EReal := x2 (ix5 0 h ⟨c % 32, Nat.mod_lt _ (by norm_num)⟩ r d)

/-- Row `e` of the values of head `h`, by the position of the key. -/
def column (h : Fin 2) (e : Fin 64) (t : Fin 8192) : EReal :=
  x2 (ix5 0 h ⟨t.val / 256, by have := t.isLt; omega⟩ (Fin.castAdd 16 e) ⟨t.val % 256, Nat.mod_lt _ (by norm_num)⟩)

variable (τ : Fin 2 → Fin 512 → Fin 8192 → ℝ)

/-- The products of queries and keys are `τ / log 2`, and the row under the values is ones. -/
structure Real2 : Prop where
  score : ∀ h n t, (∑ d : Fin 128, x1 (ix4 0 h t d) * x0 (ix4 0 h n d)) = ((τ h n t * (Real.log 2)⁻¹ : ℝ) : EReal)
  ones : ∀ h c d, x2 (ix5 0 h c 64 d) = 1

variable {x0 x1 x2 τ}

theorem Real2.sc_score (hr : Real2 x0 x1 x2 τ) (h : Fin 2) (j : ℕ) (l n : Fin 512) : Attn.Score (sc (queries x0) (keys x1) h j l n) := by
  unfold sc keys queries
  rw [hr.score]
  exact .coe _

theorem Real2.share_eq (hr : Real2 x0 x1 x2 τ) (q : ℕ) (h : Fin 2) (r : Fin 80) (n : Fin 512) (μ : ℝ) (t : Fin 8192) :
    share (queries x0) (keys x1) (values x2) q h r n μ t.val
      = Ideal.exp2 ((if t.val ≤ 512 * q + n.val then ((τ h n t * (Real.log 2)⁻¹ : ℝ) : EReal) else ⊥) - μ)
        * x2 (ix5 0 h ⟨t.val / 256, by have := t.isLt; omega⟩ r ⟨t.val % 256, Nat.mod_lt _ (by norm_num)⟩) := by
  have e1 : (⟨t.val % 8192, Nat.mod_lt _ (by norm_num)⟩ : Fin 8192) = t := Fin.ext (Nat.mod_eq_of_lt t.isLt)
  have e2 : (⟨t.val / 256 % 32, Nat.mod_lt _ (by norm_num)⟩ : Fin 32) = ⟨t.val / 256, by have := t.isLt; omega⟩ :=
    Fin.ext (Nat.mod_eq_of_lt (by have := t.isLt; omega))
  unfold share keys queries values
  rw [e1, e2, hr.score]

theorem Real2.row (hr : Real2 x0 x1 x2 τ) (q : ℕ) (hq : q < 16) (h : Fin 2) (m : FVec Ideal S1x512 .f32) (acc : FVec Ideal S80x512 .f32)
    (ha : Holds m acc (seen (queries x0) (keys x1) (values x2) (diag (queries x0) (keys x1) (values x2) q) h q)) (n : Fin 512) (e : Fin 64) :
    acc (ix2 (Fin.castAdd 16 e) n) * Ideal.div 1 (acc (ix2 64 n)) = Attn.attend (τ h n) (column x2 h e) (512 * q + n.val) := by
  obtain ⟨μ, -, hs⟩ := ha.sums n
  rw [hs, hs, whole_sum _ _ _ q hq, whole_sum _ _ _ q hq]
  refine Eq.trans ?_ (Attn.attend_running (τ h n) (column x2 h e) (512 * q + n.val) μ)
  refine congrArg₂ (fun a b => a * Ideal.div 1 b) (Finset.sum_congr rfl fun t _ => ?_) (Finset.sum_congr rfl fun t _ => ?_)
  · rw [hr.share_eq]; rfl
  · rw [hr.share_eq, hr.ones]

end

section

variable (c : Dev nD) (i : grid0.Coords) (arg3 : Memref sig .tc .vmem S1x2x512x128 .bf16) (harg3 : arg3.IsWhole) (arg4 : Memref sig .tc .vmem S1x2x8192x128 .bf16) (harg4 : arg4.IsWhole) (arg5 : Memref sig .tc .vmem S1x2x32x80x256 .bf16) (harg5 : arg5.IsWhole) (arg6 : Memref sig .tc .vmem S1x512x128 .bf16) (harg6 : arg6.IsWhole) (arg7 : Memref sig .tc .vmem S512x512 .f32) (harg7 : arg7.IsWhole) (arg8 : Memref sig .tc .vmem S512x512 .f32) (harg8 : arg8.IsWhole)
  (x0 : Vec Ideal S1x2x512x128 .bf16) (x1 : Vec Ideal S1x2x8192x128 .bf16) (x2 : Vec Ideal S1x2x32x80x256 .bf16)
  (τ : Fin 2 → Fin 512 → Fin 8192 → ℝ)

theorem mem (hr : Real2 x0 x1 x2 τ) : Mem (queries x0) (keys x1) (values x2) arg3 arg4 arg5 (harg3.unread x0) (harg4.unread x1) (harg5.unread x2) := by
  refine ⟨fun h n d => ?_, fun h t d => ?_, fun h u r d => ?_, hr.sc_score⟩
  · rw [harg3.read_unread]; rfl
  · rw [harg4.read_unread]
    unfold keys
    congr 2
    exact Fin.ext (Nat.mod_eq_of_lt t.isLt).symm
  · rw [harg5.read_unread]
    unfold values
    congr 2
    exact Fin.ext (Nat.mod_eq_of_lt u.isLt).symm

theorem out_fst (hr : Real2 x0 x1 x2 τ) (n : Fin 512) (e : Fin 64) :
    out0_A_3 (F := Ideal) c i arg3 harg3 arg4 harg4 arg5 harg5 arg6 harg6 arg7 harg7 arg8 harg8 x0 x1 x2 (ix3 0 n (Fin.castAdd 64 e))
      = Attn.attend (τ 0 n) (column x2 0 e) (512 * (i 2).val + n.val) := by
  rw [out_eq, finish_fst]
  exact hr.row _ (i 2).isLt 0 _ _ (after5 c i arg3 harg3 arg4 harg4 arg5 harg5 arg6 harg6 arg7 harg7 arg8 harg8 x0 x1 x2 (mem _ _ _ _ _ _ _ _ _ _ hr)).fst n e

theorem out_snd (hr : Real2 x0 x1 x2 τ) (n : Fin 512) (e : Fin 64) :
    out0_A_3 (F := Ideal) c i arg3 harg3 arg4 harg4 arg5 harg5 arg6 harg6 arg7 harg7 arg8 harg8 x0 x1 x2 (ix3 0 n (Fin.natAdd 64 e))
      = Attn.attend (τ 1 n) (column x2 1 e) (512 * (i 2).val + n.val) := by
  rw [out_eq, finish_snd]
  exact hr.row _ (i 2).isLt 1 _ _ (after5 c i arg3 harg3 arg4 harg4 arg5 harg5 arg6 harg6 arg7 harg7 arg8 harg8 x0 x1 x2 (mem _ _ _ _ _ _ _ _ _ _ hr)).snd n e

end

end Cert.MlaIdeal.Hand

end
-- ==== Proof.MlaHost.lean ====
/-
What the attention call's arguments hold: the queries divided by √96 and by log 2, the keys as given,
and the values with rows of padding under them, the first of ones.
-/
module

public import proofs.«01_k».proof.Proof.Gen.MlaIdeal.Value
public import proofs.«01_k».proof.Proof.Words
public import Idealize.ShloMosaic.Lib.Pointwise
public import Idealize.ShloMosaic.Lib.Pipeline.ValueKit

@[expose] public section

set_option maxRecDepth 16384

noncomputable section

namespace Cert.MlaIdeal.Hand

open Cert.MlaIdeal Cert.MlaIdeal.Gen Idealize.ShloMosaic Idealize.ShloMosaic.TcCoe Idealize.SL.Sem
open Idealize.ShloMosaic.Pipeline (Dat)

variable (m : (ℓ : Loc nD τ sig) → Buf (Elt Ideal) ℓ)

theorem V_q (c : Dev nD) (i : S2x6x8192x128.Idx) :
    V m c main_v11 i = Ideal.div (m ((c : Thread nD τ).loc main_arg0) i)
      (Ideal.sqrt (Ideal.ofBits .f32 0x42C00000#32) * Ideal.log (Ideal.ofBits .f32 0x40000000#32)) := by
  have e : V m c main_v11 = truncf (F := Ideal) .bf16 (Host.divf (extf (F := Ideal) .f32 (m ((c : Thread nD τ).loc main_arg0)) bitsLt_bf16_f32)
      (broadcastInDim S2x6x8192x128 ![] bcast_S_S2x6x8192x128
        (mulf (Host.sqrt (constant S_ .f32 0x42C00000#32)) (Host.log (constant S_ .f32 0x40000000#32))))) bitsLt_bf16_f32 := by
    unfold V
    simp only [hostOps0, hostOps0_1, hostOps0_2, List.flatten_cons, List.flatten_nil, List.append_nil, List.cons_append, List.nil_append]
    after_results_simp
  rw [e]
  pointwise

/-- A query's entry, where it is real, is a real again. -/
theorem V_q_real (c : Dev nD) (i : S2x6x8192x128.Idx) (r : ℝ) (h : m ((c : Thread nD τ).loc main_arg0) i = (r : EReal)) :
    V m c main_v11 i = ((r * (Real.sqrt 96 * Real.log 2)⁻¹ : ℝ) : EReal) := by
  have hs : Real.sqrt 96 * Real.log 2 ≠ 0 := (mul_pos (Real.sqrt_pos.mpr (by norm_num)) (Real.log_pos one_lt_two)).ne'
  rw [V_q, h, Attn.word96, Attn.word2, Ideal.sqrt_coe, Ideal.log_coe, if_neg (by norm_num), if_neg (by norm_num), ← EReal.coe_mul, Ideal.div_coe hs,
    ← EReal.coe_mul, one_div]

theorem V_v (c : Dev nD) :
    V m c main_v12 = concatenate S2x6x32x80x256 3 [⟨S2x6x32x64x256, m ((c : Thread nD τ).loc main_arg2)⟩,
      ⟨S2x6x32x16x256, truncf (F := Ideal) .bf16 (select (cmpi .eq (iotaInDim S2x6x32x16x256 32 3) (broadcastInDim S2x6x32x16x256 ![] bcast_S_S2x6x32x16x256 (constantI S_ 32 0#32)))
        (broadcastInDim S2x6x32x16x256 ![] bcast_S_S2x6x32x16x256 (constant S_ .f32 0x3F800000#32))
        (broadcastInDim S2x6x32x16x256 ![] bcast_S_S2x6x32x16x256 (constant S_ .f32 0x00000000#32))) bitsLt_bf16_f32⟩]
      concatenates_S2x6x32x64x256_S2x6x32x16x256_S2x6x32x80x256_d3 := by
  unfold V
  simp only [hostOps0, hostOps0_1, hostOps0_2, List.flatten_cons, List.flatten_nil, List.append_nil, List.cons_append, List.nil_append]
  after_results_simp
  refine congrArg₂ (fun (a : Vec Ideal S2x6x32x64x256 .bf16) (b : Vec Ideal S2x6x32x16x256 .bf16) => concatenate S2x6x32x80x256 3
    [⟨S2x6x32x64x256, a⟩, ⟨S2x6x32x16x256, b⟩] concatenates_S2x6x32x64x256_S2x6x32x16x256_S2x6x32x80x256_d3) ?_ ?_
  · after_results_simp
  · after_results_simp
    rfl

theorem V_value (c : Dev nD) (b : Fin 2) (h : Fin 6) (u : Fin 32) (e : Fin 64) (d : Fin 256) :
    V m c main_v12 (ix5 b h u (Fin.castAdd 16 e) d) = m ((c : Thread nD τ).loc main_arg2) (ix5 b h u e d) := by
  rw [V_v]
  pointwise
  exact dif_pos e.isLt

theorem V_one (c : Dev nD) (b : Fin 2) (h : Fin 6) (u : Fin 32) (d : Fin 256) :
    V m c main_v12 (ix5 b h u 64 d) = (1 : EReal) := by
  rw [V_v]
  pointwise

end Cert.MlaIdeal.Hand

end
-- ==== Proof.MlaValue.lean ====
/-
The array the attention call leaves: every query a row of attention over the keys and values given.
-/
module

public import proofs.«01_k».proof.Proof.MlaBlock
public import proofs.«01_k».proof.Proof.MlaHost

@[expose] public section

set_option maxRecDepth 16384

noncomputable section

namespace Cert.MlaIdeal.Hand

open Cert.MlaIdeal Cert.MlaIdeal.Gen Idealize.ShloMosaic Idealize.ShloMosaic.TcCoe Idealize.SL.Sem
open Idealize.ShloMosaic.Pipeline (Dat)

variable (m : (ℓ : Loc nD τ sig) → Buf (Elt Ideal) ℓ)

/-- The result, from the program's arguments. -/
def attended (q k : S2x6x8192x128.Idx → EReal) (v : S2x6x32x64x256.Idx → EReal) (i : S2x8192x384.Idx) : EReal :=
  Attn.attend (Attn.tau q k (i 0) ⟨(i 2).val / 64, by have : (i 2).val < 384 := (i 2).isLt; omega⟩ (i 1))
    (fun t => v (ix5 (i 0) ⟨(i 2).val / 64, by have : (i 2).val < 384 := (i 2).isLt; omega⟩
      ⟨t.val / 256, by have := t.isLt; omega⟩ ⟨(i 2).val % 64, Nat.mod_lt _ (by norm_num)⟩ ⟨t.val % 256, Nat.mod_lt _ (by norm_num)⟩)) (i 1).val

theorem e0 : ∀ t : Fin cfg0.N, win0_0.index t = ![t.val / 48, t.val / 16 % 3, t.val % 16, 0] := (by decide +kernel : ∀ t : Fin grid0.N, _)
theorem e1 : ∀ t : Fin cfg0.N, win0_1.index t = ![t.val / 48, t.val / 16 % 3, 0, 0] := (by decide +kernel : ∀ t : Fin grid0.N, _)
theorem e2 : ∀ t : Fin cfg0.N, win0_2.index t = ![t.val / 48, t.val / 16 % 3, 0, 0, 0] := (by decide +kernel : ∀ t : Fin grid0.N, _)
theorem e3 : ∀ t : Fin cfg0.N, win0_3.index t = ![t.val / 48, t.val % 16, t.val / 16 % 3] := (by decide +kernel : ∀ t : Fin grid0.N, _)
theorem eC : ∀ t : Fin cfg0.N, (grid0.coords t 2).val = t.val % 16 := (by decide +kernel : ∀ t : Fin grid0.N, _)

theorem points (t : Fin cfg0.N) : t.val < 96 := t.isLt

/-- The batch row, the head and the query of a place in a block. -/
def bat (t : Fin cfg0.N) : Fin 2 := ⟨t.val / 48, by have := points t; omega⟩
def head (t : Fin cfg0.N) (h : Fin 2) : Fin 6 := ⟨2 * (t.val / 16 % 3) + h.val, by have := points t; omega⟩
def pos (t : Fin cfg0.N) (n : Fin 512) : Fin 8192 := ⟨512 * (t.val % 16) + n.val, by have := n.isLt; omega⟩

theorem read0 (c : Dev nD) (t : Fin cfg0.N) (h : Fin 2) (n : Fin 512) (d : Fin 128) :
    iblk m c 0 t (ix4 0 h n d) = V m c main_v11 (ix4 (bat t) (head t h) (pos t n) d) := by
  blk_simp [iblk]
  congr 1
  blk_ext [e0, bat, head, pos]

theorem read1 (c : Dev nD) (t : Fin cfg0.N) (h : Fin 2) (s : Fin 8192) (d : Fin 128) :
    iblk m c 1 t (ix4 0 h s d) = m ((c : Thread nD τ).loc main_arg1) (ix4 (bat t) (head t h) s d) := by
  blk_simp [iblk]
  rw [V_main_arg1]
  congr 1
  blk_ext [e1, bat, head]

theorem read2 (c : Dev nD) (t : Fin cfg0.N) (h : Fin 2) (u : Fin 32) (r : Fin 80) (d : Fin 256) :
    iblk m c 2 t (ix5 0 h u r d) = V m c main_v12 (ix5 (bat t) (head t h) u r d) := by
  blk_simp [iblk]
  congr 1
  blk_ext [e2, bat, head]

theorem place (t : Fin cfg0.N) (n : Fin 512) (j : Fin 128) :
    (win0_3.blk t).view.emb (ix3 0 n j) = ix3 (bat t) (pos t n) ⟨128 * (t.val / 16 % 3) + j.val, by have := points t; omega⟩ := by
  blk_ext [e3, bat, pos]

theorem block_real (c : Dev nD) (hq : Attn.Reals (m ((c : Thread nD τ).loc main_arg0))) (hk : Attn.Reals (m ((c : Thread nD τ).loc main_arg1)))
    (t : Fin cfg0.N) :
    Real2 (iblk m c 0 t) (iblk m c 1 t) (iblk m c 2 t)
      fun h n s => Attn.tau (m ((c : Thread nD τ).loc main_arg0)) (m ((c : Thread nD τ).loc main_arg1)) (bat t) (head t h) (pos t n) s := by
  refine ⟨fun h n s => ?_, fun h u d => ?_⟩
  · unfold Attn.tau
    rw [Finset.sum_mul, Finset.sum_mul, ← Attn.coe_sum]
    refine Finset.sum_congr rfl fun d _ => ?_
    refine (congrArg₂ (fun a b : EReal => a * b) ((read1 m c t h s d).trans (hk _))
      ((read0 m c t h n d).trans (V_q_real m c _ _ (hq _)))).trans ?_
    rw [← EReal.coe_mul, mul_inv]
    congr 1
    ring
  · exact (read2 m c t h u 64 d).trans (V_one m c _ _ _ _)

theorem column_eq (c : Dev nD) (t : Fin cfg0.N) (h : Fin 2) (e : Fin 64) (s : Fin 8192) :
    column (iblk m c 2 t) h e s = m ((c : Thread nD τ).loc main_arg2) (ix5 (bat t) (head t h)
      ⟨s.val / 256, by have := s.isLt; omega⟩ e ⟨s.val % 256, Nat.mod_lt _ (by norm_num)⟩) :=
  (read2 m c t h _ _ _).trans (V_value m c _ _ _ _ _)

theorem attended_at (q k : S2x6x8192x128.Idx → EReal) (v : S2x6x32x64x256.Idx → EReal) (b : Fin 2) (s : Fin 8192) (j : Fin 384)
    (h : Fin 6) (e : Fin 64) (hj : j.val = 64 * h.val + e.val) :
    attended q k v (ix3 b s j) = Attn.attend (Attn.tau q k b h s)
      (fun t => v (ix5 b h ⟨t.val / 256, by have := t.isLt; omega⟩ e ⟨t.val % 256, Nat.mod_lt _ (by norm_num)⟩)) s.val := by
  have e1 : (⟨j.val / 64, by have := j.isLt; omega⟩ : Fin 6) = h := Fin.ext (by have := e.isLt; show j.val / 64 = h.val; omega)
  have e2 : (⟨j.val % 64, Nat.mod_lt _ (by norm_num)⟩ : Fin 64) = e := Fin.ext (by have := e.isLt; show j.val % 64 = e.val; omega)
  show Attn.attend (Attn.tau q k b ⟨j.val / 64, _⟩ s) (fun t => v (ix5 b ⟨j.val / 64, _⟩ _ ⟨j.val % 64, _⟩ _)) s.val = _
  rw [e1, e2]

theorem final (c : Dev nD) (hq : Attn.Reals (m ((c : Thread nD τ).loc main_arg0))) (hk : Attn.Reals (m ((c : Thread nD τ).loc main_arg1))) :
    (dats m 0 c).arrAt 3 cfg0.N = attended (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨u, n, j, rfl⟩ : ∃ (u : Fin 1) (n : Fin 512) (j : Fin 128), y = ix3 u n j :=
    ⟨y 0, y 1, y 2, by funext a; match a with | ⟨0, _⟩ => rfl | ⟨1, _⟩ => rfl | ⟨2, _⟩ => rfl⟩
  obtain rfl : u = 0 := Subsingleton.elim _ _
  have hp := pos t n
  have ht := points t
  refine Eq.trans ?_ (congrArg (attended _ _ _) (place t n j)).symm
  have hs : 512 * (grid0.coords t 2).val + n.val = (pos t n).val := by rw [eC]; rfl
  by_cases hj : j.val < 64
  · obtain ⟨e, rfl⟩ : ∃ e : Fin 64, j = Fin.castAdd (n := 64) (m := 64) e := ⟨⟨j.val, hj⟩, rfl⟩
    refine (out_fst c _ _ _ _ _ _ _ _ _ _ _ _ _ _ _ _ _ (block_real m c hq hk t) n e).trans ?_
    rw [hs]
    refine Eq.trans ?_ (attended_at _ _ _ _ _ _ (head t 0) e ?_).symm
    · exact congrArg (fun f => Attn.attend _ f _) (funext fun s => column_eq m c t 0 e s)
    · show 128 * (t.val / 16 % 3) + e.val = 64 * (2 * (t.val / 16 % 3) + 0) + e.val
      omega
  · obtain ⟨e, rfl⟩ : ∃ e : Fin 64, j = Fin.natAdd (n := 64) (m := 64) e :=
      ⟨⟨j.val - 64, by omega⟩, Fin.ext (by show j.val = 64 + (j.val - 64); omega)⟩
    refine (out_snd c _ _ _ _ _ _ _ _ _ _ _ _ _ _ _ _ _ (block_real m c hq hk t) n e).trans ?_
    rw [hs]
    refine Eq.trans ?_ (attended_at _ _ _ _ _ _ (head t 1) e ?_).symm
    · exact congrArg (fun f => Attn.attend _ f _) (funext fun s => column_eq m c t 1 e s)
    · show 128 * (t.val / 16 % 3) + (64 + e.val) = 64 * (2 * (t.val / 16 % 3) + 1) + e.val
      omega

end Cert.MlaIdeal.Hand

end
-- ==== Proof.MlaRefRow.lean ====
/-
The reference's attention, entry by entry: a row of attention over the keys and values given.
-/
module

public import proofs.«01_k».proof.Proof.Gen.MlaRefIdeal.Read
public import proofs.«01_k».proof.Proof.Attend
public import proofs.«01_k».proof.Proof.Words
public import Idealize.ShloMosaic.Lib.WordCmp

@[expose] public section

set_option maxRecDepth 16384

noncomputable section

namespace Cert.MlaRefIdeal.Hand

open Cert.MlaRefIdeal Cert.MlaRefIdeal.Gen Cert.MlaRefIdeal.Read Idealize.ShloMosaic Idealize.ShloMosaic.TcCoe Idealize.SL.Sem

variable (x0 x1 : (⟨S2x6x8192x128, .bf16⟩ : BufTy).Contents (Elt Ideal)) (x2 : (⟨S2x6x32x64x256, .bf16⟩ : BufTy).Contents (Elt Ideal))
variable (b : Fin 2) (h : Fin 6) (s t : Fin 8192)

/-- The score of query `s` and key `t`, real where queries and keys are. -/
theorem score (hq : Attn.Reals (s := S2x6x8192x128) x0) (hk : Attn.Reals (s := S2x6x8192x128) x1) :
    val_main_v9 (F := Ideal) x0 x1 (ix4 b h s t) = ((Attn.tau x0 x1 b h s t : ℝ) : EReal) := by
  have hs : Real.sqrt 96 ≠ 0 := (Real.sqrt_pos.mpr (by norm_num)).ne'
  have e : val_main_v6 (F := Ideal) x0 x1 (ix4 b h s t)
      = ((∑ d : Fin 128, (x0 (ix4 b h s d)).toReal * (x1 (ix4 b h t d)).toReal : ℝ) : EReal) := by
    rw [val_main_v6_apply, ← Attn.coe_sum]
    refine Finset.sum_congr rfl fun d _ => ?_
    rw [EReal.coe_mul]
    refine congrArg₂ (fun a b : EReal => a * b) ?_ ?_
    · refine Eq.trans ?_ (hq (ix4 b h s d))
      exact congrArg x0 (funext fun a => Fin.ext (by match a with | ⟨0, _⟩ => rfl | ⟨1, _⟩ => rfl | ⟨2, _⟩ => rfl | ⟨3, _⟩ => rfl))
    · refine Eq.trans ?_ (hk (ix4 b h t d))
      exact congrArg x1 (funext fun a => Fin.ext (by match a with | ⟨0, _⟩ => rfl | ⟨1, _⟩ => rfl | ⟨2, _⟩ => rfl | ⟨3, _⟩ => rfl))
  rw [val_main_v9_apply, val_main_v8_apply, val_main_v7_apply, val_main_cst_apply, e]
  show Ideal.div _ (Ideal.sqrt (Ideal.ofBits .f32 0x42C00000#32)) = _
  rw [Attn.word96, Ideal.sqrt_coe, if_neg (by norm_num), Ideal.div_coe hs, ← EReal.coe_mul, one_div]
  rfl

/-- The masked score. -/
theorem masked (hq : Attn.Reals (s := S2x6x8192x128) x0) (hk : Attn.Reals (s := S2x6x8192x128) x1) :
    val_main_v15 (F := Ideal) x0 x1 (ix4 b h s t) = if t.val ≤ s.val then ((Attn.tau x0 x1 b h s t : ℝ) : EReal) else ⊥ := by
  have e : val_main_call0_v1 (F := Ideal) (ix4 b h s t) = BitVec.ofBool (decide (t.val ≤ s.val)) := by
    rw [val_main_call0_v1_apply, val_main_v14_apply, val_main_v12_apply, val_main_v13_apply, val_main_v10_apply, val_main_v11_apply,
      val_main_v5_apply, val_main_v5_apply]
    have hs := s.isLt
    have ht := t.isLt
    exact WordCmp.cmpi_sle_ofNat (w := 32) (by show t.val < 2 ^ 31; omega) (by show s.val < 2 ^ 31; omega)
  rw [val_main_v15_apply, e, score x0 x1 b h s t hq hk, val_main_call0_v2_apply, val_main_call0_v0_apply, val_main_cst_0_apply]
  by_cases hst : t.val ≤ s.val
  · rw [if_pos hst, decide_eq_true hst]; rfl
  · rw [if_neg hst, decide_eq_false hst]
    exact Attn.negInf

/-- The largest masked score of a query is real. -/
theorem peak (hq : Attn.Reals (s := S2x6x8192x128) x0) (hk : Attn.Reals (s := S2x6x8192x128) x1) :
    ∃ M : ℝ, val_main_v18 (F := Ideal) x0 x1 (ix3 b h s) = (M : EReal) := by
  have hy : ∀ t : Fin 8192, val_main_v15 (F := Ideal) x0 x1 (ix4 b h s t) = if t.val ≤ s.val then ((Attn.tau x0 x1 b h s t : ℝ) : EReal) else ⊥ :=
    fun t => masked x0 x1 b h s t hq hk
  rw [val_main_v18_apply, val_main_v17_apply, val_main_cst_2_apply]
  unfold val_main_v16
  generalize val_main_v15 (F := Ideal) x0 x1 = y at hy
  show ∃ M : ℝ, max (Ideal.ofBits .f32 0xFF800000#32)
    (Host.reduce (max : EReal → EReal → EReal) y (val_main_cst_1 (F := Ideal)) reducesTo_S2x6x8192x8192_S2x6x8192_d3 h_S_ (ix3 b h s)) = (M : EReal)
  rw [Attn.negInf, max_eq_right bot_le, Host.reduce_eq_fold_single max y _ reducesTo_S2x6x8192x8192_S2x6x8192_d3 (by decide) h_S_]
  have hl : ∀ t : Fin 8192, (y ∘ Shape.Reduces.lift (s := S2x6x8192x8192) (t := S2x6x8192) (a := 3) (by decide) (ix3 b h s)) t
      = if t.val ≤ s.val then ((Attn.tau x0 x1 b h s t : ℝ) : EReal) else ⊥ := fun t =>
    (congrArg y (funext fun a => Fin.ext (by match a with | ⟨0, _⟩ => rfl | ⟨1, _⟩ => rfl | ⟨2, _⟩ => rfl | ⟨3, _⟩ => rfl))).trans (hy t)
  refine Attn.Score.real_fold_max Finset.univ _ _ ?_ (fun t _ => ?_) (Finset.mem_univ s) ((hl s).trans (if_pos (le_refl _)))
  · exact (congrArg Attn.Score Attn.negInf).mpr Attn.Score.bot
  · refine (congrArg Attn.Score (hl t)).mpr ?_
    split
    · exact .coe _
    · exact .bot

/-- The weight of a key before it is divided by the sum. -/
theorem weight (M : ℝ) (hM : val_main_v18 (F := Ideal) x0 x1 (ix3 b h s) = (M : EReal))
    (hq : Attn.Reals (s := S2x6x8192x128) x0) (hk : Attn.Reals (s := S2x6x8192x128) x1) :
    val_main_v22 (F := Ideal) x0 x1 (ix4 b h s t)
      = Ideal.exp ((if t.val ≤ s.val then ((Attn.tau x0 x1 b h s t : ℝ) : EReal) else ⊥) - M) := by
  have e : val_main_v20 (F := Ideal) x0 x1 (ix4 b h s t) = (M : EReal) := by
    rw [val_main_v20_apply, val_main_v19_apply, ← hM]
    exact congrArg _ (funext fun a => Fin.ext (by match a with | ⟨0, _⟩ => rfl | ⟨1, _⟩ => rfl | ⟨2, _⟩ => rfl))
  rw [val_main_v22_apply, val_main_v21_apply, e, masked x0 x1 b h s t hq hk]
  rfl

theorem total (M : ℝ) (hM : val_main_v18 (F := Ideal) x0 x1 (ix3 b h s) = (M : EReal))
    (hq : Attn.Reals (s := S2x6x8192x128) x0) (hk : Attn.Reals (s := S2x6x8192x128) x1) :
    val_main_v23 (F := Ideal) x0 x1 (ix3 b h s)
      = ∑ j : Fin 8192, Ideal.exp ((if j.val ≤ s.val then ((Attn.tau x0 x1 b h s j : ℝ) : EReal) else ⊥) - M) := by
  rw [val_main_v23_apply, val_main_cst_3_apply]
  show Ideal.ofBits .f32 0x00000000#32 + _ = _
  rw [Attn.zeroWord, zero_add]
  refine Finset.sum_congr rfl fun j _ => ?_
  refine Eq.trans ?_ (weight x0 x1 b h s j M hM hq hk)
  exact congrArg _ (funext fun a => Fin.ext (by match a with | ⟨0, _⟩ => rfl | ⟨1, _⟩ => rfl | ⟨2, _⟩ => rfl | ⟨3, _⟩ => rfl))

theorem share (M : ℝ) (hM : val_main_v18 (F := Ideal) x0 x1 (ix3 b h s) = (M : EReal))
    (hq : Attn.Reals (s := S2x6x8192x128) x0) (hk : Attn.Reals (s := S2x6x8192x128) x1) :
    val_main_v26 (F := Ideal) x0 x1 (ix4 b h s t)
      = Ideal.div (Ideal.exp ((if t.val ≤ s.val then ((Attn.tau x0 x1 b h s t : ℝ) : EReal) else ⊥) - M))
        (∑ j : Fin 8192, Ideal.exp ((if j.val ≤ s.val then ((Attn.tau x0 x1 b h s j : ℝ) : EReal) else ⊥) - M)) := by
  have e : val_main_v25 (F := Ideal) x0 x1 (ix4 b h s t) = val_main_v23 (F := Ideal) x0 x1 (ix3 b h s) := by
    rw [val_main_v25_apply, val_main_v24_apply]
    exact congrArg _ (funext fun a => Fin.ext (by match a with | ⟨0, _⟩ => rfl | ⟨1, _⟩ => rfl | ⟨2, _⟩ => rfl))
  rw [val_main_v26_apply, e, weight x0 x1 b h s t M hM hq hk, total x0 x1 b h s M hM hq hk]
  rfl

theorem value (e : Fin 64) :
    val_main_v4 (F := Ideal) x2 (ix4 b h t e) = x2 (ix5 b h ⟨t.val / 256, by have := t.isLt; omega⟩ e ⟨t.val % 256, Nat.mod_lt _ (by norm_num)⟩) := by
  rw [val_main_v4_apply, val_main_v3_apply, val_main_v2_apply]
  refine congrArg x2 (funext fun a => Fin.ext ?_)
  have hb := b.isLt
  have hh := h.isLt
  have ht := t.isLt
  have he := e.isLt
  match a with
  | ⟨0, _⟩ => show (((b.val * 6 + h.val) * 8192 + t.val) * 64 + e.val) / 3145728 = b.val; omega
  | ⟨1, _⟩ => show (((b.val * 6 + h.val) * 8192 + t.val) * 64 + e.val) / 524288 % 6 = h.val; omega
  | ⟨2, _⟩ => show (((b.val * 6 + h.val) * 8192 + t.val) * 64 + e.val) / 16384 % 32 = t.val / 256; omega
  | ⟨3, _⟩ => show (((b.val * 6 + h.val) * 8192 + t.val) * 64 + e.val) % 64 = e.val; omega
  | ⟨4, _⟩ => show (((b.val * 6 + h.val) * 8192 + t.val) * 64 + e.val) / 64 % 256 = t.val % 256; omega

theorem row (hq : Attn.Reals (s := S2x6x8192x128) x0) (hk : Attn.Reals (s := S2x6x8192x128) x1) (j : Fin 384) (e : Fin 64)
    (hj : j.val = 64 * h.val + e.val) :
    val_main_v30 (F := Ideal) x0 x1 x2 (ix3 b s j) = Attn.attend (Attn.tau x0 x1 b h s)
      (fun t => x2 (ix5 b h ⟨t.val / 256, by have := t.isLt; omega⟩ e ⟨t.val % 256, Nat.mod_lt _ (by norm_num)⟩)) s.val := by
  obtain ⟨M, hM⟩ := peak x0 x1 b h s hq hk
  have hb := b.isLt
  have hh := h.isLt
  have hs := s.isLt
  have he := e.isLt
  have e1 : idx_main_v28 (idx_main_v29 (ix3 b s j)) = ix4 b h e s := funext fun a => Fin.ext (by
    match a with
    | ⟨0, _⟩ => show ((b.val * 8192 + s.val) * 384 + j.val) / 3145728 = b.val; omega
    | ⟨1, _⟩ => show ((b.val * 8192 + s.val) * 384 + j.val) / 64 % 6 = h.val; omega
    | ⟨2, _⟩ => show ((b.val * 8192 + s.val) * 384 + j.val) % 64 = e.val; omega
    | ⟨3, _⟩ => show ((b.val * 8192 + s.val) * 384 + j.val) / 384 % 8192 = s.val; omega)
  rw [val_main_v30_apply, val_main_v29_apply, val_main_v28_apply, e1]
  show val_main_v27 (F := Ideal) x0 x1 x2 (ix4 b h e s) = _
  rw [val_main_v27_apply]
  refine Eq.trans ?_ (Attn.attend_shift _ _ s.val M)
  refine Finset.sum_congr rfl fun t _ => ?_
  refine congrArg₂ (fun a b : EReal => a * b) ?_ ?_
  · refine Eq.trans ?_ (value x2 b h t e)
    exact congrArg _ (funext fun a => Fin.ext (by match a with | ⟨0, _⟩ => rfl | ⟨1, _⟩ => rfl | ⟨2, _⟩ => rfl | ⟨3, _⟩ => rfl))
  · refine Eq.trans ?_ (share x0 x1 b h s t M hM hq hk)
    exact congrArg _ (funext fun a => Fin.ext (by match a with | ⟨0, _⟩ => rfl | ⟨1, _⟩ => rfl | ⟨2, _⟩ => rfl | ⟨3, _⟩ => rfl))

end Cert.MlaRefIdeal.Hand

end
-- ==== Proof.MlaClaims.lean ====
/-
The claim about the attention call: where queries and keys are finite, the kernel's rows are the reference's rows.
-/
module

public import proofs.«01_k».proof.Defs
public import proofs.«01_k».proof.Proof.Gen.MlaIdeal
public import proofs.«01_k».proof.Proof.MlaValue
public import proofs.«01_k».proof.Proof.Gen.MlaRefIdeal
public import proofs.«01_k».proof.Proof.Gen.MlaRefIdeal.Run
public import proofs.«01_k».proof.Proof.MlaRefRow
public import Idealize.ShloMosaic.Lib.Quiescent

@[expose] public section

set_option maxRecDepth 16384

noncomputable section

namespace Cert.Proof.MlaClaims

open Idealize.ShloMosaic Idealize.ShloMosaic.TcCoe Idealize.SL.Sem

instance facts : Cert.Pre_finite.Facts := ⟨by decide, by decide⟩

/-- A number smaller than plus infinity in magnitude is real. -/
theorem real_of_lt (x : EReal) (h : Ideal.cmp .olt (max x (-x)) (Ideal.ofBits .f32 0x7F800000#32) = 1#1) :
    x = ((x.toReal : ℝ) : EReal) := by
  have hlt : max x (-x) < ⊤ := by
    rw [Attn.posInf] at h
    by_contra hn
    have : Ideal.cmp .olt (max x (-x)) ⊤ = 0#1 := by simp [Ideal.cmp, hn]
    rw [this] at h
    exact absurd h (by decide)
  rw [max_lt_iff] at hlt
  refine (EReal.coe_toReal hlt.1.ne ?_).symm
  rintro rfl
  exact absurd hlt.2 (by simp)

theorem queries (x0 x1 : FVec Ideal Cert.Pre_finite.S2x6x8192x128 .bf16) (x2 : FVec Ideal Cert.Pre_finite.S2x6x32x64x256 .bf16)
    (h : (Cert.Pre_finite.fn (F := Ideal) x0 x1 x2).1 = fun _ => 1#1) : Attn.Reals (s := Cert.Pre_finite.S2x6x8192x128) x0 :=
  fun i => real_of_lt _ (congrFun h i)

theorem keys (x0 x1 : FVec Ideal Cert.Pre_finite.S2x6x8192x128 .bf16) (x2 : FVec Ideal Cert.Pre_finite.S2x6x32x64x256 .bf16)
    (h : (Cert.Pre_finite.fn (F := Ideal) x0 x1 x2).2 = fun _ => 1#1) : Attn.Reals (s := Cert.Pre_finite.S2x6x8192x128) x1 :=
  fun i => real_of_lt _ (congrFun h i)

/-- The kernel and the reference end at the same rows. -/
theorem algebraic : Cert.algebraic_MlaIdeal_MlaRefIdeal_pre_finite := by
  intro m ρ m' ρ' hfin hagree
  refine ⟨fun c => (Cert.MlaIdeal.Gen.dats m 0 c).arrAt 3 Cert.MlaIdeal.cfg0.N, Cert.MlaIdeal.Value.run_blocks (F := Ideal) m ρ, ?_⟩
  refine (θ_run Cert.MlaRefIdeal.defs _ _).mono (fun r h c => ⟨(h c).1.trans ?_, (h c).2⟩) (Cert.MlaRefIdeal.Value.run (F := Ideal) m' ρ')
  show _ = (Cert.MlaIdeal.Gen.dats m 0 c).arrAt 3 Cert.MlaIdeal.cfg0.N
  have hq := queries _ _ _ (hfin c).1
  have hk := keys _ _ _ (hfin c).2
  rw [Cert.MlaRefIdeal.Read.val_main_v30_eq, Cert.MlaIdeal.Hand.final m c hq hk, (hagree c).1, (hagree c).2.1, (hagree c).2.2]
  funext i
  obtain ⟨b, s, j, rfl⟩ : ∃ (b : Fin 2) (s : Fin 8192) (j : Fin 384), i = ix3 b s j := ⟨i 0, i 1, i 2, eq_ix3 i⟩
  have hj : j.val < 384 := j.isLt
  have hd : j.val = 64 * (⟨j.val / 64, by omega⟩ : Fin 6).val + (⟨j.val % 64, Nat.mod_lt _ (by norm_num)⟩ : Fin 64).val :=
    (Nat.div_add_mod j.val 64).symm
  exact (Cert.MlaRefIdeal.Hand.row _ _ _ b ⟨j.val / 64, by omega⟩ s hq hk j ⟨j.val % 64, Nat.mod_lt _ (by norm_num)⟩ hd).trans
    (Cert.MlaIdeal.Hand.attended_at _ _ _ b s j ⟨j.val / 64, by omega⟩ ⟨j.val % 64, Nat.mod_lt _ (by norm_num)⟩ hd).symm

end Cert.Proof.MlaClaims

end
-- ==== Proof.LastRows.lean ====
/-
The values the second feed-forward kernel stores, read at a row and a column: the rows after the
mixer's projection, the normed rows, the gated units chunk by chunk, and the final normed row.
-/
module

public import proofs.«01_k».proof.Proof.Gen.LastIdeal.Skeleton
public import proofs.«01_k».proof.Proof.Chunks
public import Idealize.ShloMosaic.Lib.Pointwise

@[expose] public section

set_option maxRecDepth 16384

noncomputable section

namespace Cert.LastIdeal.Hand

open Cert.LastIdeal Cert.LastIdeal.Gen Idealize.ShloMosaic

section mixer

variable (x : Vec Ideal S1024x1024 .f32) (o₁ o₂ o₃ o₀ : Vec Ideal S1024x384 .bf16) (w₀ w₁ : Vec Ideal S1x384x1024 .bf16)
  (o₄ : Vec Ideal S1024x256 .bf16) (w₂ : Vec Ideal S1x256x1024 .bf16)

theorem mixed (W : Fin 1024 → Fin 1024 → EReal) (h₀ : ∀ (k : Fin 384) n, w₀ (ix3 0 k n) = W ⟨k, by omega⟩ n)
    (h₁ : ∀ (k : Fin 384) n, w₁ (ix3 0 k n) = W ⟨384 + k, by omega⟩ n) (h₂ : ∀ (k : Fin 256) n, w₂ (ix3 0 k n) = W ⟨768 + k, by omega⟩ n)
    (r n : Fin 1024) :
    k0_pay2 x o₁ o₂ o₃ o₀ w₀ w₁ o₄ w₂ (ix2 r n) = x (ix2 r n) + Rows.mix (fun k => o₀ (ix2 r k)) (fun k => o₁ (ix2 r k) + o₂ (ix2 r k) + o₃ (ix2 r k))
      (fun k => o₄ (ix2 r k)) W n := by
  unfold Rows.mix
  simp only [← h₀, ← h₁, ← h₂]
  pointwise [k0_pay2]

theorem normed (g : Vec Ideal S1x1x1024 .f32) (r k : Fin 1024) :
    k0_pay6 (k0_pay2 x o₁ o₂ o₃ o₀ w₀ w₁ o₄ w₂) (k0_pay3 g) (k0_pay4 x o₁ o₂ o₃ o₀ w₀ w₁ o₄ w₂) k0_pay5 (ix2 r k)
      = Rows.rms (fun j => k0_pay2 x o₁ o₂ o₃ o₀ w₀ w₁ o₄ w₂ (ix2 r j)) (fun j => g (ix3 0 0 j)) k := by
  unfold k0_pay4
  generalize k0_pay2 x o₁ o₂ o₃ o₀ w₀ w₁ o₄ w₂ = y
  pointwise [k0_pay6, k0_pay3, k0_pay5, Rows.rms]

end mixer

section chunks

variable (y : FVec Ideal S1024x1024 .f32) (g : FVec Ideal S1x1024 .f32) (v u : FVec Ideal S1024x1 .f32) (h : FVec Ideal S1024x1024 .bf16)
  (a b : Vec Ideal S1x1024x256 .bf16)

theorem gated7 : Chunks.Gated (k0_pay6 y g v u) a b (k0_pay7 y g v u a b) := by
  intro r f; unfold k0_pay7; generalize k0_pay6 y g v u = h; pointwise [Rows.unit]

theorem gated8 : Chunks.Gated (k0_pay6 y g v u) a b (k0_pay8 y g v u a b) := by
  intro r f; unfold k0_pay8; generalize k0_pay6 y g v u = h; pointwise [Rows.unit]

theorem gated9 : Chunks.Gated h a b (k0_pay9 h a b) := by
  intro r f; pointwise [k0_pay9, Rows.unit]

theorem gated10 : Chunks.Gated h a b (k0_pay10 h a b) := by
  intro r f; pointwise [k0_pay10, Rows.unit]

theorem gated14 : Chunks.Gated h a b (k0_pay14 h a b) := by
  intro r f; pointwise [k0_pay14, Rows.unit]

theorem gated15 : Chunks.Gated h a b (k0_pay15 h a b) := by
  intro r f; pointwise [k0_pay15, Rows.unit]

theorem gated16 : Chunks.Gated h a b (k0_pay16 h a b) := by
  intro r f; pointwise [k0_pay16, Rows.unit]

theorem gated17 : Chunks.Gated h a b (k0_pay17 h a b) := by
  intro r f; pointwise [k0_pay17, Rows.unit]

theorem gated21 : Chunks.Gated h a b (k0_pay21 h a b) := by
  intro r f; pointwise [k0_pay21, Rows.unit]

theorem gated13 : Chunks.Gated h a b (k0_pay13 (k0_pay11 h a) (k0_pay12 h b)) := by
  intro r f; pointwise [k0_pay11, k0_pay12, k0_pay13, Rows.unit]

theorem gated20 : Chunks.Gated h a b (k0_pay20 (k0_pay18 h a) (k0_pay19 h b)) := by
  intro r f; pointwise [k0_pay18, k0_pay19, k0_pay20, Rows.unit]

end chunks

theorem summed (y : FVec Ideal S1024x1024 .f32) (w : Vec Ideal S1024x2816 .bf16) (d : Vec Ideal S1x2816x1024 .bf16) (r n : Fin 1024) :
    k0_pay22 y w d (ix2 r n) = y (ix2 r n) + Ideal.ofBits .f32 0x3F000000#32 * ∑ f : Fin 2816, w (ix2 r f) * d (ix3 0 f n) := by
  pointwise [k0_pay22]

theorem last (y : FVec Ideal S1024x1024 .f32) (w : Vec Ideal S1024x2816 .bf16) (d : Vec Ideal S1x2816x1024 .bf16) (q : Vec Ideal S1x1024 .f32) (r n : Fin 1024) :
    k0_pay1 (k0_pay22 y w d) (k0_pay23 q) (k0_pay24 y w d) (Scalar.ofBits .f32 897988541#32) (ix2 r n)
      = Rows.rms (fun j => k0_pay22 y w d (ix2 r j)) (fun j => q (ix2 0 j)) n := by
  unfold k0_pay24
  generalize k0_pay22 y w d = z
  pointwise [k0_pay1, k0_pay23, Rows.rms]

/-- The final row, once the gated units `w` of the row and the normed rows `h` are known. -/
theorem row (y : FVec Ideal S1024x1024 .f32) (h : FVec Ideal S1024x1024 .bf16) (g : Vec Ideal S1x1x1024 .f32) (a b : Vec Ideal S1x1024x2816 .bf16)
    (d : Vec Ideal S1x2816x1024 .bf16) (q : Vec Ideal S1x1024 .f32) (w : Vec Ideal S1024x2816 .bf16) (Y : Fin 1024 → EReal) (r n : Fin 1024)
    (hY : ∀ k, y (ix2 r k) = Y k)
    (hh : ∀ k, h (ix2 r k) = Rows.rms (fun j => y (ix2 r j)) (fun j => g (ix3 0 0 j)) k)
    (hw : ∀ f : Fin 2816, w (ix2 r f) = Rows.unit (fun k => h (ix2 r k)) (fun k => a (ix3 0 k f)) (fun k => b (ix3 0 k f))) :
    k0_pay1 (k0_pay22 y w d) (k0_pay23 q) (k0_pay24 y w d) (Scalar.ofBits .f32 897988541#32) (ix2 r n)
      = Rows.rms (Rows.ffn Y (fun k => g (ix3 0 0 k)) (fun k f => a (ix3 0 k f)) (fun k f => b (ix3 0 k f)) (fun f n => d (ix3 0 f n)))
        (fun j => q (ix2 0 j)) n := by
  rw [last]
  congr 1
  funext j
  rw [summed, hY]
  unfold Rows.ffn
  refine congrArg (_ + _ * ·) (Finset.sum_congr rfl fun f _ => ?_)
  rw [hw f, show (fun k => h (ix2 r k)) = Rows.rms Y (fun j => g (ix3 0 0 j)) from funext fun k => by
    rw [hh]; exact congrFun (congrArg (fun z => Rows.rms z _) (funext hY)) k]

end Cert.LastIdeal.Hand
-- ==== Proof.LastBlock.lean ====
/-
The block the second feed-forward kernel writes at one grid point, read at a row and a column.
-/
module

public import proofs.«01_k».proof.Proof.Gen.LastIdeal.Value
public import proofs.«01_k».proof.Proof.LastRows
public import Idealize.ShloMosaic.Lib.Pipeline.ValueKit.Acc

@[expose] public section

set_option maxRecDepth 16384

noncomputable section

namespace Cert.LastIdeal.Hand

open Cert.LastIdeal Cert.LastIdeal.Gen Idealize.ShloMosaic Idealize.ShloMosaic.TcCoe Idealize.SL.Sem

variable (m : (ℓ : Loc nD τ sig) → Buf (Elt Ideal) ℓ)

/-- A row after the mixer's projection, from the blocks of one grid point. -/
def mixedRow (c : Dev nD) (t : Fin cfg0.N) (r : Fin 1024) : Fin 1024 → EReal :=
  Rows.after (fun k => iblk m c 0 t (ix2 r k)) (fun k => iblk m c 6 t (ix2 r k)) (fun k => iblk m c 7 t (ix2 r k))
    (fun k => iblk m c 8 t (ix2 r k)) (fun k => iblk m c 9 t (ix2 r k)) (fun k => iblk m c 10 t (ix2 r k))
    (fun k n => iblk m c 11 t (ix3 0 k n))

theorem block (c : Dev nD) (t : Fin cfg0.N) (r n : Fin 1024) :
    outsAt0 m c t (ix2 r n) = Rows.rms (Rows.ffn (mixedRow m c t r) (fun k => iblk m c 1 t (ix3 0 0 k))
      (fun k f => iblk m c 2 t (ix3 0 k f)) (fun k f => iblk m c 3 t (ix3 0 k f)) (fun f n => iblk m c 4 t (ix3 0 f n)))
      (fun j => iblk m c 5 t (ix2 0 j)) n := by
  unfold outsAt0
  frame_out
  refine row _ _ _ (iblk m c 2 t) (iblk m c 3 t) _ _ _ _ r n (fun k => ?_) (fun k => normed _ _ _ _ _ _ _ _ _ _ r k) fun f => ?_
  · refine (mixed _ _ _ _ _ _ _ _ _ (fun k n => iblk m c 11 t (ix3 0 k n)) ?_ ?_ ?_ r k).trans rfl
    · intro k n; refine View.ld_unit_apply_of _ _ _ _ _ _ fun a => ?_
      match a with
      | ⟨0, _⟩ => rfl
      | ⟨1, _⟩ => exact (Nat.zero_add _).symm
      | ⟨2, _⟩ => exact (Nat.zero_add _).symm
    · intro k n; refine View.ld_unit_apply_of _ _ _ _ _ _ fun a => ?_
      match a with
      | ⟨0, _⟩ => rfl
      | ⟨1, _⟩ => rfl
      | ⟨2, _⟩ => exact (Nat.zero_add _).symm
    · intro k n; refine View.ld_unit_apply_of _ _ _ _ _ _ fun a => ?_
      match a with
      | ⟨0, _⟩ => rfl
      | ⟨1, _⟩ => rfl
      | ⟨2, _⟩ => exact (Nat.zero_add _).symm
  rw [View.readCov_eq_canon_ld]
  swap
  · exact View.cover_of_tiled_head _ _ _ rfl
  refine (View.ld_unit_apply_of _ _ _ _ _ (ix2 r f) fun a => ?_).trans ?_
  · match a with
    | ⟨0, _⟩ => exact (Nat.zero_add _).symm
    | ⟨1, _⟩ => exact (Nat.zero_add _).symm
  refine View.canon_eq_of_allAt _ _ _ (View.cover_of_tiled_head _ _ _ rfl _) ?_
  refine View.allAt_cons_unit _ _ _ _ _ (Chunks.tile _ (iblk m c 2 t) (iblk m c 3 t) _ _ _ _ (gated21 _ _ _) r f) ?_
  refine View.allAt_cons_unit _ _ _ _ _ (Chunks.tile _ (iblk m c 2 t) (iblk m c 3 t) _ _ _ _ (gated20 _ _ _) r f) ?_
  refine View.allAt_cons_unit _ _ _ _ _ (Chunks.tile _ (iblk m c 2 t) (iblk m c 3 t) _ _ _ _ (gated17 _ _ _) r f) ?_
  refine View.allAt_cons_unit _ _ _ _ _ (Chunks.tile _ (iblk m c 2 t) (iblk m c 3 t) _ _ _ _ (gated16 _ _ _) r f) ?_
  refine View.allAt_cons_unit _ _ _ _ _ (Chunks.tile _ (iblk m c 2 t) (iblk m c 3 t) _ _ _ _ (gated15 _ _ _) r f) ?_
  refine View.allAt_cons_unit _ _ _ _ _ (Chunks.tile _ (iblk m c 2 t) (iblk m c 3 t) _ _ _ _ (gated14 _ _ _) r f) ?_
  refine View.allAt_cons_unit _ _ _ _ _ (Chunks.tile _ (iblk m c 2 t) (iblk m c 3 t) _ _ _ _ (gated13 _ _ _) r f) ?_
  refine View.allAt_cons_unit _ _ _ _ _ (Chunks.tile _ (iblk m c 2 t) (iblk m c 3 t) _ _ _ _ (gated10 _ _ _) r f) ?_
  refine View.allAt_cons_unit _ _ _ _ _ (Chunks.tile _ (iblk m c 2 t) (iblk m c 3 t) _ _ _ _ (gated9 _ _ _) r f) ?_
  refine View.allAt_cons_unit _ _ _ _ _ (Chunks.tile _ (iblk m c 2 t) (iblk m c 3 t) _ _ _ _ (gated8 _ _ _ _ _ _) r f) ?_
  refine View.allAt_cons_unit _ _ _ _ _ (Chunks.tile _ (iblk m c 2 t) (iblk m c 3 t) _ _ _ _ (gated7 _ _ _ _ _ _) r f) ?_
  exact View.allAt_nil _ _

end Cert.LastIdeal.Hand
-- ==== Proof.LastValue.lean ====
/-
The array the last call leaves: every row of the block, as a function of the arguments.
-/
module

public import proofs.«01_k».proof.Proof.LastBlock
public import Idealize.ShloMosaic.Lib.Pipeline.ValueKit

@[expose] public section

set_option maxRecDepth 16384

noncomputable section

namespace Cert.LastIdeal.Hand

open Cert.LastIdeal Cert.LastIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The rows of the result, from the program's arguments. -/
def whole (x : S16384x1024.Idx → EReal) (o₀ o₁ o₂ o₃ : S16384x384.Idx → EReal) (o₄ : S16384x256.Idx → EReal) (w : S2x1024x1024.Idx → EReal)
    (g : S2x1024.Idx → EReal) (a b : S2x1024x2816.Idx → EReal) (d : S2x2816x1024.Idx → EReal) (q : S1024.Idx → EReal)
    (i : S16384x1024.Idx) : EReal :=
  Rows.rms (Rows.ffn (Rows.after (fun k => x (ix2 (i 0) k)) (fun k => o₀ (ix2 (i 0) k)) (fun k => o₁ (ix2 (i 0) k)) (fun k => o₂ (ix2 (i 0) k))
    (fun k => o₃ (ix2 (i 0) k)) (fun k => o₄ (ix2 (i 0) k)) (fun k n => w (ix3 1 k n)))
    (fun k => g (ix2 1 k)) (fun k f => a (ix3 1 k f)) (fun k f => b (ix3 1 k f)) (fun f n => d (ix3 1 f n))) (fun j => q (ix1 j)) (i 1)

theorem V_gain (c : Dev nD) (u : Fin 2) (v : Fin 1) (k : Fin 1024) :
    V m c main_v0 (ix3 u v k) = m ((c : Thread nD τ).loc main_arg7) (ix2 u k) := by
  have e : V m c main_v0 = broadcastInDim S2x1x1024 ![0, 2] bcast_S2x1024_S2x1x1024_0_2 (m ((c : Thread nD τ).loc main_arg7)) := by
    unfold V
    simp only [hostOps0, List.flatten_cons, List.flatten_nil, List.append_nil, List.cons_append, List.nil_append]
    after_results_simp
  rw [e]
  pointwise

theorem V_gate (c : Dev nD) (i : S2x1024x2816.Idx) : V m c main_v1 i = m ((c : Thread nD τ).loc main_arg8) i := by
  have e : V m c main_v1 = truncf (F := Ideal) .bf16 (m ((c : Thread nD τ).loc main_arg8)) bitsLt_bf16_f32 := by
    unfold V
    simp only [hostOps0, List.flatten_cons, List.flatten_nil, List.append_nil, List.cons_append, List.nil_append]
    after_results_simp
  rw [e]; rfl

theorem V_up (c : Dev nD) (i : S2x1024x2816.Idx) : V m c main_v2 i = m ((c : Thread nD τ).loc main_arg9) i := by
  have e : V m c main_v2 = truncf (F := Ideal) .bf16 (m ((c : Thread nD τ).loc main_arg9)) bitsLt_bf16_f32 := by
    unfold V
    simp only [hostOps0, List.flatten_cons, List.flatten_nil, List.append_nil, List.cons_append, List.nil_append]
    after_results_simp
  rw [e]; rfl

theorem V_down (c : Dev nD) (i : S2x2816x1024.Idx) : V m c main_v3 i = m ((c : Thread nD τ).loc main_arg10) i := by
  have e : V m c main_v3 = truncf (F := Ideal) .bf16 (m ((c : Thread nD τ).loc main_arg10)) bitsLt_bf16_f32 := by
    unfold V
    simp only [hostOps0, List.flatten_cons, List.flatten_nil, List.append_nil, List.cons_append, List.nil_append]
    after_results_simp
  rw [e]; rfl

theorem V_final (c : Dev nD) (u : Fin 1) (k : Fin 1024) : V m c main_v4 (ix2 u k) = m ((c : Thread nD τ).loc main_arg11) (ix1 k) := by
  have e : V m c main_v4 = shapeCast S1x1024 (m ((c : Thread nD τ).loc main_arg11)) shapeCasts_S1024_S1x1024 := by
    unfold V
    simp only [hostOps0, List.flatten_cons, List.flatten_nil, List.append_nil, List.cons_append, List.nil_append]
    after_results_simp
    rfl
  rw [e]
  pointwise

theorem V_out (c : Dev nD) (i : S2x1024x1024.Idx) : V m c main_v5 i = m ((c : Thread nD τ).loc main_arg6) i := by
  have e : V m c main_v5 = truncf (F := Ideal) .bf16 (m ((c : Thread nD τ).loc main_arg6)) bitsLt_bf16_f32 := by
    unfold V
    simp only [hostOps0, List.flatten_cons, List.flatten_nil, List.append_nil, List.cons_append, List.nil_append]
    after_results_simp
  rw [e]; rfl

theorem e0 : ∀ t : Fin cfg0.N, win0_0.index t = ![t.val, 0] := (by decide +kernel : ∀ t : Fin grid0.N, _)
theorem e1 : ∀ t : Fin cfg0.N, win0_1.index t = ![1, 0, 0] := (by decide +kernel : ∀ t : Fin grid0.N, _)
theorem e2 : ∀ t : Fin cfg0.N, win0_2.index t = ![1, 0, 0] := (by decide +kernel : ∀ t : Fin grid0.N, _)
theorem e3 : ∀ t : Fin cfg0.N, win0_3.index t = ![1, 0, 0] := (by decide +kernel : ∀ t : Fin grid0.N, _)
theorem e4 : ∀ t : Fin cfg0.N, win0_4.index t = ![1, 0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![t.val, 0] := (by decide +kernel : ∀ t : Fin grid0.N, _)
theorem e10 : ∀ t : Fin cfg0.N, win0_10.index t = ![t.val, 0] := (by decide +kernel : ∀ t : Fin grid0.N, _)
theorem e11 : ∀ t : Fin cfg0.N, win0_11.index t = ![1, 0, 0] := (by decide +kernel : ∀ t : Fin grid0.N, _)
theorem e12 : ∀ t : Fin cfg0.N, win0_12.index t = ![t.val, 0] := (by decide +kernel : ∀ t : Fin grid0.N, _)

theorem read0 (c : Dev nD) (t : Fin cfg0.N) (r n : Fin 1024) (k : Fin 1024) :
    iblk m c 0 t (ix2 r k) = m ((c : Thread nD τ).loc main_arg0) (ix2 ((win0_12.blk t).view.emb (ix2 r n) 0) k) := by
  blk_simp [iblk]
  rw [V_main_arg0]
  congr 1
  blk_ext [e0, e12]

theorem read6 (c : Dev nD) (t : Fin cfg0.N) (r n : Fin 1024) (k : Fin 384) :
    iblk m c 6 t (ix2 r k) = m ((c : Thread nD τ).loc main_arg1) (ix2 ((win0_12.blk t).view.emb (ix2 r n) 0) k) := by
  blk_simp [iblk]
  rw [V_main_arg1]
  congr 1
  blk_ext [e6, e12]

theorem read7 (c : Dev nD) (t : Fin cfg0.N) (r n : Fin 1024) (k : Fin 384) :
    iblk m c 7 t (ix2 r k) = m ((c : Thread nD τ).loc main_arg2) (ix2 ((win0_12.blk t).view.emb (ix2 r n) 0) k) := by
  blk_simp [iblk]
  rw [V_main_arg2]
  congr 1
  blk_ext [e7, e12]

theorem read8 (c : Dev nD) (t : Fin cfg0.N) (r n : Fin 1024) (k : Fin 384) :
    iblk m c 8 t (ix2 r k) = m ((c : Thread nD τ).loc main_arg3) (ix2 ((win0_12.blk t).view.emb (ix2 r n) 0) k) := by
  blk_simp [iblk]
  rw [V_main_arg3]
  congr 1
  blk_ext [e8, e12]

theorem read9 (c : Dev nD) (t : Fin cfg0.N) (r n : Fin 1024) (k : Fin 384) :
    iblk m c 9 t (ix2 r k) = m ((c : Thread nD τ).loc main_arg4) (ix2 ((win0_12.blk t).view.emb (ix2 r n) 0) k) := by
  blk_simp [iblk]
  rw [V_main_arg4]
  congr 1
  blk_ext [e9, e12]

theorem read10 (c : Dev nD) (t : Fin cfg0.N) (r n : Fin 1024) (k : Fin 256) :
    iblk m c 10 t (ix2 r k) = m ((c : Thread nD τ).loc main_arg5) (ix2 ((win0_12.blk t).view.emb (ix2 r n) 0) k) := by
  blk_simp [iblk]
  rw [V_main_arg5]
  congr 1
  blk_ext [e10, e12]

theorem read2 (c : Dev nD) (t : Fin cfg0.N) (k : Fin 1024) (f : Fin 2816) :
    iblk m c 2 t (ix3 0 k f) = m ((c : Thread nD τ).loc main_arg8) (ix3 1 k f) := by
  blk_simp [iblk]
  rw [V_gate]
  congr 1
  blk_ext [e2]

theorem read3 (c : Dev nD) (t : Fin cfg0.N) (k : Fin 1024) (f : Fin 2816) :
    iblk m c 3 t (ix3 0 k f) = m ((c : Thread nD τ).loc main_arg9) (ix3 1 k f) := by
  blk_simp [iblk]
  rw [V_up]
  congr 1
  blk_ext [e3]

theorem read4 (c : Dev nD) (t : Fin cfg0.N) (k : Fin 2816) (f : Fin 1024) :
    iblk m c 4 t (ix3 0 k f) = m ((c : Thread nD τ).loc main_arg10) (ix3 1 k f) := by
  blk_simp [iblk]
  rw [V_down]
  congr 1
  blk_ext [e4]

theorem read11 (c : Dev nD) (t : Fin cfg0.N) (k : Fin 1024) (f : Fin 1024) :
    iblk m c 11 t (ix3 0 k f) = m ((c : Thread nD τ).loc main_arg6) (ix3 1 k f) := by
  blk_simp [iblk]
  rw [V_out]
  congr 1
  blk_ext [e11]

theorem read1 (c : Dev nD) (t : Fin cfg0.N) (k : Fin 1024) :
    iblk m c 1 t (ix3 0 0 k) = m ((c : Thread nD τ).loc main_arg7) (ix2 1 k) := by
  blk_simp [iblk]
  refine (congrArg (V m c main_v0) ?_).trans (V_gain m c 1 0 k)
  blk_ext [e1]

theorem read5 (c : Dev nD) (t : Fin cfg0.N) (k : Fin 1024) :
    iblk m c 5 t (ix2 0 k) = m ((c : Thread nD τ).loc main_arg11) (ix1 k) := by
  blk_simp [iblk]
  refine (congrArg (V m c main_v4) ?_).trans (V_final m c 0 k)
  blk_ext [e5]

theorem final (c : Dev nD) : (dats m 0 c).arrAt 12 cfg0.N = whole (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) := by
  refine (dats m 0 c).arrAt_eq_of_covers 12 _ (by decide +kernel) fun t hf y => ?_
  blk_simp
  rw [after0_12]
  obtain ⟨r, n, rfl⟩ : ∃ (r n : Fin 1024), y = ix2 r n := ⟨y 0, y 1, eq_ix2 y⟩
  rw [block]
  unfold whole mixedRow
  have hn : (win0_12.blk t).view.emb (ix2 r n) 1 = n := Fin.ext (by blk_simp [e12])
  rw [hn]
  congr 1
  · congr 1
    · congr 1
      · exact funext fun k => read0 m c t r n k
      · exact funext fun k => read6 m c t r n k
      · exact funext fun k => read7 m c t r n k
      · exact funext fun k => read8 m c t r n k
      · exact funext fun k => read9 m c t r n k
      · exact funext fun k => read10 m c t r n k
      · exact funext fun k => funext fun n => read11 m c t k n
    · exact funext fun k => read1 m c t k
    · exact funext fun k => funext fun f => read2 m c t k f
    · exact funext fun k => funext fun f => read3 m c t k f
    · exact funext fun f => funext fun k => read4 m c t f k
  · exact funext fun k => read5 m c t k

end Cert.LastIdeal.Hand
-- ==== Proof.LastRefRow.lean ====
/-
The reference of the last call read at a row and a column.
-/
module

public import proofs.«01_k».proof.Proof.Gen.LastRefIdeal.Read
public import proofs.«01_k».proof.Proof.Rows
public import Idealize.ShloMosaic.Lib.Pointwise

@[expose] public section

set_option maxRecDepth 16384

noncomputable section

namespace Cert.LastRefIdeal.Hand

open Cert.LastRefIdeal Cert.LastRefIdeal.Gen Cert.LastRefIdeal.Read Idealize.ShloMosaic

variable (x : (⟨S16384x1024, .f32⟩ : BufTy).Contents (Elt Ideal)) (o₀ o₁ o₂ o₃ : (⟨S16384x384, .bf16⟩ : BufTy).Contents (Elt Ideal))
  (o₄ : (⟨S16384x256, .bf16⟩ : BufTy).Contents (Elt Ideal)) (w : (⟨S2x1024x1024, .f32⟩ : BufTy).Contents (Elt Ideal))
  (g : (⟨S2x1024, .f32⟩ : BufTy).Contents (Elt Ideal))
  (a b : (⟨S2x1024x2816, .f32⟩ : BufTy).Contents (Elt Ideal)) (d : (⟨S2x2816x1024, .f32⟩ : BufTy).Contents (Elt Ideal))
  (q : (⟨S1024, .f32⟩ : BufTy).Contents (Elt Ideal))

/-- A sum over 1024 columns is the sum over its first 384, its next 384 and its last 256. -/
theorem sum_pieces (f : Fin 1024 → EReal) :
    ∑ k, f k = (∑ k : Fin 384, f ⟨k, by omega⟩) + (∑ k : Fin 384, f ⟨384 + k, by omega⟩) + ∑ k : Fin 256, f ⟨768 + k, by omega⟩ := by
  rw [show (∑ k, f k) = ∑ k : Fin (384 + 384 + 256), f k from rfl, Fin.sum_univ_add, Fin.sum_univ_add]
  rfl

theorem first (r : Fin 16384) (k : Fin 384) : val_main_v7 (F := Ideal) o₀ o₁ o₂ o₃ o₄ (ix2 r ⟨k, by omega⟩) = o₀ (ix2 r k) := by
  pointwise [val_main_v7, val_main_v0]

theorem second (r : Fin 16384) (k : Fin 384) :
    val_main_v7 (F := Ideal) o₀ o₁ o₂ o₃ o₄ (ix2 r ⟨384 + k, by omega⟩) = o₁ (ix2 r k) + o₂ (ix2 r k) + o₃ (ix2 r k) := by
  pointwise [val_main_v7, val_main_v6, val_main_v5, val_main_v3, val_main_v2, val_main_v1]

theorem third (r : Fin 16384) (k : Fin 256) : val_main_v7 (F := Ideal) o₀ o₁ o₂ o₃ o₄ (ix2 r ⟨768 + k, by omega⟩) = o₄ (ix2 r k) := by
  pointwise [val_main_v7, val_main_v4]
  rw [dif_neg (by omega), dif_neg (by omega)]
  exact congrArg (fun u => o₄ (ix2 r u)) (Fin.ext (show 768 + k.val - 384 - 384 = k.val by omega))

theorem mixed (r : Fin 16384) (n : Fin 1024) :
    val_main_v11 (F := Ideal) x o₀ o₁ o₂ o₃ o₄ w (ix2 r n)
      = Rows.after (fun k => x (ix2 r k)) (fun k => o₀ (ix2 r k)) (fun k => o₁ (ix2 r k)) (fun k => o₂ (ix2 r k)) (fun k => o₃ (ix2 r k))
        (fun k => o₄ (ix2 r k)) (fun k n => w (ix3 1 k n)) n := by
  have h₀ := first o₀ o₁ o₂ o₃ o₄ r
  have h₁ := second o₀ o₁ o₂ o₃ o₄ r
  have h₂ := third o₀ o₁ o₂ o₃ o₄ r
  unfold val_main_v11 val_main_v10 Rows.after Rows.mix
  generalize val_main_v7 (F := Ideal) o₀ o₁ o₂ o₃ o₄ = y at h₀ h₁ h₂
  simp only [← h₀, ← h₁, ← h₂]
  refine Eq.trans (b := x (ix2 r n) + ∑ k : Fin 1024, y (ix2 r k) * w (ix3 1 k n)) ?_ ?_
  · pointwise [val_main_v9, val_main_v8]
  · rw [sum_pieces]

theorem normed (r : Fin 16384) (k : Fin 1024) :
    val_main_v26 (F := Ideal) x o₀ o₁ o₂ o₃ o₄ w g (ix2 r k)
      = Rows.rms (fun j => val_main_v11 (F := Ideal) x o₀ o₁ o₂ o₃ o₄ w (ix2 r j)) (fun j => g (ix2 1 j)) k := by
  unfold val_main_v26 val_main_v23 val_main_v22 val_main_v21 val_main_v20 val_main_v18 val_main_v16 val_main_v15 val_main_v14
  generalize val_main_v11 (F := Ideal) x o₀ o₁ o₂ o₃ o₄ w = y
  pointwise [val_main_v25, val_main_v24, val_main_v13, val_main_v12, val_main_v19, val_main_v17, val_main_cst, val_main_cst_0, val_main_cst_1, Rows.rms]

theorem gated (r : Fin 16384) (f : Fin 2816) :
    val_main_v36 (F := Ideal) x o₀ o₁ o₂ o₃ o₄ w g a b (ix2 r f)
      = Rows.unit (fun k => val_main_v26 (F := Ideal) x o₀ o₁ o₂ o₃ o₄ w g (ix2 r k)) (fun k => a (ix3 1 k f)) (fun k => b (ix3 1 k f)) := by
  unfold val_main_v36 val_main_v35 val_main_v34 val_main_call0_v5 val_main_call0_v3 val_main_call0_v1 val_main_call0_v0 val_main_v33
  generalize val_main_v26 (F := Ideal) x o₀ o₁ o₂ o₃ o₄ w g = h
  pointwise [val_main_call0_v4, val_main_call0_cst_0, val_main_call0_v2, val_main_call0_cst, val_main_v30, val_main_v29, val_main_v28, val_main_v27,
    Rows.unit, Ideal.logistic]

theorem summed (r : Fin 16384) (n : Fin 1024) :
    val_main_v40 (F := Ideal) x o₀ o₁ o₂ o₃ o₄ w g a b d (ix2 r n)
      = Rows.ffn (fun k => val_main_v11 (F := Ideal) x o₀ o₁ o₂ o₃ o₄ w (ix2 r k)) (fun k => g (ix2 1 k)) (fun k f => a (ix3 1 k f))
        (fun k f => b (ix3 1 k f)) (fun f n => d (ix3 1 f n)) n := by
  have hn := funext (normed x o₀ o₁ o₂ o₃ o₄ w g r)
  have hg := fun f => (gated x o₀ o₁ o₂ o₃ o₄ w g a b r f).trans (by rw [hn])
  unfold val_main_v40 val_main_v39 val_main_v38 val_main_cst_2 val_main_v37 Rows.ffn
  generalize val_main_v36 (F := Ideal) x o₀ o₁ o₂ o₃ o₄ w g a b = v at hg
  simp only [← hg]
  generalize val_main_v11 (F := Ideal) x o₀ o₁ o₂ o₃ o₄ w = y
  pointwise [val_main_v32, val_main_v31]

theorem last (r : Fin 16384) (n : Fin 1024) :
    val_main_v53 (F := Ideal) x o₀ o₁ o₂ o₃ o₄ w g a b d q (ix2 r n)
      = Rows.rms (fun j => val_main_v40 (F := Ideal) x o₀ o₁ o₂ o₃ o₄ w g a b d (ix2 r j)) (fun j => q (ix1 j)) n := by
  unfold val_main_v53 val_main_v50 val_main_v49 val_main_v48 val_main_v47 val_main_v45 val_main_v43 val_main_v42 val_main_v41
  generalize val_main_v40 (F := Ideal) x o₀ o₁ o₂ o₃ o₄ w g a b d = y
  pointwise [val_main_v52, val_main_v51, val_main_v46, val_main_v44, val_main_cst_3, val_main_cst_4, val_main_cst_5, Rows.rms]

theorem row (r : Fin 16384) (n : Fin 1024) :
    val_main_v53 (F := Ideal) x o₀ o₁ o₂ o₃ o₄ w g a b d q (ix2 r n)
      = Rows.rms (Rows.ffn (Rows.after (fun k => x (ix2 r k)) (fun k => o₀ (ix2 r k)) (fun k => o₁ (ix2 r k)) (fun k => o₂ (ix2 r k))
          (fun k => o₃ (ix2 r k)) (fun k => o₄ (ix2 r k)) (fun k n => w (ix3 1 k n)))
          (fun k => g (ix2 1 k)) (fun k f => a (ix3 1 k f)) (fun k f => b (ix3 1 k f)) (fun f n => d (ix3 1 f n))) (fun j => q (ix1 j)) n := by
  rw [last, funext (summed x o₀ o₁ o₂ o₃ o₄ w g a b d r), funext (mixed x o₀ o₁ o₂ o₃ o₄ w r)]

end Cert.LastRefIdeal.Hand
-- ==== Proof.LastClaims.lean ====
/-
The claims about the last call: its runs leave the arguments alone, and on the
extended reals the kernel's rows are the reference's rows.
-/
module

public import proofs.«01_k».proof.Defs
public import proofs.«01_k».proof.Proof.Gen.Last
public import proofs.«01_k».proof.Proof.Gen.Last.Frame
public import proofs.«01_k».proof.Proof.Gen.LastIdeal
public import proofs.«01_k».proof.Proof.LastValue
public import proofs.«01_k».proof.Proof.Gen.LastRefIdeal
public import proofs.«01_k».proof.Proof.LastRefRow
public import Idealize.ShloMosaic.Lib.Quiescent

@[expose] public section

noncomputable section

namespace Cert.Proof.LastClaims

open Idealize.ShloMosaic Idealize.ShloMosaic.TcCoe Idealize.SL.Sem

theorem frame : Cert.quiescent_Last := fun m ρ _ => Cert.Last.Gen.frame m ρ
theorem frameIdeal : Cert.quiescent_LastIdeal := fun m ρ _ => Cert.LastIdeal.Gen.frame m ρ

theorem frameRef : Cert.quiescent_LastRefIdeal := fun m ρ _ =>
  (θ_run Cert.LastRefIdeal.defs _ _).mono (fun r h => ⟨fun c => (h c).2, sem_eq_zero_of_no_sems (by decide) r.2⟩)
    (Cert.LastRefIdeal.Value.run (F := Ideal) m ρ)

/-- The kernel and the reference end at the same rows. -/
theorem algebraic : Cert.algebraic_LastIdeal_LastRefIdeal := by
  intro m ρ m' ρ' _ hagree
  refine ⟨fun c => (Cert.LastIdeal.Gen.dats m 0 c).arrAt 12 Cert.LastIdeal.cfg0.N, Cert.LastIdeal.Value.run_blocks (F := Ideal) m ρ, ?_⟩
  refine (θ_run Cert.LastRefIdeal.defs _ _).mono (fun r h c => ⟨(h c).1.trans ?_, (h c).2⟩) (Cert.LastRefIdeal.Value.run (F := Ideal) m' ρ')
  show _ = (Cert.LastIdeal.Gen.dats m 0 c).arrAt 12 Cert.LastIdeal.cfg0.N
  rw [Cert.LastRefIdeal.Read.val_main_v53_eq, Cert.LastIdeal.Hand.final, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  funext i
  obtain ⟨r, n, rfl⟩ : ∃ (r : Fin 16384) (n : Fin 1024), i = ix2 r n := ⟨i 0, i 1, eq_ix2 i⟩
  exact Cert.LastRefIdeal.Hand.row _ _ _ _ _ _ _ _ _ _ _ _ r n

end Cert.Proof.LastClaims
-- ==== Proof.lean ====
/-
The claims about the attention call, the feed-forward call of the first layer and the last call, put together.
-/
module

public import proofs.«01_k».proof.Defs
public import proofs.«01_k».proof.Proof.Gen.Mla
public import proofs.«01_k».proof.Proof.Gen.Mla.Skeleton
public import proofs.«01_k».proof.Proof.Gen.Mla.Loops
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Loops
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.MlaRef
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastRefIdeal
public import proofs.«01_k».proof.Proof.Gen.MlaIdeal.Value
public import proofs.«01_k».proof.Proof.Gen.FfnIdeal.Value
public import proofs.«01_k».proof.Proof.Gen.LastIdeal.Value
public import proofs.«01_k».proof.Proof.Gen.MlaRefIdeal.Run
public import proofs.«01_k».proof.Proof.Gen.MlaRef.Run
public import proofs.«01_k».proof.Proof.Gen.MlaRefIdeal.Read
public import proofs.«01_k».proof.Proof.Gen.FfnRefIdeal.Run
public import proofs.«01_k».proof.Proof.Gen.FfnRefIdeal.Read
public import proofs.«01_k».proof.Proof.Gen.LastRefIdeal.Run
public import proofs.«01_k».proof.Proof.Gen.LastRefIdeal.Read
public import proofs.«01_k».proof.Proof.FfnClaims
public import proofs.«01_k».proof.Proof.MlaFrames
public import proofs.«01_k».proof.Proof.MlaClaims
public import proofs.«01_k».proof.Proof.LastClaims
public import Idealize.ShloMosaic.Adequacy
public import Idealize.ShloMosaic.Init

@[expose] public section

noncomputable section

namespace Cert.Proof

open Idealize.ShloMosaic Idealize.SL.Sem Cert.Mla

/-- The mask's word is a named constant, read as -∞ over the extended reals. -/
theorem mask : Cert.preserves_Mla_MlaIdeal := IdealRules.named_const.statement Cert.MlaIdeal.κ "mask" .f32 0xF149F2CA#32 ⊥ rfl

theorem claim : Cert.Claim :=
  ⟨Cert.Mla.Gen.facts, Cert.MlaIdeal.Gen.facts, Cert.MlaRefIdeal.Gen.facts, Cert.MlaRef.Gen.facts, Cert.Ffn.Gen.facts, Cert.FfnIdeal.Gen.facts,
    Cert.FfnRefIdeal.Gen.facts, Cert.Last.Gen.facts, Cert.LastIdeal.Gen.facts, Cert.LastRefIdeal.Gen.facts, MlaClaims.facts,
    fun m ρ _ => Cert.Mla.Gen.frame m ρ, fun m ρ _ => Cert.MlaIdeal.Gen.frame m ρ, fun m ρ _ => Cert.MlaIdeal.Gen.frame m ρ,
    MlaFrames.frameRef, fun m ρ _ => MlaFrames.frameRef m ρ trivial, MlaFrames.frameRefWord,
    FfnClaims.frame, FfnClaims.frameIdeal, FfnClaims.frameRef, LastClaims.frame, LastClaims.frameIdeal, LastClaims.frameRef,
    mask, trivial, MlaClaims.algebraic, trivial, FfnClaims.algebraic, trivial, LastClaims.algebraic⟩

end Cert.Proof

end
